-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v44_2)) (v1 : (c : Dev Cert.Kernel4Ideal.nD) → Buf (Elt Ideal) ((c.tc : Thread Cert.Kernel4Ideal.nD Cert.Kernel4Ideal.τ).loc Cert.Kernel4Ideal.main_v44_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_2) = v0 c
          ∧ r.2.mem ((c.tc : Thread Cert.Kernel4Ideal.nD Cert.Kernel4Ideal.τ).loc Cert.Kernel4Ideal.main_v44_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel4_Kernel4Ideal
    ∧ algebraic_Kernel4Ideal_Reference4Ideal (hKernel4Ideal := hKernel4Ideal) (hReference4Ideal := hReference4Ideal)
-- ==== Pre_finite_rows.lean ====
abbrev S12x8448x1024 : Shape := ⟨3, ![12, 8448, 1024]⟩
abbrev S12x8448x2048 : Shape := ⟨3, ![12, 8448, 2048]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S12x8208x1024 : Shape := ⟨3, ![12, 8208, 1024]⟩
abbrev S_ : Shape := ⟨0, ![]⟩

class Facts : Prop where
  slices_S12x8448x1024_S12x8208x1024_0_0_0 : S12x8448x1024.Slices ![0, 0, 0] S12x8208x1024
  bcast_S_S12x8208x1024 : S_.BroadcastsInDim S12x8208x1024 (![] : Fin 0 → Fin S12x8208x1024.rank)
  reducesTo_S12x8208x1024_S_d0_1_2 : S12x8208x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_v30 : IVec S_ 1) (main_v33 : IVec S1024x16 1) (main_c_11 : IVec S_ 1) : IVec S_ 1 :=
  let main_v34 : IVec S_ 1 := (fun x v => Host.reduce IntOp.andi x v reducesTo_S1024x16_S_d0_1 h_S_) main_v33 main_c_11
  let main_v35 : IVec S_ 1 := andi main_v30 main_v34
  main_v35

def fn_part1 {F : FTy → Type} [FloatOps F] (main_arg5 : FVec F S1024x1024 .f32) (main_arg6 : FVec F S1024 .f32) (main_arg7 : FVec F S1024x16 .f32) (main_v15 : IVec S_ 1) (main_v16 : FVec F S512x1024 .f32) (main_cst_4 : FVec F S_ .f32) : IVec S_ 1 :=
  let main_v17 : FVec F S512x1024 .f32 := broadcastInDim S512x1024 ![] bcast_S_S512x1024 main_cst_4
  let main_v18 : IVec S512x1024 1 := cmpf .olt main_v16 main_v17
  let main_c_5 : IVec S_ 1 := constantI S_ 1 1#1
  let main_v19 : IVec S_ 1 := (fun x v => Host.reduce IntOp.andi x v reducesTo_S512x1024_S_d0_1 h_S_) main_v18 main_c_5
  let main_v20 : IVec S_ 1 := andi main_v15 main_v19
  let main_v21 : FVec F S1024x1024 .f32 := Host.absf main_arg5
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v20 main_v24
  let main_v26 : FVec F S1024 .f32 := Host.absf main_arg6
  let main_cst_8 : FVec F S_ .f32 := constant S_ .f32 0x7F800000#32
  let main_v27 : FVec F S1024 .f32 := broadcastInDim S1024 ![] bcast_S_S1024 main_cst_8
  let main_v28 : IVec S1024 1 := cmpf .olt main_v26 main_v27
  let main_c_9 : IVec S_ 1 := constantI S_ 1 1#1
  let main_v29 : IVec S_ 1 := (fun x v => Host.reduce IntOp.andi x v reducesTo_S1024_S_d0 h_S_) main_v28 main_c_9
  let main_v30 : IVec S_ 1 := andi main_v25 main_v29
  let main_v31 : FVec F S1024x16 .f32 := Host.absf main_arg7
  let main_cst_10 : FVec F S_ .f32 := constant S_ .f32 0x7F800000#32
  let main_v32 : FVec F S1024x16 .f32 := broadcastInDim S1024x16 ![] bcast_S_S1024x16 main_cst_10
  let main_v33 : IVec S1024x16 1 := cmpf .olt main_v31 main_v32
  let main_c_11 : IVec S_ 1 := constantI S_ 1 1#1
  fn_part2 (F := F) main_v30 main_v33 main_c_11

def fn {F : FTy → Type} [FloatOps F] (main_arg0 : FVec F S12x8448x1024 .f32) (main_arg1 : FVec F S12x8448x2048 .f32) (main_arg2 : FVec F S12x8448x1024 .f32) (main_arg3 : FVec F S512x1024 .f32) (main_arg4 : FVec F S512x1024 .f32) (main_arg5 : FVec F S1024x1024 .f32) (main_arg6 : FVec F S1024 .f32) (main_arg7 : FVec F S1024x16 .f32) : IVec S_ 1 :=
  let main_v0 : FVec F S12x8208x1024 .f32 := (extractStridedSlice S12x8208x1024 ![0, 0, 0] · slices_S12x8448x1024_S12x8208x1024_0_0_0) main_arg0
  let main_v1 : FVec F S12x8208x1024 .f32 := Host.absf main_v0
  let main_cst : FVec F S_ .f32 := constant S_ .f32 0x7F800000#32
  let main_v2 : FVec F S12x8208x1024 .f32 := broadcastInDim S12x8208x1024 ![] bcast_S_S12x8208x1024 main_cst
  let main_v3 : IVec S12x8208x1024 1 := cmpf .olt main_v1 main_v2
  let main_c : IVec S_ 1 := constantI S_ 1 1#1
  let main_v4 : IVec S_ 1 := (fun x v => Host.reduce IntOp.andi x v reducesTo_S12x8208x1024_S_d0_1_2 h_S_) main_v3 main_c
  let main_v5 : FVec F S12x8208x1024 .f32 := (extractStridedSlice S12x8208x1024 ![0, 0, 0] · slices_S12x8448x1024_S12x8208x1024_0_0_0) main_arg2
  let main_v6 : FVec F S12x8208x1024 .f32 := Host.absf main_v5
  let main_cst_0 : FVec F S_ .f32 := constant S_ .f32 0x7F800000#32
  let main_v7 : FVec F S12x8208x1024 .f32 := broadcastInDim S12x8208x1024 ![] bcast_S_S12x8208x1024 main_cst_0
  let main_v8 : IVec S12x8208x1024 1 := cmpf .olt main_v6 main_v7
  let main_c_1 : IVec S_ 1 := constantI S_ 1 1#1
  let main_v9 : IVec S_ 1 := (fun x v => Host.reduce IntOp.andi x v reducesTo_S12x8208x1024_S_d0_1_2 h_S_) main_v8 main_c_1
  let main_v10 : IVec S_ 1 := andi main_v4 main_v9
  let main_v11 : FVec F S512x1024 .f32 := Host.absf main_arg3
  let main_cst_2 : FVec F S_ .f32 := constant S_ .f32 0x7F800000#32
  let main_v12 : FVec F S512x1024 .f32 := broadcastInDim S512x1024 ![] bcast_S_S512x1024 main_cst_2
  let main_v13 : IVec S512x1024 1 := cmpf .olt main_v11 main_v12
  let main_c_3 : IVec S_ 1 := constantI S_ 1 1#1
  let main_v14 : IVec S_ 1 := (fun x v => Host.reduce IntOp.andi x v reducesTo_S512x1024_S_d0_1 h_S_) main_v13 main_c_3
  let main_v15 : IVec S_ 1 := andi main_v10 main_v14
  let main_v16 : FVec F S512x1024 .f32 := Host.absf main_arg4
  let main_cst_4 : FVec F S_ .f32 := constant S_ .f32 0x7F800000#32
  fn_part1 (F := F) main_arg5 main_arg6 main_arg7 main_v15 main_v16 main_cst_4
-- ==== Pre_finite_scores.lean ====
abbrev S12x8448x8x64 : Shape := ⟨4, ![12, 8448, 8, 64]⟩
abbrev S12x8448x2x64 : Shape := ⟨4, ![12, 8448, 2, 64]⟩
abbrev S12x8448x8x96 : Shape := ⟨4, ![12, 8448, 8, 96]⟩
abbrev S12x8448x32 : Shape := ⟨3, ![12, 8448, 32]⟩
abbrev S_ : Shape := ⟨0, ![]⟩
abbrev S12x8208x2x64 : Shape := ⟨4, ![12, 8208, 2, 64]⟩
abbrev S12x8208x8x64 : Shape := ⟨4, ![12, 8208, 8, 64]⟩
abbrev S12x8208x32 : Shape := ⟨3, ![12, 8208, 32]⟩

class Facts : Prop where
  bcast_S_S12x8448x8x64 : S_.BroadcastsInDim S12x8448x8x64 (![] : Fin 0 → Fin S12x8448x8x64.rank)
  reducesTo_S12x8448x8x64_S_d0_1_2_3 : S12x8448x8x64.ReducesTo [0, 1, 2, 3] S_
  h_S_ : 0 < S_.numel
  slices_S12x8448x2x64_S12x8208x2x64_0_0_0_0 : S12x8448x2x64.Slices ![0, 0, 0, 0] S12x8208x2x64
  bcast_S_S12x8208x2x64 : S_.BroadcastsInDim S12x8208x2x64 (![] : Fin 0 → Fin S12x8208x2x64.rank)
  reducesTo_S12x8208x2x64_S_d0_1_2_3 : S12x8208x2x64.ReducesTo [0, 1, 2, 3] S_
  bcast_S_S12x8448x8x96 : S_.BroadcastsInDim S12x8448x8x96 (![] : Fin 0 → Fin S12x8448x8x96.rank)
  reducesTo_S12x8448x8x96_S_d0_1_2_3 : S12x8448x8x96.ReducesTo [0, 1, 2, 3] S_
  slices_S12x8448x8x64_S12x8208x8x64_0_0_0_0 : S12x8448x8x64.Slices ![0, 0, 0, 0] S12x8208x8x64
  bcast_S_S12x8208x8x64 : S_.BroadcastsInDim S12x8208x8x64 (![] : Fin 0 → Fin S12x8208x8x64.rank)
  reducesTo_S12x8208x8x64_S_d0_1_2_3 : S12x8208x8x64.ReducesTo [0, 1, 2, 3] S_
  slices_S12x8448x32_S12x8208x32_0_0_0 : S12x8448x32.Slices ![0, 0, 0] S12x8208x32
  bcast_S_S12x8208x32 : S_.BroadcastsInDim S12x8208x32 (![] : Fin 0 → Fin S12x8208x32.rank)
  reducesTo_S12x8208x32_S_d0_1_2 : S12x8208x32.ReducesTo [0, 1, 2] S_

variable [Facts]

def fn_part1 {F : FTy → Type} [FloatOps F] (main_arg5 : FVec F S12x8448x32 .f32) (main_v14 : IVec S_ 1) (main_v16 : FVec F S12x8208x8x64 .f32) (main_cst_4 : FVec F S_ .f32) : IVec S_ 1 :=
  let main_v17 : FVec F S12x8208x8x64 .f32 := broadcastInDim S12x8208x8x64 ![] bcast_S_S12x8208x8x64 main_cst_4
  let main_v18 : IVec S12x8208x8x64 1 := cmpf .olt main_v16 main_v17
  let main_c_5 : IVec S_ 1 := constantI S_ 1 1#1
  let main_v19 : IVec S_ 1 := (fun x v => Host.reduce IntOp.andi x v reducesTo_S12x8208x8x64_S_d0_1_2_3 h_S_) main_v18 main_c_5
  let main_v20 : IVec S_ 1 := andi main_v14 main_v19
  let main_v21 : FVec F S12x8208x32 .f32 := (extractStridedSlice S12x8208x32 ![0, 0, 0] · slices_S12x8448x32_S12x8208x32_0_0_0) main_arg5
  let main_v22 : FVec F S12x8208x32 .f32 := Host.absf main_v21
  let main_cst_6 : FVec F S_ .f32 := constant S_ .f32 0x7F800000#32
  let main_v23 : FVec F S12x8208x32 .f32 := broadcastInDim S12x8208x32 ![] bcast_S_S12x8208x32 main_cst_6
  let main_v24 : IVec S12x8208x32 1 := cmpf .olt main_v22 main_v23
  let main_c_7 : IVec S_ 1 := constantI S_ 1 1#1
  let main_v25 : IVec S_ 1 := (fun x v => Host.reduce IntOp.andi x v reducesTo_S12x8208x32_S_d0_1_2 h_S_) main_v24 main_c_7
  let main_v26 : IVec S_ 1 := andi main_v20 main_v25
  main_v26

def fn {F : FTy → Type} [FloatOps F] (main_arg0 : FVec F S12x8448x8x64 .f32) (main_arg1 : FVec F S12x8448x2x64 .f32) (main_arg2 : FVec F S12x8448x2x64 .f32) (main_arg3 : FVec F S12x8448x8x96 .f32) (main_arg4 : FVec F S12x8448x8x64 .f32) (main_arg5 : FVec F S12x8448x32 .f32) (main_arg6 : FVec F S12x8448x8x64 .f32) : IVec S_ 1 :=
  let main_v0 : FVec F S12x8448x8x64 .f32 := Host.absf main_arg0
  let main_cst : FVec F S_ .f32 := constant S_ .f32 0x7F800000#32
  let main_v1 : FVec F S12x8448x8x64 .f32 := broadcastInDim S12x8448x8x64 ![] bcast_S_S12x8448x8x64 main_cst
  let main_v2 : IVec S12x8448x8x64 1 := cmpf .olt main_v0 main_v1
  let main_c : IVec S_ 1 := constantI S_ 1 1#1
  let main_v3 : IVec S_ 1 := (fun x v => Host.reduce IntOp.andi x v reducesTo_S12x8448x8x64_S_d0_1_2_3 h_S_) main_v2 main_c
  let main_v4 : FVec F S12x8208x2x64 .f32 := (extractStridedSlice S12x8208x2x64 ![0, 0, 0, 0] · slices_S12x8448x2x64_S12x8208x2x64_0_0_0_0) main_arg1
  let main_v5 : FVec F S12x8208x2x64 .f32 := Host.absf main_v4
  let main_cst_0 : FVec F S_ .f32 := constant S_ .f32 0x7F800000#32
  let main_v6 : FVec F S12x8208x2x64 .f32 := broadcastInDim S12x8208x2x64 ![] bcast_S_S12x8208x2x64 main_cst_0
  let main_v7 : IVec S12x8208x2x64 1 := cmpf .olt main_v5 main_v6
  let main_c_1 : IVec S_ 1 := constantI S_ 1 1#1
  let main_v8 : IVec S_ 1 := (fun x v => Host.reduce IntOp.andi x v reducesTo_S12x8208x2x64_S_d0_1_2_3 h_S_) main_v7 main_c_1
  let main_v9 : IVec S_ 1 := andi main_v3 main_v8
  let main_v10 : FVec F S12x8448x8x96 .f32 := Host.absf main_arg3
  let main_cst_2 : FVec F S_ .f32 := constant S_ .f32 0x7F800000#32
  let main_v11 : FVec F S12x8448x8x96 .f32 := broadcastInDim S12x8448x8x96 ![] bcast_S_S12x8448x8x96 main_cst_2
  let main_v12 : IVec S12x8448x8x96 1 := cmpf .olt main_v10 main_v11
  let main_c_3 : IVec S_ 1 := constantI S_ 1 1#1
  let main_v13 : IVec S_ 1 := (fun x v => Host.reduce IntOp.andi x v reducesTo_S12x8448x8x96_S_d0_1_2_3 h_S_) main_v12 main_c_3
  let main_v14 : IVec S_ 1 := andi main_v9 main_v13
  let main_v15 : FVec F S12x8208x8x64 .f32 := (extractStridedSlice S12x8208x8x64 ![0, 0, 0, 0] · slices_S12x8448x8x64_S12x8208x8x64_0_0_0_0) main_arg4
  let main_v16 : FVec F S12x8208x8x64 .f32 := Host.absf main_v15
  let main_cst_4 : FVec F S_ .f32 := constant S_ .f32 0x7F800000#32
  fn_part1 (F := F) main_arg5 main_v14 main_v16 main_cst_4
-- ==== Kernel.lean ====
abbrev S12x8448x8x64 : Shape := ⟨4, ![12, 8448, 8, 64]⟩
abbrev S12x8448x2x64 : Shape := ⟨4, ![12, 8448, 2, 64]⟩
abbrev S12x8448x8x96 : Shape := ⟨4, ![12, 8448, 8, 96]⟩
abbrev S12x8448x32 : Shape := ⟨3, ![12, 8448, 32]⟩
abbrev S_ : Shape := ⟨0, ![]⟩
abbrev S8 : Shape := ⟨1, ![8]⟩
abbrev S1x1x8x1 : Shape := ⟨4, ![1, 1, 8, 1]⟩
abbrev S12x8448x8x128 : Shape := ⟨4, ![12, 8448, 8, 128]⟩
abbrev S12x8448x16x128 : Shape := ⟨4, ![12, 8448, 16, 128]⟩
abbrev S12x16x8448x128 : Shape := ⟨4, ![12, 16, 8448, 128]⟩
abbrev S12x8448x1x32 : Shape := ⟨4, ![12, 8448, 1, 32]⟩
abbrev S12x8448x8x32 : Shape := ⟨4, ![12, 8448, 8, 32]⟩
abbrev S12x8448x1x128 : Shape := ⟨4, ![12, 8448, 1, 128]⟩
abbrev S12x8448x9x128 : Shape := ⟨4, ![12, 8448, 9, 128]⟩
abbrev S12x11x768x9x128 : Shape := ⟨5, ![12, 11, 768, 9, 128]⟩
abbrev S12x9x11x128x768 : Shape := ⟨5, ![12, 9, 11, 128, 768]⟩
abbrev S12x8448x2x128 : Shape := ⟨4, ![12, 8448, 2, 128]⟩
abbrev S12x8448x2x1x128 : Shape := ⟨5, ![12, 8448, 2, 1, 128]⟩
abbrev S12x8448x2x2x128 : Shape := ⟨5, ![12, 8448, 2, 2, 128]⟩
abbrev S12x8448x4x128 : Shape := ⟨4, ![12, 8448, 4, 128]⟩
abbrev S12x8448x4x2x64 : Shape := ⟨5, ![12, 8448, 4, 2, 64]⟩
abbrev S12x8448x4x1x64 : Shape := ⟨5, ![12, 8448, 4, 1, 64]⟩
abbrev S12x8448x4x64 : Shape := ⟨4, ![12, 8448, 4, 64]⟩
abbrev S12x8448x4x1x128 : Shape := ⟨5, ![12, 8448, 4, 1, 128]⟩
abbrev S12x8448x4x2x128 : Shape := ⟨5, ![12, 8448, 4, 2, 128]⟩
abbrev S12x8448x12x128 : Shape := ⟨4, ![12, 8448, 12, 128]⟩
abbrev S12x12x8448x128 : Shape := ⟨4, ![12, 12, 8448, 128]⟩
abbrev S12x8448x1024 : Shape := ⟨3, ![12, 8448, 1024]⟩
abbrev S1x2x8448x128 : Shape := ⟨4, ![1, 2, 8448, 128]⟩
abbrev S1x1x11x128x768 : Shape := ⟨5, ![1, 1, 11, 128, 768]⟩
abbrev S1x1x8448x128 : Shape := ⟨4, ![1, 1, 8448, 128]⟩
abbrev S1x8448x128 : Shape := ⟨3, ![1, 8448, 128]⟩
abbrev S2x768x768 : Shape := ⟨3, ![2, 768, 768]⟩
abbrev S1x1x768x128 : Shape := ⟨4, ![1, 1, 768, 128]⟩
abbrev S768x128 : Shape := ⟨2, ![768, 128]⟩
abbrev S1x1x1x128x768 : Shape := ⟨5, ![1, 1, 1, 128, 768]⟩
abbrev S128x768 : Shape := ⟨2, ![128, 768]⟩
abbrev S768x768 : Shape := ⟨2, ![768, 768]⟩
abbrev S1x768x768 : Shape := ⟨3, ![1, 768, 768]⟩
abbrev S768x1 : Shape := ⟨2, ![768, 1]⟩
abbrev S768 : Shape := ⟨1, ![768]⟩
abbrev S1x768x128 : Shape := ⟨3, ![1, 768, 128]⟩

abbrev nBuf : Space → Nat
  | .hbm => 82
  | .vmem => 15
  | .smem => 0
  | _ => 0

abbrev bufTy : (tb : Table) → Fin (tcTables nBuf tb) → BufTy
  | .hbm, ⟨0, _⟩ => ⟨S12x8448x8x64, .f32⟩
  | .hbm, ⟨1, _⟩ => ⟨S12x8448x2x64, .f32⟩
  | .hbm, ⟨2, _⟩ => ⟨S12x8448x2x64, .f32⟩
  | .hbm, ⟨3, _⟩ => ⟨S12x8448x8x96, .f32⟩
  | .hbm, ⟨4, _⟩ => ⟨S12x8448x8x64, .f32⟩
  | .hbm, ⟨5, _⟩ => ⟨S12x8448x32, .f32⟩
  | .hbm, ⟨6, _⟩ => ⟨S12x8448x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S12x8448x8x64, .f32⟩
  | .hbm, ⟨20, _⟩ => ⟨S12x8448x8x64, .f32⟩
  | .hbm, ⟨21, _⟩ => ⟨S12x8448x8x64, .bf16⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S1x1x8x1, .i1⟩
  | .hbm, ⟨27, _⟩ => ⟨S_, .bf16⟩
  | .hbm, ⟨28, _⟩ => ⟨S12x8448x8x64, .bf16⟩
  | .hbm, ⟨29, _⟩ => ⟨S12x8448x8x64, .i1⟩
  | .hbm, ⟨30, _⟩ => ⟨S12x8448x8x64, .bf16⟩
  | .hbm, ⟨31, _⟩ => ⟨S12x8448x8x64, .i1⟩
  | .hbm, ⟨32, _⟩ => ⟨S12x8448x8x64, .bf16⟩
  | .hbm, ⟨33, _⟩ => ⟨S12x8448x8x128, .bf16⟩
  | .hbm, ⟨34, _⟩ => ⟨S12x8448x8x96, .f32⟩
  | .hbm, ⟨35, _⟩ => ⟨S12x8448x8x96, .f32⟩
  | .hbm, ⟨36, _⟩ => ⟨S12x8448x8x96, .bf16⟩
  | .hbm, ⟨37, _⟩ => ⟨S_, .i32⟩
  | .hbm, ⟨38, _⟩ => ⟨S_, .bf16⟩
  | .hbm, ⟨39, _⟩ => ⟨S12x8448x8x128, .bf16⟩
  | .hbm, ⟨40, _⟩ => ⟨S12x8448x16x128, .bf16⟩
  | .hbm, ⟨41, _⟩ => ⟨S12x16x8448x128, .bf16⟩
  | .hbm, ⟨42, _⟩ => ⟨S12x8448x1x32, .f32⟩
  | .hbm, ⟨43, _⟩ => ⟨S12x8448x8x32, .f32⟩
  | .hbm, ⟨44, _⟩ => ⟨S12x8448x8x96, .f32⟩
  | .hbm, ⟨45, _⟩ => ⟨S_, .i32⟩
  | .hbm, ⟨46, _⟩ => ⟨S_, .f32⟩
  | .hbm, ⟨47, _⟩ => ⟨S12x8448x8x128, .f32⟩
  | .hbm, ⟨48, _⟩ => ⟨S12x8448x1x128, .f32⟩
  | .hbm, ⟨49, _⟩ => ⟨S12x8448x9x128, .f32⟩
  | .hbm, ⟨50, _⟩ => ⟨S12x8448x9x128, .bf16⟩
  | .hbm, ⟨51, _⟩ => ⟨S12x11x768x9x128, .bf16⟩
  | .hbm, ⟨52, _⟩ => ⟨S12x9x11x128x768, .bf16⟩
  | .hbm, ⟨53, _⟩ => ⟨S_, .f32⟩
  | .hbm, ⟨54, _⟩ => ⟨S12x8448x2x64, .f32⟩
  | .hbm, ⟨55, _⟩ => ⟨S12x8448x2x128, .f32⟩
  | .hbm, ⟨56, _⟩ => ⟨S_, .f32⟩
  | .hbm, ⟨57, _⟩ => ⟨S12x8448x2x64, .f32⟩
  | .hbm, ⟨58, _⟩ => ⟨S12x8448x2x128, .f32⟩
  | .hbm, ⟨59, _⟩ => ⟨S12x8448x2x1x128, .f32⟩
  | .hbm, ⟨60, _⟩ => ⟨S12x8448x2x1x128, .f32⟩
  | .hbm, ⟨61, _⟩ => ⟨S12x8448x2x2x128, .f32⟩
  | .hbm, ⟨62, _⟩ => ⟨S12x8448x4x128, .f32⟩
  | .hbm, ⟨63, _⟩ => ⟨S12x8448x4x2x64, .f32⟩
  | .hbm, ⟨64, _⟩ => ⟨S12x8448x4x1x64, .f32⟩
  | .hbm, ⟨65, _⟩ => ⟨S12x8448x4x64, .f32⟩
  | .hbm, ⟨66, _⟩ => ⟨S_, .f32⟩
  | .hbm, ⟨67, _⟩ => ⟨S12x8448x4x64, .f32⟩
  | .hbm, ⟨68, _⟩ => ⟨S12x8448x4x128, .f32⟩
  | .hbm, ⟨69, _⟩ => ⟨S12x8448x4x1x64, .f32⟩
  | .hbm, ⟨70, _⟩ => ⟨S12x8448x4x64, .f32⟩
  | .hbm, ⟨71, _⟩ => ⟨S_, .f32⟩
  | .hbm, ⟨72, _⟩ => ⟨S12x8448x4x64, .f32⟩
  | .hbm, ⟨73, _⟩ => ⟨S12x8448x4x128, .f32⟩
  | .hbm, ⟨74, _⟩ => ⟨S12x8448x4x1x128, .f32⟩
  | .hbm, ⟨75, _⟩ => ⟨S12x8448x4x1x128, .f32⟩
  | .hbm, ⟨76, _⟩ => ⟨S12x8448x4x2x128, .f32⟩
  | .hbm, ⟨77, _⟩ => ⟨S12x8448x8x128, .f32⟩
  | .hbm, ⟨78, _⟩ => ⟨S12x8448x12x128, .f32⟩
  | .hbm, ⟨79, _⟩ => ⟨S12x8448x12x128, .bf16⟩
  | .hbm, ⟨80, _⟩ => ⟨S12x12x8448x128, .bf16⟩
  | .hbm, ⟨81, _⟩ => ⟨S12x8448x1024, .bf16⟩
  | .local _ .vmem, ⟨0, _⟩ => ⟨S1x2x8448x128, .bf16⟩
  | .local _ .vmem, ⟨1, _⟩ => ⟨S1x2x8448x128, .bf16⟩
  | .local _ .vmem, ⟨2, _⟩ => ⟨S1x1x11x128x768, .bf16⟩
  | .local _ .vmem, ⟨3, _⟩ => ⟨S1x1x11x128x768, .bf16⟩
  | .local _ .vmem, ⟨4, _⟩ => ⟨S1x1x11x128x768, .bf16⟩
  | .local _ .vmem, ⟨5, _⟩ => ⟨S1x1x11x128x768, .bf16⟩
  | .local _ .vmem, ⟨6, _⟩ => ⟨S1x1x8448x128, .bf16⟩
  | .local _ .vmem, ⟨7, _⟩ => ⟨S1x1x8448x128, .bf16⟩
  | .local _ .vmem, ⟨8, _⟩ => ⟨S1x1x8448x128, .bf16⟩
  | .local _ .vmem, ⟨9, _⟩ => ⟨S1x1x8448x128, .bf16⟩
  | .local _ .vmem, ⟨10, _⟩ => ⟨S1x8448x128, .bf16⟩
  | .local _ .vmem, ⟨11, _⟩ => ⟨S1x8448x128, .bf16⟩
  | .local _ .vmem, ⟨12, _⟩ => ⟨S2x768x768, .f32⟩
  | .local _ .vmem, ⟨13, _⟩ => ⟨S2x768x768, .f32⟩
  | .local _ .vmem, ⟨14, _⟩ => ⟨S2x768x768, .f32⟩
  | _, _ => ⟨S12x8448x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_call0_v0 : Ref sig .tc := ⟨.hbm, 29, rfl⟩
abbrev main_v15 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_call2_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_call3_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def k0_mult1 : BitVec 32 :=
  let c0_i32 : BitVec 32 := 0#32
  c0_i32
@[reducible] def k0_t1_loop : Scf.Loop 32 :=
  let c0_i32_21 : BitVec 32 := 0#32
  let c11_i32 : BitVec 32 := 11#32
  let v19 : BitVec 32 := Scalar.addi c0_i32_21 c11_i32
  let c1_i32 : BitVec 32 := 1#32
  ⟨c0_i32_21, v19, c1_i32⟩
def k0_mult2 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32 : BitVec 32 := 768#32
  let v22 : BitVec 32 := Scalar.muli arg11 c768_i32
  v22
def k0_off1 (k0_t1 : Fin k0_t1_loop.trips) : Fin 4 → Nat :=
  let c0_25 : Index := 0#32
  let c0_26 : Index := 0#32
  let c0_i32_21 : BitVec 32 := 0#32
  let c1_i32 : BitVec 32 := 1#32
  let arg11 : BitVec 32 := Scf.iv c0_i32_21 c1_i32 k0_t1
  let c768_i32 : BitVec 32 := 768#32
  let v22 : BitVec 32 := Scalar.muli arg11 c768_i32
  let v23 : BitVec 32 := v22
  let v24 : Index := Scalar.indexCast v23
  let c0_27 : Index := 0#32
  ![0, 0, v24.toNat, 0]
def k0_off2 (k0_t1 : Fin k0_t1_loop.trips) : Fin 4 → Nat :=
  let c0_37 : Index := 0#32
  let c1_38 : Index := 1#32
  let c0_i32_21 : BitVec 32 := 0#32
  let c1_i32 : BitVec 32 := 1#32
  let arg11 : BitVec 32 := Scf.iv c0_i32_21 c1_i32 k0_t1
  let c768_i32 : BitVec 32 := 768#32
  let v22 : BitVec 32 := Scalar.muli arg11 c768_i32
  let v23 : BitVec 32 := v22
  let v33 : Index := Scalar.indexCast v23
  let c0_39 : Index := 0#32
  ![0, 1, v33.toNat, 0]
def k0_mult3 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_67 : BitVec 32 := 768#32
  let v76 : BitVec 32 := Scalar.muli arg11 c768_i32_67
  v76
def k0_mult4 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_108 : BitVec 32 := 768#32
  let v130 : BitVec 32 := Scalar.muli arg11 c768_i32_108
  v130
def k0_mult5 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_149 : BitVec 32 := 768#32
  let v184 : BitVec 32 := Scalar.muli arg11 c768_i32_149
  v184
def k0_mult6 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_190 : BitVec 32 := 768#32
  let v238 : BitVec 32 := Scalar.muli arg11 c768_i32_190
  v238
def k0_mult7 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_231 : BitVec 32 := 768#32
  let v292 : BitVec 32 := Scalar.muli arg11 c768_i32_231
  v292
def k0_mult8 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_272 : BitVec 32 := 768#32
  let v346 : BitVec 32 := Scalar.muli arg11 c768_i32_272
  v346
def k0_mult9 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_313 : BitVec 32 := 768#32
  let v400 : BitVec 32 := Scalar.muli arg11 c768_i32_313
  v400
def k0_mult10 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_354 : BitVec 32 := 768#32
  let v454 : BitVec 32 := Scalar.muli arg11 c768_i32_354
  v454
def k0_mult11 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_395 : BitVec 32 := 768#32
  let v508 : BitVec 32 := Scalar.muli arg11 c768_i32_395
  v508
def k0_mult12 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c1_i32_436 : BitVec 32 := 1#32
  let v562 : BitVec 32 := Scalar.addi arg11 c1_i32_436
  let c10_i32 : BitVec 32 := 10#32
  let v563 : BitVec 32 := Scalar.minsi v562 c10_i32
  let c768_i32_437 : BitVec 32 := 768#32
  let v564 : BitVec 32 := Scalar.muli v563 c768_i32_437
  v564
def k0_off3 (k0_t1 : Fin k0_t1_loop.trips) : Fin 4 → Nat :=
  let c0_438 : Index := 0#32
  let c0_439 : Index := 0#32
  let c0_i32_21 : BitVec 32 := 0#32
  let c1_i32 : BitVec 32 := 1#32
  let arg11 : BitVec 32 := Scf.iv c0_i32_21 c1_i32 k0_t1
  let c1_i32_436 : BitVec 32 := 1#32
  let v562 : BitVec 32 := Scalar.addi arg11 c1_i32_436
  let c10_i32 : BitVec 32 := 10#32
  let v563 : BitVec 32 := Scalar.minsi v562 c10_i32
  let c768_i32_437 : BitVec 32 := 768#32
  let v564 : BitVec 32 := Scalar.muli v563 c768_i32_437
  let v565 : BitVec 32 := v564
  let v566 : Index := Scalar.indexCast v565
  let c0_440 : Index := 0#32
  ![0, 0, v566.toNat, 0]
def k0_off4 (k0_t1 : Fin k0_t1_loop.trips) : Fin 4 → Nat :=
  let c0_450 : Index := 0#32
  let c1_451 : Index := 1#32
  let c0_i32_21 : BitVec 32 := 0#32
  let c1_i32 : BitVec 32 := 1#32
  let arg11 : BitVec 32 := Scf.iv c0_i32_21 c1_i32 k0_t1
  let c1_i32_436 : BitVec 32 := 1#32
  let v562 : BitVec 32 := Scalar.addi arg11 c1_i32_436
  let c10_i32 : BitVec 32 := 10#32
  let v563 : BitVec 32 := Scalar.minsi v562 c10_i32
  let c768_i32_437 : BitVec 32 := 768#32
  let v564 : BitVec 32 := Scalar.muli v563 c768_i32_437
  let v565 : BitVec 32 := v564
  let v575 : Index := Scalar.indexCast v565
  let c0_452 : Index := 0#32
  ![0, 1, v575.toNat, 0]
def k0_mult13 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c768_i32_484 : BitVec 32 := 768#32
  let v637 : BitVec 32 := Scalar.muli arg11 c768_i32_484
  v637
def k0_off5 (k0_t1 : Fin k0_t1_loop.trips) : Fin 3 → Nat :=
  let c0_485 : Index := 0#32
  let c0_i32_21 : BitVec 32 := 0#32
  let c1_i32 : BitVec 32 := 1#32
  let arg11 : BitVec 32 := Scf.iv c0_i32_21 c1_i32 k0_t1
  let c768_i32_484 : BitVec 32 := 768#32
  let v637 : BitVec 32 := Scalar.muli arg11 c768_i32_484
  let v638 : BitVec 32 := v637
  let v639 : Index := Scalar.indexCast v638
  let c0_486 : Index := 0#32
  ![0, v639.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c8_i32 : BitVec 32 := 8#32
  let v2 : BitVec 1 := Scalar.cmpi .slt v1 c8_i32
  let c7_i32 : BitVec 32 := 7#32
  let v3 : BitVec 32 := Scalar.subi v1 c7_i32
  let c0_i32_0 : BitVec 32 := 0#32
  let v4 : BitVec 32 := Scalar.select v2 c0_i32_0 v3
  let c0_i32_1 : BitVec 32 := 0#32
  let c0_i32_2 : BitVec 32 := 0#32
  let c0_i32_3 : BitVec 32 := 0#32
  let c0_i32_4 : BitVec 32 := 0#32
  ![arg0.toNat, v4.toNat, c0_i32_1.toNat, c0_i32_2.toNat, c0_i32_3.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c8_i32 : BitVec 32 := 8#32
  let v2 : BitVec 1 := Scalar.cmpi .slt v1 c8_i32
  let c7_i32 : BitVec 32 := 7#32
  let v3 : BitVec 32 := Scalar.subi v1 c7_i32
  let c0_i32 : BitVec 32 := 0#32
  let v4 : BitVec 32 := Scalar.select v2 c0_i32 v3
  let c0_i32_0 : BitVec 32 := 0#32
  let c0_i32_1 : BitVec 32 := 0#32
  let c0_i32_2 : BitVec 32 := 0#32
  let c0_i32_3 : BitVec 32 := 0#32
  ![arg0.toNat, v4.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c8_i32 : BitVec 32 := 8#32
  let v31 : BitVec 1 := Scalar.cmpi .slt v1 c8_i32
  let c8_i32_12 : BitVec 32 := 8#32
  let v32 : BitVec 32 := Scalar.subi v1 c8_i32_12
  let c4_i32_13 : BitVec 32 := 4#32
  let v33 : BitVec 32 := Scalar.addi v32 c4_i32_13
  let v34 : BitVec 32 := Scalar.select v31 v30 v33
  let c0_i32_14 : BitVec 32 := 0#32
  let c0_i32_15 : BitVec 32 := 0#32
  let c0_i32_16 : BitVec 32 := 0#32
  ![arg0.toNat, v34.toNat, c0_i32_14.toNat, c0_i32_15.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c8_i32 : BitVec 32 := 8#32
  let v31 : BitVec 1 := Scalar.cmpi .slt v1 c8_i32
  let c8_i32_12 : BitVec 32 := 8#32
  let v32 : BitVec 32 := Scalar.subi v1 c8_i32_12
  let c4_i32_13 : BitVec 32 := 4#32
  let v33 : BitVec 32 := Scalar.addi v32 c4_i32_13
  let v34 : BitVec 32 := Scalar.select v31 v30 v33
  let c0_i32_14 : BitVec 32 := 0#32
  let c0_i32_15 : BitVec 32 := 0#32
  let c0_i32_16 : BitVec 32 := 0#32
  ![arg0.toNat, v34.toNat, c0_i32_14.toNat, c0_i32_15.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x8448x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x11x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x11x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8448x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12x8448x8x64 : Shape := ⟨4, ![12, 8448, 8, 64]⟩
abbrev S12x8448x2x64 : Shape := ⟨4, ![12, 8448, 2, 64]⟩
abbrev S12x8448x8x96 : Shape := ⟨4, ![12, 8448, 8, 96]⟩
abbrev S12x8448x32 : Shape := ⟨3, ![12, 8448, 32]⟩
abbrev S12x8208x2x64 : Shape := ⟨4, ![12, 8208, 2, 64]⟩
abbrev S12x8208x8x64 : Shape := ⟨4, ![12, 8208, 8, 64]⟩
abbrev S12x8208x32 : Shape := ⟨3, ![12, 8208, 32]⟩
abbrev S12x8448x2x4x64 : Shape := ⟨5, ![12, 8448, 2, 4, 64]⟩
abbrev S12x2x8208x8448x4 : Shape := ⟨5, ![12, 2, 8208, 8448, 4]⟩
abbrev S12x2x4x8448x8208 : Shape := ⟨5, ![12, 2, 4, 8448, 8208]⟩
abbrev S_ : Shape := ⟨0, ![]⟩
abbrev S12x2x4x8448 : Shape := ⟨4, ![12, 2, 4, 8448]⟩
abbrev S12x2x4x8448x1 : Shape := ⟨5, ![12, 2, 4, 8448, 1]⟩
abbrev S12x2x64x4x8448 : Shape := ⟨5, ![12, 2, 64, 4, 8448]⟩
abbrev S12x8448x512 : Shape := ⟨3, ![12, 8448, 512]⟩
abbrev S12x8448x8x32 : Shape := ⟨4, ![12, 8448, 8, 32]⟩
abbrev S12x8x8448x8208 : Shape := ⟨4, ![12, 8, 8448, 8208]⟩
abbrev S12x8208x8448x8 : Shape := ⟨4, ![12, 8208, 8448, 8]⟩
abbrev S12x8x8448 : Shape := ⟨3, ![12, 8, 8448]⟩
abbrev S12x8x8448x1 : Shape := ⟨4, ![12, 8, 8448, 1]⟩
abbrev S12x8x64x8448 : Shape := ⟨4, ![12, 8, 64, 8448]⟩
abbrev S12x8448x1024 : Shape := ⟨3, ![12, 8448, 1024]⟩

abbrev nBuf : Space → Nat
  | .hbm => 66
  | .vmem => 0
  | .smem => 0
  | _ => 0

abbrev bufTy : (tb : Table) → Fin (tcTables nBuf tb) → BufTy
  | .hbm, ⟨0, _⟩ => ⟨S12x8448x8x64, .f32⟩
  | .hbm, ⟨1, _⟩ => ⟨S12x8448x2x64, .f32⟩
  | .hbm, ⟨2, _⟩ => ⟨S12x8448x2x64, .f32⟩
  | .hbm, ⟨3, _⟩ => ⟨S12x8448x8x96, .f32⟩
  | .hbm, ⟨4, _⟩ => ⟨S12x8448x8x64, .f32⟩
  | .hbm, ⟨5, _⟩ => ⟨S12x8448x32, .f32⟩
  | .hbm, ⟨6, _⟩ => ⟨S12x8448x8x64, .f32⟩
  | .hbm, ⟨7, _⟩ => ⟨S12x8208x2x64, .f32⟩
  | .hbm, ⟨8, _⟩ => ⟨S12x8208x2x64, .f32⟩
  | .hbm, ⟨9, _⟩ => ⟨S12x8208x8x64, .f32⟩
  | .hbm, ⟨10, _⟩ => ⟨S12x8208x32, .f32⟩
  | .hbm, ⟨11, _⟩ => ⟨S12x8208x8x64, .f32⟩
  | .hbm, ⟨12, _⟩ => ⟨S12x8448x2x4x64, .f32⟩
  | .hbm, ⟨13, _⟩ => ⟨S12x2x8208x8448x4, .f32⟩
  | .hbm, ⟨14, _⟩ => ⟨S12x2x4x8448x8208, .f32⟩
  | .hbm, ⟨15, _⟩ => ⟨S_, .f32⟩
  | .hbm, ⟨16, _⟩ => ⟨S12x2x4x8448x8208, .f32⟩
  | .hbm, ⟨17, _⟩ => ⟨S12x2x4x8448x8208, .f32⟩
  | .hbm, ⟨18, _⟩ => ⟨S_, .f32⟩
  | .hbm, ⟨19, _⟩ => ⟨S12x2x4x8448, .f32⟩
  | .hbm, ⟨20, _⟩ => ⟨S_, .f32⟩
  | .hbm, ⟨21, _⟩ => ⟨S12x2x4x8448, .f32⟩
  | .hbm, ⟨22, _⟩ => ⟨S12x2x4x8448, .f32⟩
  | .hbm, ⟨23, _⟩ => ⟨S12x2x4x8448x1, .f32⟩
  | .hbm, ⟨24, _⟩ => ⟨S12x2x4x8448x8208, .f32⟩
  | .hbm, ⟨25, _⟩ => ⟨S12x2x4x8448x8208, .f32⟩
  | .hbm, ⟨26, _⟩ => ⟨S12x2x4x8448x8208, .f32⟩
  | .hbm, ⟨27, _⟩ => ⟨S_, .f32⟩
  | .hbm, ⟨28, _⟩ => ⟨S12x2x4x8448, .f32⟩
  | .hbm, ⟨29, _⟩ => ⟨S12x2x4x8448x1, .f32⟩
  | .hbm, ⟨30, _⟩ => ⟨S12x2x4x8448x8208, .f32⟩
  | .hbm, ⟨31, _⟩ => ⟨S12x2x4x8448x8208, .f32⟩
  | .hbm, ⟨32, _⟩ => ⟨S12x2x64x4x8448, .f32⟩
  | .hbm, ⟨33, _⟩ => ⟨S12x8448x2x4x64, .f32⟩
  | .hbm, ⟨34, _⟩ => ⟨S12x8448x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S12x8448x8x64, .f32⟩
  | .hbm, ⟨40, _⟩ => ⟨S12x8448x8x32, .f32⟩
  | .hbm, ⟨41, _⟩ => ⟨S12x8x8448x8208, .f32⟩
  | .hbm, ⟨42, _⟩ => ⟨S12x8208x8448x8, .f32⟩
  | .hbm, ⟨43, _⟩ => ⟨S12x8x8448x8208, .f32⟩
  | .hbm, ⟨44, _⟩ => ⟨S12x8x8448x8208, .f32⟩
  | .hbm, ⟨45, _⟩ => ⟨S12x8x8448x8208, .f32⟩
  | .hbm, ⟨46, _⟩ => ⟨S12x8x8448x8208, .f32⟩
  | .hbm, ⟨47, _⟩ => ⟨S_, .f32⟩
  | .hbm, ⟨48, _⟩ => ⟨S12x8x8448, .f32⟩
  | .hbm, ⟨49, _⟩ => ⟨S_, .f32⟩
  | .hbm, ⟨50, _⟩ => ⟨S12x8x8448, .f32⟩
  | .hbm, ⟨51, _⟩ => ⟨S12x8x8448, .f32⟩
  | .hbm, ⟨52, _⟩ => ⟨S12x8x8448x1, .f32⟩
  | .hbm, ⟨53, _⟩ => ⟨S12x8x8448x8208, .f32⟩
  | .hbm, ⟨54, _⟩ => ⟨S12x8x8448x8208, .f32⟩
  | .hbm, ⟨55, _⟩ => ⟨S12x8x8448x8208, .f32⟩
  | .hbm, ⟨56, _⟩ => ⟨S_, .f32⟩
  | .hbm, ⟨57, _⟩ => ⟨S12x8x8448, .f32⟩
  | .hbm, ⟨58, _⟩ => ⟨S12x8x8448x1, .f32⟩
  | .hbm, ⟨59, _⟩ => ⟨S12x8x8448x8208, .f32⟩
  | .hbm, ⟨60, _⟩ => ⟨S12x8x8448x8208, .f32⟩
  | .hbm, ⟨61, _⟩ => ⟨S12x8x64x8448, .f32⟩
  | .hbm, ⟨62, _⟩ => ⟨S12x8448x8x64, .f32⟩
  | .hbm, ⟨63, _⟩ => ⟨S12x8448x512, .f32⟩
  | .hbm, ⟨64, _⟩ => ⟨S12x8448x1024, .f32⟩
  | .hbm, ⟨65, _⟩ => ⟨S12x8448x1024, .bf16⟩
  | _, _ => ⟨S12x8448x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel2.lean ====
abbrev S16x8320x1024 : Shape := ⟨3, ![16, 8320, 1024]⟩
abbrev S16x1024x512 : Shape := ⟨3, ![16, 1024, 512]⟩
abbrev S16x512x1024 : Shape := ⟨3, ![16, 512, 1024]⟩
abbrev S1x1664x1024 : Shape := ⟨3, ![1, 1664, 1024]⟩
abbrev S1x1024x512 : Shape := ⟨3, ![1, 1024, 512]⟩
abbrev S1x512x1024 : Shape := ⟨3, ![1, 512, 1024]⟩
abbrev S1664x1024 : Shape := ⟨2, ![1664, 1024]⟩
abbrev S1024x512 : Shape := ⟨2, ![1024, 512]⟩
abbrev S1664x512 : Shape := ⟨2, ![1664, 512]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16x8320x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x8320x1024, .bf16⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S16x8320x1024, .bf16⟩
  | .local _ .vmem, ⟨0, _⟩ => ⟨S1x1664x1024, .bf16⟩
  | .local _ .vmem, ⟨1, _⟩ => ⟨S1x1664x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1664x1024, .bf16⟩
  | .local _ .vmem, ⟨9, _⟩ => ⟨S1x1664x1024, .bf16⟩
  | _, _ => ⟨S16x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1664x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x8320x1024 : Shape := ⟨3, ![16, 8320, 1024]⟩
abbrev S16x1024x512 : Shape := ⟨3, ![16, 1024, 512]⟩
abbrev S16x512x1024 : Shape := ⟨3, ![16, 512, 1024]⟩
abbrev S16x8320x512 : Shape := ⟨3, ![16, 8320, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x8320x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x8320x512, .f32⟩
  | .hbm, ⟨5, _⟩ => ⟨S16x8320x512, .f32⟩
  | .hbm, ⟨6, _⟩ => ⟨S16x8320x512, .f32⟩
  | .hbm, ⟨7, _⟩ => ⟨S16x8320x512, .f32⟩
  | .hbm, ⟨8, _⟩ => ⟨S_, .f32⟩
  | .hbm, ⟨9, _⟩ => ⟨S16x8320x512, .f32⟩
  | .hbm, ⟨10, _⟩ => ⟨S16x8320x512, .f32⟩
  | .hbm, ⟨11, _⟩ => ⟨S_, .f32⟩
  | .hbm, ⟨12, _⟩ => ⟨S16x8320x512, .f32⟩
  | .hbm, ⟨13, _⟩ => ⟨S16x8320x512, .f32⟩
  | .hbm, ⟨14, _⟩ => ⟨S16x8320x512, .f32⟩
  | .hbm, ⟨15, _⟩ => ⟨S16x8320x512, .f32⟩
  | .hbm, ⟨16, _⟩ => ⟨S16x8320x1024, .f32⟩
  | .hbm, ⟨17, _⟩ => ⟨S16x8320x1024, .bf16⟩
  | _, _ => ⟨S16x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel3.lean ====
abbrev S12x8448x1024 : Shape := ⟨3, ![12, 8448, 1024]⟩
abbrev S12x8448x2048 : Shape := ⟨3, ![12, 8448, 2048]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S16x101376 : Shape := ⟨2, ![16, 101376]⟩
abbrev S1x768x1024 : Shape := ⟨3, ![1, 768, 1024]⟩
abbrev S1x768x2048 : Shape := ⟨3, ![1, 768, 2048]⟩
abbrev S16x768 : Shape := ⟨2, ![16, 768]⟩
abbrev S768x1024 : Shape := ⟨2, ![768, 1024]⟩
abbrev S768x512 : Shape := ⟨2, ![768, 512]⟩
abbrev S768x2048 : Shape := ⟨2, ![768, 2048]⟩
abbrev S768 : Shape := ⟨1, ![768]⟩
abbrev S768x1 : Shape := ⟨2, ![768, 1]⟩
abbrev S768x128 : Shape := ⟨2, ![768, 128]⟩
abbrev S128x768 : Shape := ⟨2, ![128, 768]⟩

abbrev nBuf : Space → Nat
  | .hbm => 32
  | .vmem => 18
  | .smem => 0
  | _ => 0

abbrev bufTy : (tb : Table) → Fin (tcTables nBuf tb) → BufTy
  | .hbm, ⟨0, _⟩ => ⟨S12x8448x1024, .f32⟩
  | .hbm, ⟨1, _⟩ => ⟨S12x8448x2048, .f32⟩
  | .hbm, ⟨2, _⟩ => ⟨S12x8448x1024, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S12x8448x1024, .bf16⟩
  | .hbm, ⟨16, _⟩ => ⟨S12x8448x2048, .f32⟩
  | .hbm, ⟨17, _⟩ => ⟨S12x8448x2048, .f32⟩
  | .hbm, ⟨18, _⟩ => ⟨S_, .f32⟩
  | .hbm, ⟨19, _⟩ => ⟨S12x8448x2048, .f32⟩
  | .hbm, ⟨20, _⟩ => ⟨S12x8448x2048, .f32⟩
  | .hbm, ⟨21, _⟩ => ⟨S_, .f32⟩
  | .hbm, ⟨22, _⟩ => ⟨S12x8448x2048, .f32⟩
  | .hbm, ⟨23, _⟩ => ⟨S12x8448x2048, .f32⟩
  | .hbm, ⟨24, _⟩ => ⟨S12x8448x2048, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S12x8448x1024, .f32⟩
  | .hbm, ⟨30, _⟩ => ⟨S12x8448x1024, .bf16⟩
  | .hbm, ⟨31, _⟩ => ⟨S16x101376, .f32⟩
  | .local _ .vmem, ⟨0, _⟩ => ⟨S1x768x1024, .bf16⟩
  | .local _ .vmem, ⟨1, _⟩ => ⟨S1x768x1024, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x1024, .f32⟩
  | .local _ .vmem, ⟨5, _⟩ => ⟨S1x768x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x768x1024, .f32⟩
  | .local _ .vmem, ⟨13, _⟩ => ⟨S1x768x1024, .f32⟩
  | .local _ .vmem, ⟨14, _⟩ => ⟨S1x768x1024, .bf16⟩
  | .local _ .vmem, ⟨15, _⟩ => ⟨S1x768x1024, .bf16⟩
  | .local _ .vmem, ⟨16, _⟩ => ⟨S16x768, .f32⟩
  | .local _ .vmem, ⟨17, _⟩ => ⟨S16x768, .f32⟩
  | _, _ => ⟨S12x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![12, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S12x8448x1024 : Shape := ⟨3, ![12, 8448, 1024]⟩
abbrev S12x8448x2048 : Shape := ⟨3, ![12, 8448, 2048]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S12x8448x512 : Shape := ⟨3, ![12, 8448, 512]⟩
abbrev S_ : Shape := ⟨0, ![]⟩
abbrev S12x8448 : Shape := ⟨2, ![12, 8448]⟩
abbrev S12x8448x1 : Shape := ⟨3, ![12, 8448, 1]⟩
abbrev S1x1x1024 : Shape := ⟨3, ![1, 1, 1024]⟩
abbrev S12x8448x16 : Shape := ⟨3, ![12, 8448, 16]⟩
abbrev S8448 : Shape := ⟨1, ![8448]⟩
abbrev S1x8448x1 : Shape := ⟨3, ![1, 8448, 1]⟩
abbrev S101376x16 : Shape := ⟨2, ![101376, 16]⟩
abbrev S16x101376 : Shape := ⟨2, ![16, 101376]⟩

abbrev nBuf : Space → Nat
  | .hbm => 79
  | .vmem => 0
  | .smem => 0
  | _ => 0

abbrev bufTy : (tb : Table) → Fin (tcTables nBuf tb) → BufTy
  | .hbm, ⟨0, _⟩ => ⟨S12x8448x1024, .f32⟩
  | .hbm, ⟨1, _⟩ => ⟨S12x8448x2048, .f32⟩
  | .hbm, ⟨2, _⟩ => ⟨S12x8448x1024, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S12x8448x512, .f32⟩
  | .hbm, ⟨9, _⟩ => ⟨S12x8448x512, .f32⟩
  | .hbm, ⟨10, _⟩ => ⟨S12x8448x1024, .f32⟩
  | .hbm, ⟨11, _⟩ => ⟨S12x8448x1024, .f32⟩
  | .hbm, ⟨12, _⟩ => ⟨S12x8448x1024, .f32⟩
  | .hbm, ⟨13, _⟩ => ⟨S12x8448x1024, .f32⟩
  | .hbm, ⟨14, _⟩ => ⟨S_, .f32⟩
  | .hbm, ⟨15, _⟩ => ⟨S12x8448x1024, .f32⟩
  | .hbm, ⟨16, _⟩ => ⟨S12x8448x1024, .f32⟩
  | .hbm, ⟨17, _⟩ => ⟨S_, .f32⟩
  | .hbm, ⟨18, _⟩ => ⟨S12x8448x1024, .f32⟩
  | .hbm, ⟨19, _⟩ => ⟨S12x8448x1024, .f32⟩
  | .hbm, ⟨20, _⟩ => ⟨S12x8448x1024, .f32⟩
  | .hbm, ⟨21, _⟩ => ⟨S12x8448x1024, .f32⟩
  | .hbm, ⟨22, _⟩ => ⟨S12x8448x1024, .f32⟩
  | .hbm, ⟨23, _⟩ => ⟨S12x8448x1024, .f32⟩
  | .hbm, ⟨24, _⟩ => ⟨S_, .f32⟩
  | .hbm, ⟨25, _⟩ => ⟨S12x8448x1024, .f32⟩
  | .hbm, ⟨26, _⟩ => ⟨S12x8448x1024, .f32⟩
  | .hbm, ⟨27, _⟩ => ⟨S_, .f32⟩
  | .hbm, ⟨28, _⟩ => ⟨S12x8448x1024, .f32⟩
  | .hbm, ⟨29, _⟩ => ⟨S12x8448x1024, .f32⟩
  | .hbm, ⟨30, _⟩ => ⟨S12x8448x1024, .f32⟩
  | .hbm, ⟨31, _⟩ => ⟨S12x8448x1024, .f32⟩
  | .hbm, ⟨32, _⟩ => ⟨S12x8448x1024, .f32⟩
  | .hbm, ⟨33, _⟩ => ⟨S12x8448x1024, .f32⟩
  | .hbm, ⟨34, _⟩ => ⟨S12x8448x1024, .f32⟩
  | .hbm, ⟨35, _⟩ => ⟨S12x8448x1024, .f32⟩
  | .hbm, ⟨36, _⟩ => ⟨S_, .f32⟩
  | .hbm, ⟨37, _⟩ => ⟨S12x8448, .f32⟩
  | .hbm, ⟨38, _⟩ => ⟨S12x8448x1, .f32⟩
  | .hbm, ⟨39, _⟩ => ⟨S_, .f32⟩
  | .hbm, ⟨40, _⟩ => ⟨S12x8448x1, .f32⟩
  | .hbm, ⟨41, _⟩ => ⟨S12x8448x1, .f32⟩
  | .hbm, ⟨42, _⟩ => ⟨S_, .f32⟩
  | .hbm, ⟨43, _⟩ => ⟨S12x8448x1, .f32⟩
  | .hbm, ⟨44, _⟩ => ⟨S12x8448x1, .f32⟩
  | .hbm, ⟨45, _⟩ => ⟨S12x8448x1, .f32⟩
  | .hbm, ⟨46, _⟩ => ⟨S12x8448x1024, .f32⟩
  | .hbm, ⟨47, _⟩ => ⟨S12x8448x1024, .f32⟩
  | .hbm, ⟨48, _⟩ => ⟨S1x1x1024, .f32⟩
  | .hbm, ⟨49, _⟩ => ⟨S12x8448x1024, .f32⟩
  | .hbm, ⟨50, _⟩ => ⟨S12x8448x1024, .f32⟩
  | .hbm, ⟨51, _⟩ => ⟨S12x8448x16, .f32⟩
  | .hbm, ⟨52, _⟩ => ⟨S_, .f32⟩
  | .hbm, ⟨53, _⟩ => ⟨S12x8448, .f32⟩
  | .hbm, ⟨54, _⟩ => ⟨S_, .f32⟩
  | .hbm, ⟨55, _⟩ => ⟨S12x8448, .f32⟩
  | .hbm, ⟨56, _⟩ => ⟨S12x8448, .f32⟩
  | .hbm, ⟨57, _⟩ => ⟨S12x8448x1, .f32⟩
  | .hbm, ⟨58, _⟩ => ⟨S12x8448x16, .f32⟩
  | .hbm, ⟨59, _⟩ => ⟨S12x8448x16, .f32⟩
  | .hbm, ⟨60, _⟩ => ⟨S12x8448x16, .f32⟩
  | .hbm, ⟨61, _⟩ => ⟨S_, .f32⟩
  | .hbm, ⟨62, _⟩ => ⟨S12x8448, .f32⟩
  | .hbm, ⟨63, _⟩ => ⟨S12x8448x1, .f32⟩
  | .hbm, ⟨64, _⟩ => ⟨S12x8448x16, .f32⟩
  | .hbm, ⟨65, _⟩ => ⟨S12x8448x16, .f32⟩
  | .hbm, ⟨66, _⟩ => ⟨S8448, .i32⟩
  | .hbm, ⟨67, _⟩ => ⟨S1x8448x1, .i32⟩
  | .hbm, ⟨68, _⟩ => ⟨S_, .i32⟩
  | .hbm, ⟨69, _⟩ => ⟨S1x8448x1, .i32⟩
  | .hbm, ⟨70, _⟩ => ⟨S1x8448x1, .i1⟩
  | .hbm, ⟨71, _⟩ => ⟨S_, .f32⟩
  | .hbm, ⟨72, _⟩ => ⟨S_, .f32⟩
  | .hbm, ⟨73, _⟩ => ⟨S12x8448x16, .i1⟩
  | .hbm, ⟨74, _⟩ => ⟨S12x8448x16, .f32⟩
  | .hbm, ⟨75, _⟩ => ⟨S12x8448x16, .f32⟩
  | .hbm, ⟨76, _⟩ => ⟨S12x8448x1024, .bf16⟩
  | .hbm, ⟨77, _⟩ => ⟨S101376x16, .f32⟩
  | .hbm, ⟨78, _⟩ => ⟨S16x101376, .f32⟩
  | _, _ => ⟨S12x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel4.lean ====
abbrev S12x8448x1024 : Shape := ⟨3, ![12, 8448, 1024]⟩
abbrev S1024 : Shape := ⟨1, ![1024]⟩
abbrev S1024x3488 : Shape := ⟨2, ![1024, 3488]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8448x128 : Shape := ⟨2, ![8448, 128]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x2048 : Shape := ⟨2, ![1024, 2048]⟩
abbrev S1024x8x64 : Shape := ⟨3, ![1024, 8, 64]⟩
abbrev S_ : Shape := ⟨0, ![]⟩
abbrev S8 : Shape := ⟨1, ![8]⟩
abbrev S1x8x1 : Shape := ⟨3, ![1, 8, 1]⟩
abbrev S1024x8x128 : Shape := ⟨3, ![1024, 8, 128]⟩
abbrev S1024x1024 : Shape := ⟨2, ![1024, 1024]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x384 : Shape := ⟨2, ![1, 384]⟩
abbrev S1x256 : Shape := ⟨2, ![1, 256]⟩
abbrev S12x16x8448x128 : Shape := ⟨4, ![12, 16, 8448, 128]⟩
abbrev S12x9x11x128x768 : Shape := ⟨5, ![12, 9, 11, 128, 768]⟩
abbrev S12x12x8448x128 : Shape := ⟨4, ![12, 12, 8448, 128]⟩
abbrev S12x8448x2048 : Shape := ⟨3, ![12, 8448, 2048]⟩
abbrev S1x768x1024 : Shape := ⟨3, ![1, 768, 1024]⟩
abbrev S768x128 : Shape := ⟨2, ![768, 128]⟩
abbrev S1x16x768x128 : Shape := ⟨4, ![1, 16, 768, 128]⟩
abbrev S1x9x1x128x768 : Shape := ⟨5, ![1, 9, 1, 128, 768]⟩
abbrev S1x12x768x128 : Shape := ⟨4, ![1, 12, 768, 128]⟩
abbrev S1x768x2048 : Shape := ⟨3, ![1, 768, 2048]⟩
abbrev S768x1024 : Shape := ⟨2, ![768, 1024]⟩
abbrev S768 : Shape := ⟨1, ![768]⟩
abbrev S768x1 : Shape := ⟨2, ![768, 1]⟩
abbrev S768x2048 : Shape := ⟨2, ![768, 2048]⟩
abbrev S768x256 : Shape := ⟨2, ![768, 256]⟩
abbrev S256x256 : Shape := ⟨2, ![256, 256]⟩
abbrev S1x1x768x128 : Shape := ⟨4, ![1, 1, 768, 128]⟩
abbrev S128x128 : Shape := ⟨2, ![128, 128]⟩
abbrev S128x768 : Shape := ⟨2, ![128, 768]⟩
abbrev S1x1x1x128x768 : Shape := ⟨5, ![1, 1, 1, 128, 768]⟩
abbrev S768x384 : Shape := ⟨2, ![768, 384]⟩
abbrev S768x512 : Shape := ⟨2, ![768, 512]⟩

abbrev nBuf : Space → Nat
  | .hbm => 71
  | .vmem => 28
  | .smem => 0
  | _ => 0

abbrev bufTy : (tb : Table) → Fin (tcTables nBuf tb) → BufTy
  | .hbm, ⟨0, _⟩ => ⟨S12x8448x1024, .f32⟩
  | .hbm, ⟨1, _⟩ => ⟨S1024, .f32⟩
  | .hbm, ⟨2, _⟩ => ⟨S1024x3488, .f32⟩
  | .hbm, ⟨3, _⟩ => ⟨S64, .f32⟩
  | .hbm, ⟨4, _⟩ => ⟨S64, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S8448x128, .f32⟩
  | .hbm, ⟨10, _⟩ => ⟨S8448x128, .f32⟩
  | .hbm, ⟨11, _⟩ => ⟨S8448x128, .f32⟩
  | .hbm, ⟨12, _⟩ => ⟨S8448x128, .f32⟩
  | .hbm, ⟨13, _⟩ => ⟨S1024x512, .f32⟩
  | .hbm, ⟨14, _⟩ => ⟨S1024x128, .f32⟩
  | .hbm, ⟨15, _⟩ => ⟨S1024x128, .f32⟩
  | .hbm, ⟨16, _⟩ => ⟨S1024x384, .f32⟩
  | .hbm, ⟨17, _⟩ => ⟨S1024x256, .f32⟩
  | .hbm, ⟨18, _⟩ => ⟨S1024x32, .f32⟩
  | .hbm, ⟨19, _⟩ => ⟨S1024x2048, .f32⟩
  | .hbm, ⟨20, _⟩ => ⟨S1024x8x64, .f32⟩
  | .hbm, ⟨21, _⟩ => ⟨S_, .f32⟩
  | .hbm, ⟨22, _⟩ => ⟨S1024x8x64, .f32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S1x8x1, .i1⟩
  | .hbm, ⟨28, _⟩ => ⟨S1024x8x64, .i1⟩
  | .hbm, ⟨29, _⟩ => ⟨S1024x8x64, .f32⟩
  | .hbm, ⟨30, _⟩ => ⟨S1024x8x64, .i1⟩
  | .hbm, ⟨31, _⟩ => ⟨S1024x8x64, .f32⟩
  | .hbm, ⟨32, _⟩ => ⟨S1024x8x128, .f32⟩
  | .hbm, ⟨33, _⟩ => ⟨S1024x1024, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x2048, .f32⟩
  | .hbm, ⟨38, _⟩ => ⟨S1024x2048, .bf16⟩
  | .hbm, ⟨39, _⟩ => ⟨S384x8x96, .f32⟩
  | .hbm, ⟨40, _⟩ => ⟨S_, .i32⟩
  | .hbm, ⟨41, _⟩ => ⟨S_, .f32⟩
  | .hbm, ⟨42, _⟩ => ⟨S384x8x128, .f32⟩
  | .hbm, ⟨43, _⟩ => ⟨S384x1024, .f32⟩
  | .hbm, ⟨44, _⟩ => ⟨S384x1024, .bf16⟩
  | .hbm, ⟨45, _⟩ => ⟨S256x8x128, .f32⟩
  | .hbm, ⟨46, _⟩ => ⟨S256x8x64, .f32⟩
  | .hbm, ⟨47, _⟩ => ⟨S_, .i32⟩
  | .hbm, ⟨48, _⟩ => ⟨S_, .f32⟩
  | .hbm, ⟨49, _⟩ => ⟨S256x8x128, .f32⟩
  | .hbm, ⟨50, _⟩ => ⟨S256x1024, .f32⟩
  | .hbm, ⟨51, _⟩ => ⟨S256x1024, .bf16⟩
  | .hbm, ⟨52, _⟩ => ⟨S256x8x64, .f32⟩
  | .hbm, ⟨53, _⟩ => ⟨S256x512, .f32⟩
  | .hbm, ⟨54, _⟩ => ⟨S256x512, .bf16⟩
  | .hbm, ⟨55, _⟩ => ⟨S1024x2048, .bf16⟩
  | .hbm, ⟨56, _⟩ => ⟨S1x1024, .f32⟩
  | .hbm, ⟨57, _⟩ => ⟨S1x64, .f32⟩
  | .hbm, ⟨58, _⟩ => ⟨S2x64, .f32⟩
  | .hbm, ⟨59, _⟩ => ⟨S128, .f32⟩
  | .hbm, ⟨60, _⟩ => ⟨S1x128, .f32⟩
  | .hbm, ⟨61, _⟩ => ⟨S1x64, .f32⟩
  | .hbm, ⟨62, _⟩ => ⟨S2x64, .f32⟩
  | .hbm, ⟨63, _⟩ => ⟨S128, .f32⟩
  | .hbm, ⟨64, _⟩ => ⟨S1x128, .f32⟩
  | .hbm, ⟨65, _⟩ => ⟨S1x384, .f32⟩
  | .hbm, ⟨66, _⟩ => ⟨S1x256, .f32⟩
  | .hbm, ⟨67, _⟩ => ⟨S12x16x8448x128, .bf16⟩
  | .hbm, ⟨68, _⟩ => ⟨S12x9x11x128x768, .bf16⟩
  | .hbm, ⟨69, _⟩ => ⟨S12x12x8448x128, .bf16⟩
  | .hbm, ⟨70, _⟩ => ⟨S12x8448x2048, .bf16⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S384x1024, .bf16⟩
  | .local _ .vmem, ⟨6, _⟩ => ⟨S256x1024, .bf16⟩
  | .local _ .vmem, ⟨7, _⟩ => ⟨S256x512, .bf16⟩
  | .local _ .vmem, ⟨8, _⟩ => ⟨S1x128, .f32⟩
  | .local _ .vmem, ⟨9, _⟩ => ⟨S1x128, .f32⟩
  | .local _ .vmem, ⟨10, _⟩ => ⟨S1x384, .f32⟩
  | .local _ .vmem, ⟨11, _⟩ => ⟨S1x256, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | .local _ .vmem, ⟨18, _⟩ => ⟨S768x128, .f32⟩
  | .local _ .vmem, ⟨19, _⟩ => ⟨S768x128, .f32⟩
  | .local _ .vmem, ⟨20, _⟩ => ⟨S1x16x768x128, .bf16⟩
  | .local _ .vmem, ⟨21, _⟩ => ⟨S1x16x768x128, .bf16⟩
  | .local _ .vmem, ⟨22, _⟩ => ⟨S1x9x1x128x768, .bf16⟩
  | .local _ .vmem, ⟨23, _⟩ => ⟨S1x9x1x128x768, .bf16⟩
  | .local _ .vmem, ⟨24, _⟩ => ⟨S1x12x768x128, .bf16⟩
  | .local _ .vmem, ⟨25, _⟩ => ⟨S1x12x768x128, .bf16⟩
  | .local _ .vmem, ⟨26, _⟩ => ⟨S1x768x2048, .bf16⟩
  | .local _ .vmem, ⟨27, _⟩ => ⟨S1x768x2048, .bf16⟩
  | _, _ => ⟨S12x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_v0 : Ref sig .tc := ⟨.hbm, 28, rfl⟩
abbrev main_v13 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_call3_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_call4_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v44_2 : Ref sig .tc := ⟨.hbm, 69, rfl⟩
abbrev main_v44_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![12, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S768x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S768x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S768x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x16x768x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x9x1x128x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x12x768x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x768x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S12x8448x1024 : Shape := ⟨3, ![12, 8448, 1024]⟩
abbrev S1024 : Shape := ⟨1, ![1024]⟩
abbrev S1024x3488 : Shape := ⟨2, ![1024, 3488]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8448x128 : Shape := ⟨2, ![8448, 128]⟩
abbrev S_ : Shape := ⟨0, ![]⟩
abbrev S12x8448 : Shape := ⟨2, ![12, 8448]⟩
abbrev S12x8448x1 : Shape := ⟨3, ![12, 8448, 1]⟩
abbrev S1x1x1024 : Shape := ⟨3, ![1, 1, 1024]⟩
abbrev S12x8448x3488 : Shape := ⟨3, ![12, 8448, 3488]⟩
abbrev S12x8448x512 : Shape := ⟨3, ![12, 8448, 512]⟩
abbrev S12x8448x128 : Shape := ⟨3, ![12, 8448, 128]⟩
abbrev S12x8448x384 : Shape := ⟨3, ![12, 8448, 384]⟩
abbrev S12x8448x256 : Shape := ⟨3, ![12, 8448, 256]⟩
abbrev S12x8448x32 : Shape := ⟨3, ![12, 8448, 32]⟩
abbrev S12x8448x2048 : Shape := ⟨3, ![12, 8448, 2048]⟩
abbrev S12x8448x2x64 : Shape := ⟨4, ![12, 8448, 2, 64]⟩
abbrev S1x1x256 : Shape := ⟨3, ![1, 1, 256]⟩
abbrev S12x8448x8x128 : Shape := ⟨4, ![12, 8448, 8, 128]⟩
abbrev S12x8448x8x64 : Shape := ⟨4, ![12, 8448, 8, 64]⟩
abbrev S12x8448x2x128 : Shape := ⟨4, ![12, 8448, 2, 128]⟩
abbrev S12x8448x2x1x128 : Shape := ⟨5, ![12, 8448, 2, 1, 128]⟩
abbrev S12x8448x2x2x128 : Shape := ⟨5, ![12, 8448, 2, 2, 128]⟩
abbrev S12x8448x4x128 : Shape := ⟨4, ![12, 8448, 4, 128]⟩
abbrev S12x8448x4x2x64 : Shape := ⟨5, ![12, 8448, 4, 2, 64]⟩
abbrev S12x8448x4x1x64 : Shape := ⟨5, ![12, 8448, 4, 1, 64]⟩
abbrev S12x8448x4x64 : Shape := ⟨4, ![12, 8448, 4, 64]⟩
abbrev S12x8448x4x1x128 : Shape := ⟨5, ![12, 8448, 4, 1, 128]⟩
abbrev S12x8448x4x2x128 : Shape := ⟨5, ![12, 8448, 4, 2, 128]⟩
abbrev S12x8448x12x128 : Shape := ⟨4, ![12, 8448, 12, 128]⟩
abbrev S12x12x8448x128 : Shape := ⟨4, ![12, 12, 8448, 128]⟩

abbrev nBuf : Space → Nat
  | .hbm => 94
  | .vmem => 0
  | .smem => 0
  | _ => 0

abbrev bufTy : (tb : Table) → Fin (tcTables nBuf tb) → BufTy
  | .hbm, ⟨0, _⟩ => ⟨S12x8448x1024, .f32⟩
  | .hbm, ⟨1, _⟩ => ⟨S1024, .f32⟩
  | .hbm, ⟨2, _⟩ => ⟨S1024x3488, .f32⟩
  | .hbm, ⟨3, _⟩ => ⟨S64, .f32⟩
  | .hbm, ⟨4, _⟩ => ⟨S64, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S8448x128, .f32⟩
  | .hbm, ⟨10, _⟩ => ⟨S8448x128, .f32⟩
  | .hbm, ⟨11, _⟩ => ⟨S8448x128, .f32⟩
  | .hbm, ⟨12, _⟩ => ⟨S8448x128, .f32⟩
  | .hbm, ⟨13, _⟩ => ⟨S12x8448x1024, .f32⟩
  | .hbm, ⟨14, _⟩ => ⟨S_, .f32⟩
  | .hbm, ⟨15, _⟩ => ⟨S12x8448, .f32⟩
  | .hbm, ⟨16, _⟩ => ⟨S12x8448x1, .f32⟩
  | .hbm, ⟨17, _⟩ => ⟨S_, .f32⟩
  | .hbm, ⟨18, _⟩ => ⟨S12x8448x1, .f32⟩
  | .hbm, ⟨19, _⟩ => ⟨S12x8448x1, .f32⟩
  | .hbm, ⟨20, _⟩ => ⟨S_, .f32⟩
  | .hbm, ⟨21, _⟩ => ⟨S12x8448x1, .f32⟩
  | .hbm, ⟨22, _⟩ => ⟨S12x8448x1, .f32⟩
  | .hbm, ⟨23, _⟩ => ⟨S12x8448x1, .f32⟩
  | .hbm, ⟨24, _⟩ => ⟨S12x8448x1024, .f32⟩
  | .hbm, ⟨25, _⟩ => ⟨S12x8448x1024, .f32⟩
  | .hbm, ⟨26, _⟩ => ⟨S1x1x1024, .f32⟩
  | .hbm, ⟨27, _⟩ => ⟨S12x8448x1024, .f32⟩
  | .hbm, ⟨28, _⟩ => ⟨S12x8448x1024, .f32⟩
  | .hbm, ⟨29, _⟩ => ⟨S12x8448x3488, .f32⟩
  | .hbm, ⟨30, _⟩ => ⟨S12x8448x512, .f32⟩
  | .hbm, ⟨31, _⟩ => ⟨S12x8448x128, .f32⟩
  | .hbm, ⟨32, _⟩ => ⟨S12x8448x128, .f32⟩
  | .hbm, ⟨33, _⟩ => ⟨S12x8448x384, .f32⟩
  | .hbm, ⟨34, _⟩ => ⟨S12x8448x256, .f32⟩
  | .hbm, ⟨35, _⟩ => ⟨S12x8448x32, .f32⟩
  | .hbm, ⟨36, _⟩ => ⟨S12x8448x2048, .f32⟩
  | .hbm, ⟨37, _⟩ => ⟨S12x8448x2x64, .f32⟩
  | .hbm, ⟨38, _⟩ => ⟨S12x8448x256, .f32⟩
  | .hbm, ⟨39, _⟩ => ⟨S_, .f32⟩
  | .hbm, ⟨40, _⟩ => ⟨S12x8448, .f32⟩
  | .hbm, ⟨41, _⟩ => ⟨S12x8448x1, .f32⟩
  | .hbm, ⟨42, _⟩ => ⟨S_, .f32⟩
  | .hbm, ⟨43, _⟩ => ⟨S12x8448x1, .f32⟩
  | .hbm, ⟨44, _⟩ => ⟨S12x8448x1, .f32⟩
  | .hbm, ⟨45, _⟩ => ⟨S_, .f32⟩
  | .hbm, ⟨46, _⟩ => ⟨S12x8448x1, .f32⟩
  | .hbm, ⟨47, _⟩ => ⟨S12x8448x1, .f32⟩
  | .hbm, ⟨48, _⟩ => ⟨S12x8448x1, .f32⟩
  | .hbm, ⟨49, _⟩ => ⟨S12x8448x256, .f32⟩
  | .hbm, ⟨50, _⟩ => ⟨S12x8448x256, .f32⟩
  | .hbm, ⟨51, _⟩ => ⟨S1x1x256, .f32⟩
  | .hbm, ⟨52, _⟩ => ⟨S12x8448x256, .f32⟩
  | .hbm, ⟨53, _⟩ => ⟨S12x8448x256, .f32⟩
  | .hbm, ⟨54, _⟩ => ⟨S12x8448x1024, .f32⟩
  | .hbm, ⟨55, _⟩ => ⟨S12x8448x8x128, .f32⟩
  | .hbm, ⟨56, _⟩ => ⟨S12x8448x8x64, .f32⟩
  | .hbm, ⟨57, _⟩ => ⟨S_, .f32⟩
  | .hbm, ⟨58, _⟩ => ⟨S12x8448x2x64, .f32⟩
  | .hbm, ⟨59, _⟩ => ⟨S12x8448x2x128, .f32⟩
  | .hbm, ⟨60, _⟩ => ⟨S_, .f32⟩
  | .hbm, ⟨61, _⟩ => ⟨S12x8448x2x64, .f32⟩
  | .hbm, ⟨62, _⟩ => ⟨S12x8448x2x128, .f32⟩
  | .hbm, ⟨63, _⟩ => ⟨S12x8448x2x1x128, .f32⟩
  | .hbm, ⟨64, _⟩ => ⟨S12x8448x2x1x128, .f32⟩
  | .hbm, ⟨65, _⟩ => ⟨S12x8448x2x2x128, .f32⟩
  | .hbm, ⟨66, _⟩ => ⟨S12x8448x4x128, .f32⟩
  | .hbm, ⟨67, _⟩ => ⟨S12x8448x4x2x64, .f32⟩
  | .hbm, ⟨68, _⟩ => ⟨S12x8448x4x1x64, .f32⟩
  | .hbm, ⟨69, _⟩ => ⟨S12x8448x4x64, .f32⟩
  | .hbm, ⟨70, _⟩ => ⟨S_, .f32⟩
  | .hbm, ⟨71, _⟩ => ⟨S12x8448x4x64, .f32⟩
  | .hbm, ⟨72, _⟩ => ⟨S12x8448x4x128, .f32⟩
  | .hbm, ⟨73, _⟩ => ⟨S12x8448x4x1x64, .f32⟩
  | .hbm, ⟨74, _⟩ => ⟨S12x8448x4x64, .f32⟩
  | .hbm, ⟨75, _⟩ => ⟨S_, .f32⟩
  | .hbm, ⟨76, _⟩ => ⟨S12x8448x4x64, .f32⟩
  | .hbm, ⟨77, _⟩ => ⟨S12x8448x4x128, .f32⟩
  | .hbm, ⟨78, _⟩ => ⟨S12x8448x4x1x128, .f32⟩
  | .hbm, ⟨79, _⟩ => ⟨S12x8448x4x1x128, .f32⟩
  | .hbm, ⟨80, _⟩ => ⟨S12x8448x4x2x128, .f32⟩
  | .hbm, ⟨81, _⟩ => ⟨S12x8448x8x128, .f32⟩
  | .hbm, ⟨82, _⟩ => ⟨S12x8448x12x128, .f32⟩
  | .hbm, ⟨83, _⟩ => ⟨S12x8448x12x128, .bf16⟩
  | .hbm, ⟨84, _⟩ => ⟨S12x12x8448x128, .bf16⟩
  | .hbm, ⟨85, _⟩ => ⟨S12x8448x2048, .f32⟩
  | .hbm, ⟨86, _⟩ => ⟨S12x8448x2048, .f32⟩
  | .hbm, ⟨87, _⟩ => ⟨S_, .f32⟩
  | .hbm, ⟨88, _⟩ => ⟨S12x8448x2048, .f32⟩
  | .hbm, ⟨89, _⟩ => ⟨S12x8448x2048, .f32⟩
  | .hbm, ⟨90, _⟩ => ⟨S_, .f32⟩
  | .hbm, ⟨91, _⟩ => ⟨S12x8448x2048, .f32⟩
  | .hbm, ⟨92, _⟩ => ⟨S12x8448x2048, .f32⟩
  | .hbm, ⟨93, _⟩ => ⟨S12x8448x2048, .bf16⟩
  | _, _ => ⟨S12x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.KernelFrame.lean ====
/- The frame of the attention kernel: it runs to the end and leaves its arguments alone. Nothing is said of its result. -/
module

public import proofs.«01_k».proof.Proof.Gen.Kernel.Frame.Runs
public import Idealize.ShloMosaic.Lib.Claim

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays, read off a run's final states. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

-- (the run's proof term is large: checking it walks past the default budget)
set_option maxHeartbeats 1000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2x8448x128 .bf16) (harg2 : arg2.IsWhole) (arg3 : Memref sig .tc .vmem S1x1x11x128x768 .bf16) (harg3 : arg3.IsWhole) (arg4 : Memref sig .tc .vmem S1x1x11x128x768 .bf16) (harg4 : arg4.IsWhole) (arg5 : Memref sig .tc .vmem S1x1x8448x128 .bf16) (harg5 : arg5.IsWhole) (arg6 : Memref sig .tc .vmem S1x1x8448x128 .bf16) (harg6 : arg6.IsWhole) (arg7 : Memref sig .tc .vmem S1x8448x128 .bf16) (harg7 : arg7.IsWhole) (arg8 : Memref sig .tc .vmem S2x768x768 .f32) (harg8 : arg8.IsWhole) (arg9 : Memref sig .tc .vmem S2x768x768 .f32) (harg9 : arg9.IsWhole) (arg10 : Memref sig .tc .vmem S2x768x768 .f32) (harg10 : arg10.IsWhole)
    (x0 : Vec F S1x2x8448x128 .bf16) (x1 : Vec F S1x1x11x128x768 .bf16) (x2 : Vec F S1x1x11x128x768 .bf16) (x3 : Vec F S1x1x8448x128 .bf16) (x4 : Vec F S1x1x8448x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K := by
    intro E K
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame claim at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Attn

end
-- ==== Proof.IdealTile.lean ====
/- What one trip of the attention kernel's loop over query tiles computes, as a plain function of the blocks it reads. -/
module

public import proofs.«01_k».proof.Proof.Gen.KernelIdeal.Loops
public import Idealize.ShloMosaic.Lib.Pipeline.ReadBack
public import Idealize.ShloMosaic.Lib.WholeRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The offset of query tile `k` for head `h` of the pair. -/
def qOff (h : Fin 2) (k : Fin k0_t1_loop.trips) : Fin 4 → ℕ := if h = 0 then k0_off1 k else k0_off2 k

theorem qOff_eq : ∀ (h : Fin 2) (k : Fin k0_t1_loop.trips), qOff h k = ![0, h.val, 768 * k.val, 0] := by decide +kernel

theorem qOff_inb : ∀ (h : Fin 2) (k : Fin k0_t1_loop.trips), ∀ a, qOff h k a + S1x1x768x128.size a ≤ S1x2x8448x128.size a := by
  decide +kernel

theorem kOff_inb (j : ℕ) : ∀ a, (![0, 0, j % 11, 0, 0] : Fin 5 → ℕ) a + S1x1x1x128x768.size a ≤ S1x1x11x128x768.size a := by
  have := Nat.mod_lt j (show 0 < 11 by norm_num)
  intro a; fin_cases a <;> simp [S1x1x1x128x768, S1x1x11x128x768]; omega

theorem vOff_inb (j : ℕ) : ∀ a, (![0, 0, 768 * (j % 11), 0] : Fin 4 → ℕ) a + S1x1x768x128.size a ≤ S1x1x8448x128.size a := by
  have := Nat.mod_lt j (show 0 < 11 by norm_num)
  intro a; fin_cases a <;> simp [S1x1x768x128, S1x1x8448x128]; omega

/-- The queries of tile `k`, for head `h` of the pair. -/
def qTile (x : Vec F S1x2x8448x128 .bf16) (h : Fin 2) (k : Fin k0_t1_loop.trips) : FVec F S768x128 .bf16 :=
  shapeCast S768x128 (View.ld x (Rect.unit (qOff h k) S1x1x768x128.size (qOff_inb h k))) shapeCasts_S1x1x768x128_S768x128

/-- Block `j` of the transposed keys. -/
def kTile (x : Vec F S1x1x11x128x768 .bf16) (j : ℕ) : FVec F S128x768 .bf16 :=
  shapeCast S128x768 (View.ld x (Rect.unit ![0, 0, j % 11, 0, 0] S1x1x1x128x768.size (kOff_inb j))) shapeCasts_S1x1x1x128x768_S128x768

/-- Block `j` of the values. -/
def vTile (x : Vec F S1x1x8448x128 .bf16) (j : ℕ) : FVec F S768x128 .bf16 :=
  shapeCast S768x128 (View.ld x (Rect.unit ![0, 0, 768 * (j % 11), 0] S1x1x768x128.size (vOff_inb j))) shapeCasts_S1x1x768x128_S768x128

/-- The scores of a tile of queries against a block of keys. -/
def scores (q : FVec F S768x128 .bf16) (kt : FVec F S128x768 .bf16) : FVec F S768x768 .f32 :=
  matmul dot_S768x128_S128x768_S768x768_1_0_0_1_n_n none q kt (constant S768x768 .f32 0x00000000#32)

/-- The scores of the last block, the columns past the sequence masked. -/
def masked (s : FVec F S768x768 .f32) : FVec F S768x768 .f32 :=
  select (cmpi .slt (iota .tc S768x768 32 [1] iota_S768x768_d1_w32) (broadcast S768x768 528#32)) s
    (broadcast S768x768 (Named.named κ "mask" 0xF149F2CA#32))

/-- The running row maximum after a block. -/
def newMax (s : FVec F S768x768 .f32) (mx : FVec F S768x1 .f32) : FVec F S768x1 .f32 :=
  maximumf mx (shapeCast S768x1 (multiReduction .maximumf [1] S768 s 0xFF800000#32 reduces_S768x768_S768 (.inl rfl) rfl) shapeCasts_S768_S768x1)

/-- The running accumulator after a block, `mx` the row maximum before it and `mx'` after it. -/
def newAcc (s : FVec F S768x768 .f32) (v : FVec F S768x128 .bf16) (mx mx' : FVec F S768x1 .f32) (acc : FVec F S768x128 .f32) : FVec F S768x128 .f32 :=
  addf (mulf (broadcastTo S768x128 (exp2 (subf mx mx')) broadcasts_S768x1_S768x128) acc)
    (matmul dot_S768x768_S768x128_S768x128_1_0_0_1_n_n none
      (truncf .bf16 (exp2 (subf s (broadcastTo S768x768 mx' broadcasts_S768x1_S768x768))) bitsLt_bf16_f32) v
      (constant S768x128 .f32 0x00000000#32))

/-- Block `j`'s scores, masked in the last block. -/
def blockScores (q : FVec F S768x128 .bf16) (x : Vec F S1x1x11x128x768 .bf16) (j : ℕ) : FVec F S768x768 .f32 :=
  if j = 10 then masked (scores q (kTile x j)) else scores q (kTile x j)

/-- The running row maximum before block `j`. -/
def maxAt (q : FVec F S768x128 .bf16) (x : Vec F S1x1x11x128x768 .bf16) : ℕ → FVec F S768x1 .f32
  | 0 => broadcast S768x1 (Named.named κ "mask" 0xF149F2CA#32)
  | j + 1 => newMax (blockScores q x j) (maxAt q x j)

/-- The running accumulator before block `j`. -/
def accAt (q : FVec F S768x128 .bf16) (x : Vec F S1x1x11x128x768 .bf16) (y : Vec F S1x1x8448x128 .bf16) : ℕ → FVec F S768x128 .f32
  | 0 => broadcast S768x128 (Scalar.ofBits .f32 0x00000000#32)
  | j + 1 => newAcc (blockScores q x j) (vTile y j) (maxAt q x j) (maxAt q x (j + 1)) (accAt q x y j)

/-- One head's quotient: the accumulator over the accumulator turned by half the lanes. -/
def quot (acc : FVec F S768x128 .f32) : FVec F S768x128 .f32 :=
  divf acc (dynamicRotate 1 64#32 none acc rotates_S768x128_d1)

/-- What query tile `k` writes: the first head's quotient in the lanes below 64, the second's in the others. -/
def tileOut (x0 : Vec F S1x2x8448x128 .bf16) (x1 x2 : Vec F S1x1x11x128x768 .bf16) (x3 x4 : Vec F S1x1x8448x128 .bf16)
    (k : Fin k0_t1_loop.trips) : FVec F S1x768x128 .bf16 :=
  shapeCast S1x768x128
    (truncf .bf16
      (select (cmpi .slt (iota .tc S768x128 32 [1] iota_S768x128_d1_w32) (broadcast S768x128 64#32))
        (quot (accAt (qTile x0 0 k) x1 x3 11)) (quot (accAt (qTile x0 1 k) x2 x4 11)))
      bitsLt_bf16_f32) shapeCasts_S768x128_S1x768x128

/-- What the score buffer holds for head `h` before trip `k`: the scores of query tile `k` against key block 0. -/
def slot (x0 : Vec F S1x2x8448x128 .bf16) (x : Vec F S1x1x11x128x768 .bf16) (h : Fin 2) (k : Fin k0_t1_loop.trips) : FVec F S1x768x768 .f32 :=
  shapeCast S1x768x768 (scores (qTile x0 h k) (kTile x 0)) shapeCasts_S768x768_S1x768x768

end Cert.KernelIdeal.Attn

end
-- ==== Proof.IdealTrip.lean ====
/- The attention kernel's loop over query tiles, as its stores: what each trip writes, whatever the buffers hold at entry. -/
module

public import proofs.«01_k».proof.Proof.IdealTile

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The first half of a score buffer, the first head's. -/
abbrev half0 : Rect S2x768x768 := Rect.unit ![0, 0, 0] S1x768x768.size inb_S2x768x768_S1x768x768_0_0_0

/-- The second half of a score buffer, the second head's. -/
abbrev half1 : Rect S2x768x768 := Rect.unit ![1, 0, 0] S1x768x768.size inb_S2x768x768_S1x768x768_1_0_0

/-- After a store to each half, the first half holds the store to it, -/
theorem load_half0 {sp : Space} {e : EltTy} (v : View sig .tc sp S2x768x768 e) (f : BufTy.Contents (Elt F) v.ty)
    (w1 : half1.shape.Idx → Elt F e) (w0 : half0.shape.Idx → Elt F e) (L : List (View.Piece (Elt F) S2x768x768 e)) :
    View.readAt (Elt F) v half0.toLoadRect (v.writes (Elt F) f (⟨half1, w1⟩ :: ⟨half0, w0⟩ :: L)) = w0 := by
  rw [View.readAt_writes_of_cover v f _ _ (fun j => ⟨⟨half0, w0⟩, by simp, LoadRect.idx_mem_of_within (p := half0) (by decide) j⟩),
    View.readCov_skip _ _ _ _ _ (by decide), View.readCov_cons_toLoadRect]

/-- and the second half the store to that. -/
theorem load_half1 {sp : Space} {e : EltTy} (v : View sig .tc sp S2x768x768 e) (f : BufTy.Contents (Elt F) v.ty)
    (w1 : half1.shape.Idx → Elt F e) (L : List (View.Piece (Elt F) S2x768x768 e)) :
    View.readAt (Elt F) v half1.toLoadRect (v.writes (Elt F) f (⟨half1, w1⟩ :: L)) = w1 := by
  rw [View.readAt_writes_of_cover v f _ _ (fun j => ⟨⟨half1, w1⟩, by simp, LoadRect.idx_mem_of_within (p := half1) (by decide) j⟩),
    View.readCov_cons_toLoadRect]

/-- The tile whose first scores trip `k` leaves in the score buffer. -/
def nxt (k : ℕ) : Fin k0_t1_loop.trips := ⟨min k 10, lt_of_le_of_lt (min_le_right k 10) (by decide +kernel)⟩

theorem off3_eq : ∀ k : Fin k0_t1_loop.trips, k0_off3 k = qOff 0 (nxt (k.val + 1)) := by decide +kernel
theorem off4_eq : ∀ k : Fin k0_t1_loop.trips, k0_off4 k = qOff 1 (nxt (k.val + 1)) := by decide +kernel

theorem off0_eq : (![0, 0, 0, 0] : Fin 4 → ℕ) = qOff 0 (nxt 0) := by decide +kernel
theorem off0_eq' : (![0, 1, 0, 0] : Fin 4 → ℕ) = qOff 1 (nxt 0) := by decide +kernel

/-- A read through a rectangle depends on its offsets alone. -/
theorem ld_congr {s : Shape} {e : EltTy} (x : Vec F s e) {o o' sz : Fin s.rank → ℕ} (h : o = o') (p : ∀ a, o a + sz a ≤ s.size a)
    (p' : ∀ a, o' a + sz a ≤ s.size a) : View.ld x (Rect.unit o sz p) = View.ld x (Rect.unit o' sz p') := by
  subst h; rfl

/-- The stores of the trips before `k`, last first: tile by tile. -/
def outPieces (x0 : Vec F S1x2x8448x128 .bf16) (x1 x2 : Vec F S1x1x11x128x768 .bf16) (x3 x4 : Vec F S1x1x8448x128 .bf16) :
    ℕ → List (View.Piece (Elt F) S1x8448x128 .bf16)
  | 0 => []
  | k + 1 => if h : k < k0_t1_loop.trips then
      ⟨Rect.unit (k0_off5 ⟨k, h⟩) S1x768x128.size (k0_off5_inb ⟨k, h⟩), tileOut x0 x1 x2 x3 x4 ⟨k, h⟩⟩ :: outPieces x0 x1 x2 x3 x4 k
    else outPieces x0 x1 x2 x3 x4 k

/-- A load of a whole buffer's contents is the block read there. -/
theorem load_unread {sp : Space} {s : Shape} {e : EltTy} {mr : Memref sig .tc sp s e} (h : mr.IsWhole) (x : Vec F s e) (r : Rect s) :
    View.readAt (Elt F) mr.view r.toLoadRect (h.unread x) = View.ld x r :=
  funext fun j => h.readAt_unread x r.toLoadRect j

section
variable (𝒱 : Variants) (c : Dev nD) (bd : Option 𝒱.V) (i : grid0.Coords)
  (arg2 : Memref sig .tc .vmem S1x2x8448x128 .bf16) (harg2 : arg2.IsWhole) (arg3 : Memref sig .tc .vmem S1x1x11x128x768 .bf16) (harg3 : arg3.IsWhole) (arg4 : Memref sig .tc .vmem S1x1x11x128x768 .bf16) (harg4 : arg4.IsWhole) (arg5 : Memref sig .tc .vmem S1x1x8448x128 .bf16) (harg5 : arg5.IsWhole) (arg6 : Memref sig .tc .vmem S1x1x8448x128 .bf16) (harg6 : arg6.IsWhole)
  (arg7 : Memref sig .tc .vmem S1x8448x128 .bf16) (harg7 : arg7.IsWhole) (arg8 : Memref sig .tc .vmem S2x768x768 .f32) (harg8 : arg8.IsWhole) (arg9 : Memref sig .tc .vmem S2x768x768 .f32) (harg9 : arg9.IsWhole) (arg10 : Memref sig .tc .vmem S2x768x768 .f32) (harg10 : arg10.IsWhole)
  (x0 : Vec F S1x2x8448x128 .bf16) (x1 x2 : Vec F S1x1x11x128x768 .bf16) (x3 x4 : Vec F S1x1x8448x128 .bf16)

set_option maxHeartbeats 4000000 in
/-- What trip `k` stores into the output: tile `k` at rows `768 k`, given that the score buffer holds tile `k`'s first scores. -/
theorem trip_out (k : Fin k0_t1_loop.trips) (f7 : BufTy.Contents (Elt F) arg7.view.ty) (f8 : BufTy.Contents (Elt F) arg8.view.ty)
    (f9 : BufTy.Contents (Elt F) arg9.view.ty) (f10 : BufTy.Contents (Elt F) arg10.view.ty)
    (h0 : View.readAt (Elt F) arg8.view half0.toLoadRect f8 = slot x0 x1 0 k)
    (h1 : View.readAt (Elt F) arg8.view half1.toLoadRect f8 = slot x0 x2 1 k) :
    (tripL_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f7 f8 f9 f10).1
      = [⟨Rect.unit (k0_off5 k) S1x768x128.size (k0_off5_inb k), tileOut x0 x1 x2 x3 x4 k⟩] := by
  unfold tripL_k0_t1 trip_k0_t1
  dsimp only
  sl_unfold_run_names
  simp (disch := decide) only [↓ View.readCov_skip, ↓ View.readCov_cons_toLoadRect, load_unread, h0, h1]
  simp only [k0_pay3, k0_pay4, k0_pay5, k0_pay6, k0_pay7, k0_pay8, k0_pay9, k0_pay105, k0_pay106, k0_pay107, k0_pay108, slot, shapeCast_shapeCast]
  simp only [tileOut, quot, accAt, maxAt, newAcc, newMax, blockScores, masked, scores, kTile, vTile, qTile, Nat.reduceEqDiff, Nat.reduceMod, Nat.reduceMul,
    OfNat.ofNat_ne_zero, OfNat.zero_ne_ofNat, if_true, if_false]
  rfl

set_option maxHeartbeats 4000000 in
/-- What trip `k` stores last into the score buffer: the next tile's first scores, in both halves. -/
theorem trip_scores (k : Fin k0_t1_loop.trips) (f7 : BufTy.Contents (Elt F) arg7.view.ty) (f8 : BufTy.Contents (Elt F) arg8.view.ty)
    (f9 : BufTy.Contents (Elt F) arg9.view.ty) (f10 : BufTy.Contents (Elt F) arg10.view.ty) :
    ∃ L, (tripL_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f7 f8 f9 f10).2.1
      = ⟨half1, slot x0 x2 1 (nxt (k.val + 1))⟩ :: ⟨half0, slot x0 x1 0 (nxt (k.val + 1))⟩ :: L := by
  unfold tripL_k0_t1 trip_k0_t1
  dsimp only
  refine ⟨_, congrArg₂ List.cons (congrArg (Sigma.mk _) ?_) (congrArg₂ List.cons (congrArg (Sigma.mk _) ?_) rfl)⟩
  · simp only [load_unread, ld_congr x0 (off4_eq k) _ (qOff_inb 1 (nxt (k.val + 1)))]
    rfl
  · sl_unfold_run_names
    simp only [load_unread, ld_congr x0 (off3_eq k) _ (qOff_inb 0 (nxt (k.val + 1)))]
    rfl

/-- Before trip `k`: the output's stores so far, and the score buffer at tile `k`'s first scores — whatever the buffers held at entry,
    given that the score buffer held tile 0's. -/
theorem pb_eq (G7 : BufTy.Contents (Elt F) arg7.view.ty) (G8 : BufTy.Contents (Elt F) arg8.view.ty)
    (G9 : BufTy.Contents (Elt F) arg9.view.ty) (G10 : BufTy.Contents (Elt F) arg10.view.ty)
    (h0 : View.readAt (Elt F) arg8.view half0.toLoadRect G8 = slot x0 x1 0 (nxt 0))
    (h1 : View.readAt (Elt F) arg8.view half1.toLoadRect G8 = slot x0 x2 1 (nxt 0)) (k : ℕ) (hk : k ≤ k0_t1_loop.trips) :
    (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).1 = outPieces x0 x1 x2 x3 x4 k
    ∧ View.readAt (Elt F) arg8.view half0.toLoadRect (arg8.view.writes (Elt F) G8 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.1) = slot x0 x1 0 (nxt k)
    ∧ View.readAt (Elt F) arg8.view half1.toLoadRect (arg8.view.writes (Elt F) G8 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.1) = slot x0 x2 1 (nxt k) := by
  induction k with
  | zero => exact ⟨rfl, h0, h1⟩
  | succ k ih =>
    obtain ⟨i1, i2, i3⟩ := ih (Nat.le_of_succ_le hk)
    have hn : nxt k = ⟨k, hk⟩ := Fin.ext (min_eq_left (by have : k0_t1_loop.trips = 11 := by decide +kernel
                                                          omega))
    rw [hn] at i2 i3
    have e := pb_k0_t1_succ (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 ⟨k, hk⟩
    dsimp only at e
    rw [e]
    dsimp only
    refine ⟨?_, ?_⟩
    · have ht := trip_out 𝒱 c bd i arg2 harg2 arg3 harg3 arg4 harg4 arg5 harg5 arg6 harg6 arg7 harg7 arg8 harg8 arg9 harg9 arg10 harg10 x0 x1 x2 x3 x4 ⟨k, hk⟩
        (arg7.view.writes (Elt F) G7 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).1)
        (arg8.view.writes (Elt F) G8 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.1)
        (arg9.view.writes (Elt F) G9 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.2.1)
        (arg10.view.writes (Elt F) G10 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.2.2)
        i2 i3
      dsimp only at ht
      rw [ht, i1, outPieces, dif_pos (show k < k0_t1_loop.trips from hk)]
      rfl
    · obtain ⟨L, hL⟩ := trip_scores 𝒱 c bd i arg2 harg2 arg3 harg3 arg4 harg4 arg5 harg5 arg6 harg6 arg7 harg7 arg8 harg8 arg9 harg9 arg10 harg10 x0 x1 x2 x3 x4 ⟨k, hk⟩
        (arg7.view.writes (Elt F) G7 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).1)
        (arg8.view.writes (Elt F) G8 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.1)
        (arg9.view.writes (Elt F) G9 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.2.1)
        (arg10.view.writes (Elt F) G10 (pb_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G7 G8 G9 G10 k).2.2.2)
      dsimp only at hL
      rw [hL]
      exact ⟨load_half0 _ _ _ _ _, load_half1 _ _ _ _⟩

end

end Cert.KernelIdeal.Attn

end
-- ==== Proof.IdealRun.lean ====
/- The attention kernel's body run, its output named: the tiles of `outPieces`. -/
module

public import proofs.«01_k».proof.Proof.Gen.KernelIdeal.Frame.Runs
public import proofs.«01_k».proof.Proof.IdealTrip
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run: from whole staging buffers, the inputs' at their contents, it ends with the inputs as they were, the scratch at some contents and
    the output's buffer with the tiles' stores written. -/
theorem kernelRun (c : Dev nD) (i : grid0.Coords) (arg2 : Memref sig .tc .vmem S1x2x8448x128 .bf16) (harg2 : arg2.IsWhole) (arg3 : Memref sig .tc .vmem S1x1x11x128x768 .bf16) (harg3 : arg3.IsWhole) (arg4 : Memref sig .tc .vmem S1x1x11x128x768 .bf16) (harg4 : arg4.IsWhole) (arg5 : Memref sig .tc .vmem S1x1x8448x128 .bf16) (harg5 : arg5.IsWhole) (arg6 : Memref sig .tc .vmem S1x1x8448x128 .bf16) (harg6 : arg6.IsWhole) (arg7 : Memref sig .tc .vmem S1x8448x128 .bf16) (harg7 : arg7.IsWhole) (arg8 : Memref sig .tc .vmem S2x768x768 .f32) (harg8 : arg8.IsWhole) (arg9 : Memref sig .tc .vmem S2x768x768 .f32) (harg9 : arg9.IsWhole) (arg10 : Memref sig .tc .vmem S2x768x768 .f32) (harg10 : arg10.IsWhole)
    (x0 : Vec F S1x2x8448x128 .bf16) (x1 : Vec F S1x1x11x128x768 .bf16) (x2 : Vec F S1x1x11x128x768 .bf16) (x3 : Vec F S1x1x8448x128 .bf16) (x4 : Vec F S1x1x8448x128 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (outPieces x0 x1 x2 x3 x4 k0_t1_loop.trips)) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K := by
    intro E K
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · rw [(pb_eq _ _ _ _ _ _ _ _ _ _ _ _ _ _ _ _ _ _ _ _ _ _ x0 x1 x2 x3 x4 _ _ _ _ ?h0 ?h1 k0_t1_loop.trips le_rfl).1]
      · iexists _; iexact H5
      · sl_unfold_run_names
        rw [load_half0]
        simp only [load_unread, ld_congr x0 off0_eq _ (qOff_inb 0 (nxt 0))]
        rfl
      · sl_unfold_run_names
        rw [load_half1]
        simp only [load_unread, ld_congr x0 off0_eq' _ (qOff_inb 1 (nxt 0))]
        rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attn

end
-- ==== Proof.IdealFrame.lean ====
/- The idealized attention kernel's frame, and its result block by block. -/
module

public import proofs.«01_k».proof.Proof.IdealRun
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tiles cover the output's block. -/
theorem cover (x0 : Vec F S1x2x8448x128 .bf16) (x1 : Vec F S1x1x11x128x768 .bf16) (x2 : Vec F S1x1x11x128x768 .bf16) (x3 : Vec F S1x1x8448x128 .bf16) (x4 : Vec F S1x1x8448x128 .bf16) (y : S1x8448x128.Idx) :
    ∃ pc ∈ outPieces x0 x1 x2 x3 x4 k0_t1_loop.trips, y ∈ pc.1.set :=
  View.cover_of_tiledL (outPieces x0 x1 x2 x3 x4 k0_t1_loop.trips) S1x768x128.size (by sl_kernel_rfl) y

/-- What the body leaves in the output's staging buffer. -/
def blockOut (x0 : Vec F S1x2x8448x128 .bf16) (x1 : Vec F S1x1x11x128x768 .bf16) (x2 : Vec F S1x1x11x128x768 .bf16) (x3 : Vec F S1x1x8448x128 .bf16) (x4 : Vec F S1x1x8448x128 .bf16) : Vec F S1x8448x128 .bf16 :=
  VO0_5.read (Elt F) (VO0_5.writes (Elt F) VO0_5.junk (outPieces x0 x1 x2 x3 x4 k0_t1_loop.trips))

/-! ## What the outputs hold after each point -/

/-- What the outputs' staging buffers hold after the body at point `t`: the run's contents at
    the point's memrefs and input blocks. -/
def outsAt0 (c : Dev nD) (t : Fin cfg0.N) : Vec F S1x8448x128 .bf16 :=
  blockOut (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold blockOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- In full: the tiles, read through the block. -/
theorem flushed5_eq (c : Dev nD) (t : Fin cfg0.N) :
    (dats m 0 c).flushed 5 t = (cfg0.win 5).cut (grid0.coords t) (blockOut (iblk m c 0 t) (iblk m c 1 t) (iblk m c 2 t) (iblk m c 3 t) (iblk m c 4 t)) := by
  simp only [flushed5, outsAt0]

/-- The index map sends distinct grid points to distinct block indices (decided over the 96 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S12x8448x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v57) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v57) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Attn

end
-- ==== Proof.HostArrays.lean ====
/- The arrays that the attention's region finds: the queries' slots, the keys' slabs and the values' slabs,
   as functions of the arguments. -/
module

public import proofs.«01_k».proof.Proof.IdealFrame
public import Idealize.ShloMosaic.Lib.StableHlo.RunRead
public import Idealize.ShloMosaic.Lib.Pointwise

@[expose] public section
set_option maxRecDepth 16384
noncomputable section
namespace Cert.KernelIdeal.Attn

open Cert.KernelIdeal Cert.KernelIdeal.Gen
open Idealize.ShloMosaic Idealize.ShloMosaic.TcCoe Idealize.ShloMosaic.Tactic
open Idealize.SL

/-- The grouped heads' factor, and the latent heads'. -/
def scaleG : FVec Ideal S_ .f32 :=
  Host.divf (constant S_ .f32 0x3F800000#32) (mulf (Host.log (constant S_ .f32 0x40000000#32)) (Host.sqrt (constant S_ .f32 0x42800000#32)))
def scaleM : FVec Ideal S_ .f32 :=
  Host.divf (constant S_ .f32 0x3F800000#32) (mulf (Host.log (constant S_ .f32 0x40000000#32)) (Host.sqrt (constant S_ .f32 0x42C00000#32)))

/-- The grouped heads' queries, scaled. -/
def scaledG (x : FVec Ideal S12x8448x8x64 .f32) : FVec Ideal S12x8448x8x64 .bf16 :=
  truncf .bf16 (mulf x (broadcastInDim S12x8448x8x64 ![] bcast_S_S12x8448x8x64 scaleG)) bitsLt_bf16_f32

/-- Whether a grouped head belongs to the first group. -/
def firstGroup : IVec S12x8448x8x64 1 :=
  broadcastInDim S12x8448x8x64 ![0, 1, 2, 3] bcast_S1x1x8x1_S12x8448x8x64_0_1_2_3
    (broadcastInDim S1x1x8x1 ![2] bcast_S8_S1x1x8x1_2
      (cmpi .slt (iotaInDim S8 32 0) (broadcastInDim S8 ![] bcast_S_S8 (constantI S_ 32 4#32))))

def zeroG : FVec Ideal S12x8448x8x64 .bf16 := broadcastInDim S12x8448x8x64 ![] bcast_S_S12x8448x8x64 (constant S_ .bf16 0x0000#16)

/-- The grouped heads' slots: the queries in their group's half of the lanes. -/
def slotsG (x : FVec Ideal S12x8448x8x64 .f32) : FVec Ideal S12x8448x8x128 .bf16 :=
  concatenate S12x8448x8x128 3 [⟨S12x8448x8x64, select firstGroup (scaledG x) zeroG⟩, ⟨S12x8448x8x64, select firstGroup zeroG (scaledG x)⟩]
    concatenates_S12x8448x8x64_S12x8448x8x64_S12x8448x8x128_d3

/-- The latent heads' slots. -/
def slotsM (x : FVec Ideal S12x8448x8x96 .f32) : FVec Ideal S12x8448x8x128 .bf16 :=
  pad S12x8448x8x128 ![0, 0, 0, 0] ![0, 0, 0, 32] ![0, 0, 0, 0]
    (truncf .bf16 (mulf x (broadcastInDim S12x8448x8x96 ![] bcast_S_S12x8448x8x96 scaleM)) bitsLt_bf16_f32)
    (sitofp .bf16 (constantI S_ 32 0#32)) pads_S12x8448x8x96_S12x8448x8x128_000_000_000_0320 h_S_

/-- All heads' slots. -/
def slots (x : FVec Ideal S12x8448x8x64 .f32) (y : FVec Ideal S12x8448x8x96 .f32) : FVec Ideal S12x16x8448x128 .bf16 :=
  transpose S12x16x8448x128 [0, 2, 1, 3]
    (concatenate S12x8448x16x128 2 [⟨S12x8448x8x128, slotsG x⟩, ⟨S12x8448x8x128, slotsM y⟩] concatenates_S12x8448x8x128_S12x8448x8x128_S12x8448x16x128_d2)
    transposes_S12x8448x16x128_S12x16x8448x128_0_2_1_3

/-- The latent heads' keys, their two parts side by side, padded. -/
def keysM (x : FVec Ideal S12x8448x8x64 .f32) (y : FVec Ideal S12x8448x32 .f32) : FVec Ideal S12x8448x8x128 .f32 :=
  pad S12x8448x8x128 ![0, 0, 0, 0] ![0, 0, 0, 32] ![0, 0, 0, 0]
    (concatenate S12x8448x8x96 3 [⟨S12x8448x8x64, x⟩,
        ⟨S12x8448x8x32, broadcastInDim S12x8448x8x32 ![0, 1, 2, 3] bcast_S12x8448x1x32_S12x8448x8x32_0_1_2_3
          (broadcastInDim S12x8448x1x32 ![0, 1, 3] bcast_S12x8448x32_S12x8448x1x32_0_1_3 y)⟩]
      concatenates_S12x8448x8x64_S12x8448x8x32_S12x8448x8x96_d3)
    (sitofp .f32 (constantI S_ 32 0#32)) pads_S12x8448x8x96_S12x8448x8x128_000_000_000_0320 h_S_

/-- All slabs of keys, row by row. -/
def keyRows (k : FVec Ideal S12x8448x2x64 .f32) (x : FVec Ideal S12x8448x8x64 .f32) (y : FVec Ideal S12x8448x32 .f32) :
    FVec Ideal S12x8448x9x128 .bf16 :=
  truncf .bf16 (concatenate S12x8448x9x128 2 [⟨S12x8448x1x128, shapeCast S12x8448x1x128 k shapeCasts_S12x8448x2x64_S12x8448x1x128⟩, ⟨S12x8448x8x128, keysM x y⟩]
      concatenates_S12x8448x1x128_S12x8448x8x128_S12x8448x9x128_d2) bitsLt_bf16_f32

/-- All slabs of keys, tile by tile. -/
def keySlabs (k : FVec Ideal S12x8448x2x64 .f32) (x : FVec Ideal S12x8448x8x64 .f32) (y : FVec Ideal S12x8448x32 .f32) :
    FVec Ideal S12x9x11x128x768 .bf16 :=
  transpose S12x9x11x128x768 [0, 3, 1, 4, 2]
    (shapeCast S12x11x768x9x128 (keyRows k x y) shapeCasts_S12x8448x9x128_S12x11x768x9x128)
    transposes_S12x11x768x9x128_S12x9x11x128x768_0_3_1_4_2

def onesG : FVec Ideal S12x8448x2x64 .f32 := broadcastInDim S12x8448x2x64 ![] bcast_S_S12x8448x2x64 (constant S_ .f32 0x3F800000#32)
def onesM : FVec Ideal S12x8448x4x64 .f32 := broadcastInDim S12x8448x4x64 ![] bcast_S_S12x8448x4x64 (constant S_ .f32 0x3F800000#32)

/-- The grouped heads' values: each group twice, with ones in the upper and in the lower half. -/
def valuesG (v : FVec Ideal S12x8448x2x64 .f32) : FVec Ideal S12x8448x4x128 .f32 :=
  shapeCast S12x8448x4x128
    (concatenate S12x8448x2x2x128 3
      [⟨S12x8448x2x1x128, broadcastInDim S12x8448x2x1x128 ![0, 1, 2, 4] bcast_S12x8448x2x128_S12x8448x2x1x128_0_1_2_4
          (concatenate S12x8448x2x128 3 [⟨S12x8448x2x64, v⟩, ⟨S12x8448x2x64, onesG⟩] concatenates_S12x8448x2x64_S12x8448x2x64_S12x8448x2x128_d3)⟩,
       ⟨S12x8448x2x1x128, broadcastInDim S12x8448x2x1x128 ![0, 1, 2, 4] bcast_S12x8448x2x128_S12x8448x2x1x128_0_1_2_4
          (concatenate S12x8448x2x128 3 [⟨S12x8448x2x64, onesG⟩, ⟨S12x8448x2x64, v⟩] concatenates_S12x8448x2x64_S12x8448x2x64_S12x8448x2x128_d3)⟩]
      concatenates_S12x8448x2x1x128_S12x8448x2x1x128_S12x8448x2x2x128_d3)
    shapeCasts_S12x8448x2x2x128_S12x8448x4x128

/-- The latent heads' values: the even heads' with ones above, the odd heads' with ones below. -/
def evenM (v : FVec Ideal S12x8448x8x64 .f32) : FVec Ideal S12x8448x4x64 .f32 :=
  shapeCast S12x8448x4x64 (extractStridedSlice S12x8448x4x1x64 ![0, 0, 0, 0, 0]
    (shapeCast S12x8448x4x2x64 v shapeCasts_S12x8448x8x64_S12x8448x4x2x64) slices_S12x8448x4x2x64_S12x8448x4x1x64_0_0_0_0_0)
    shapeCasts_S12x8448x4x1x64_S12x8448x4x64
def oddM (v : FVec Ideal S12x8448x8x64 .f32) : FVec Ideal S12x8448x4x64 .f32 :=
  shapeCast S12x8448x4x64 (extractStridedSlice S12x8448x4x1x64 ![0, 0, 0, 1, 0]
    (shapeCast S12x8448x4x2x64 v shapeCasts_S12x8448x8x64_S12x8448x4x2x64) slices_S12x8448x4x2x64_S12x8448x4x1x64_0_0_0_1_0)
    shapeCasts_S12x8448x4x1x64_S12x8448x4x64
def valuesM (v : FVec Ideal S12x8448x8x64 .f32) : FVec Ideal S12x8448x8x128 .f32 :=
  shapeCast S12x8448x8x128
    (concatenate S12x8448x4x2x128 3
      [⟨S12x8448x4x1x128, broadcastInDim S12x8448x4x1x128 ![0, 1, 2, 4] bcast_S12x8448x4x128_S12x8448x4x1x128_0_1_2_4
          (concatenate S12x8448x4x128 3 [⟨S12x8448x4x64, evenM v⟩, ⟨S12x8448x4x64, onesM⟩] concatenates_S12x8448x4x64_S12x8448x4x64_S12x8448x4x128_d3)⟩,
       ⟨S12x8448x4x1x128, broadcastInDim S12x8448x4x1x128 ![0, 1, 2, 4] bcast_S12x8448x4x128_S12x8448x4x1x128_0_1_2_4
          (concatenate S12x8448x4x128 3 [⟨S12x8448x4x64, onesM⟩, ⟨S12x8448x4x64, oddM v⟩] concatenates_S12x8448x4x64_S12x8448x4x64_S12x8448x4x128_d3)⟩]
      concatenates_S12x8448x4x1x128_S12x8448x4x1x128_S12x8448x4x2x128_d3)
    shapeCasts_S12x8448x4x2x128_S12x8448x8x128

/-- All slabs of values. -/
def valueSlabs (v : FVec Ideal S12x8448x2x64 .f32) (w : FVec Ideal S12x8448x8x64 .f32) : FVec Ideal S12x12x8448x128 .bf16 :=
  transpose S12x12x8448x128 [0, 2, 1, 3]
    (truncf .bf16 (concatenate S12x8448x12x128 2 [⟨S12x8448x4x128, valuesG v⟩, ⟨S12x8448x8x128, valuesM w⟩]
      concatenates_S12x8448x4x128_S12x8448x8x128_S12x8448x12x128_d2) bitsLt_bf16_f32)
    transposes_S12x8448x12x128_S12x12x8448x128_0_2_1_3

variable (m : (ℓ : Loc nD τ sig) → Buf (Elt Ideal) ℓ)

theorem region_queries (c : Dev nD) : V m c main_v23 =
    slots (m ((c : Thread nD τ).loc main_arg0)) (m ((c : Thread nD τ).loc main_arg3)) := by
  simp only [V, List.flatten_cons, List.flatten_nil, List.append_nil]
  after_reads_simp
  rfl

/-- Two concatenations of equal parts. -/
theorem concatenate_congr {α : Type} {S S1 S2 : Shape} {d : Fin S.rank} {a a' : S1.Idx → α} {b b' : S2.Idx → α}
    (h : Shape.Concatenates [S1, S2] S d) (ha : a = a') (hb : b = b') :
    concatenate S d [⟨S1, a⟩, ⟨S2, b⟩] h = concatenate S d [⟨S1, a'⟩, ⟨S2, b'⟩] h := by
  subst ha hb; rfl

theorem region_keys (c : Dev nD) : V m c main_v32 =
    keySlabs (m ((c : Thread nD τ).loc main_arg1)) (m ((c : Thread nD τ).loc main_arg4)) (m ((c : Thread nD τ).loc main_arg5)) := by
  simp only [V, List.flatten_cons, List.flatten_nil, List.append_nil]
  after_reads_simp
  unfold keySlabs keyRows keysM
  refine congrArg (fun z => transpose S12x9x11x128x768 [0, 3, 1, 4, 2] (shapeCast S12x11x768x9x128 (truncf .bf16 z bitsLt_bf16_f32) shapeCasts_S12x8448x9x128_S12x11x768x9x128) transposes_S12x11x768x9x128_S12x9x11x128x768_0_3_1_4_2) (concatenate_congr _ ?_ ?_)
  · after_reads_simp
    rfl
  · after_reads_simp
    refine congrArg (fun z : FVec Ideal S12x8448x8x96 .f32 => pad S12x8448x8x128 ![0, 0, 0, 0] ![0, 0, 0, 32] ![0, 0, 0, 0] z (sitofp .f32 (constantI S_ 32 0#32))
      pads_S12x8448x8x96_S12x8448x8x128_000_000_000_0320 h_S_) (concatenate_congr _ ?_ ?_)
    · after_reads_simp
    · after_reads_simp

theorem region_values (c : Dev nD) : V m c main_v56 =
    valueSlabs (m ((c : Thread nD τ).loc main_arg2)) (m ((c : Thread nD τ).loc main_arg6)) := by
  simp only [V, List.flatten_cons, List.flatten_nil, List.append_nil]
  after_reads_simp
  unfold valueSlabs valuesG valuesM
  refine congrArg (fun z => transpose S12x12x8448x128 [0, 2, 1, 3] (truncf .bf16 z bitsLt_bf16_f32) transposes_S12x8448x12x128_S12x12x8448x128_0_2_1_3) (concatenate_congr _ ?_ ?_)
  · after_reads_simp
    refine congrArg (fun z : FVec Ideal S12x8448x2x2x128 .f32 => shapeCast S12x8448x4x128 z shapeCasts_S12x8448x2x2x128_S12x8448x4x128) (concatenate_congr _ ?_ ?_)
    · after_reads_simp
      refine congrArg (fun z : FVec Ideal S12x8448x2x128 .f32 => broadcastInDim S12x8448x2x1x128 ![0, 1, 2, 4] bcast_S12x8448x2x128_S12x8448x2x1x128_0_1_2_4 z) (concatenate_congr _ ?_ ?_)
      · after_reads_simp
      · after_reads_simp; rfl
    · after_reads_simp
      refine congrArg (fun z : FVec Ideal S12x8448x2x128 .f32 => broadcastInDim S12x8448x2x1x128 ![0, 1, 2, 4] bcast_S12x8448x2x128_S12x8448x2x1x128_0_1_2_4 z) (concatenate_congr _ ?_ ?_)
      · after_reads_simp; rfl
      · after_reads_simp
  · after_reads_simp
    refine congrArg (fun z : FVec Ideal S12x8448x4x2x128 .f32 => shapeCast S12x8448x8x128 z shapeCasts_S12x8448x4x2x128_S12x8448x8x128) (concatenate_congr _ ?_ ?_)
    · after_reads_simp
      refine congrArg (fun z : FVec Ideal S12x8448x4x128 .f32 => broadcastInDim S12x8448x4x1x128 ![0, 1, 2, 4] bcast_S12x8448x4x128_S12x8448x4x1x128_0_1_2_4 z) (concatenate_congr _ ?_ ?_)
      · after_reads_simp; rfl
      · after_reads_simp; rfl
    · after_reads_simp
      refine congrArg (fun z : FVec Ideal S12x8448x4x128 .f32 => broadcastInDim S12x8448x4x1x128 ![0, 1, 2, 4] bcast_S12x8448x4x128_S12x8448x4x1x128_0_1_2_4 z) (concatenate_congr _ ?_ ?_)
      · after_reads_simp; rfl
      · after_reads_simp; rfl

end Cert.KernelIdeal.Attn
end
-- ==== Proof.HostReads.lean ====
/- The region's arrays at an index. -/
module

public import proofs.«01_k».proof.Proof.HostArrays
public import Idealize.ShloMosaic.Lib.Pointwise

@[expose] public section
set_option maxRecDepth 16384
noncomputable section
namespace Cert.KernelIdeal.Attn

open Cert.KernelIdeal Cert.KernelIdeal.Gen
open Idealize.ShloMosaic Idealize.ShloMosaic.TcCoe Idealize.ShloMosaic.Tactic
open Idealize.SL

/-- Whether a grouped head is of the first group, as the word that the comparison gives. -/
theorem slt_four : ∀ h : Fin 8, IntOp.cmpi CmpIPredicate.slt (BitVec.ofNat 32 h.val) 4#32 = if h.val < 4 then 1#1 else 0#1 := by decide

theorem sitofp_zero {φ : FTy} : (FloatOps.sitofp φ (0#32 : BitVec 32) : Ideal φ) = (0 : EReal) := by
  show (((0#32 : BitVec 32).toInt : ℝ) : EReal) = 0
  simp

theorem bits_two : Ideal.ofBits FTy.f32 0x40000000#32 = ((2 : ℝ) : EReal) := by
  simp [Ideal.ofBits, Ideal.ieee]
  rw [← EReal.coe_mul]; norm_num
theorem bits_64 : Ideal.ofBits FTy.f32 0x42800000#32 = ((64 : ℝ) : EReal) := by
  simp [Ideal.ofBits, Ideal.ieee]
  rw [← EReal.coe_mul]; norm_num
theorem bits_96 : Ideal.ofBits FTy.f32 0x42C00000#32 = ((96 : ℝ) : EReal) := by
  simp [Ideal.ofBits, Ideal.ieee]
  rw [← EReal.coe_mul]; norm_num

/-- The factors are the reals `1 / (ln 2 · √d)`. -/
theorem factorG : Ideal.div 1 (Ideal.log (Ideal.ofBits FTy.f32 0x40000000#32) * Ideal.sqrt (Ideal.ofBits FTy.f32 0x42800000#32))
    = (((Real.log 2)⁻¹ * 8⁻¹ : ℝ) : EReal) := by
  have h2 : (0 : ℝ) < Real.log 2 := Real.log_pos (by norm_num)
  have h8 : Real.sqrt 64 = 8 := by rw [show (64 : ℝ) = 8 ^ 2 by norm_num]; exact Real.sqrt_sq (by norm_num)
  rw [bits_two, bits_64, Ideal.log_coe, Ideal.sqrt_coe, h8, if_neg (by norm_num), if_neg (by norm_num), ← EReal.coe_mul,
    Ideal.div_coe (show Real.log 2 * 8 ≠ 0 by positivity), one_mul, one_div, mul_inv]
theorem factorM : Ideal.div 1 (Ideal.log (Ideal.ofBits FTy.f32 0x40000000#32) * Ideal.sqrt (Ideal.ofBits FTy.f32 0x42C00000#32))
    = (((Real.log 2)⁻¹ * (Real.sqrt 96)⁻¹ : ℝ) : EReal) := by
  have h2 : (0 : ℝ) < Real.log 2 := Real.log_pos (by norm_num)
  have h8 : (0 : ℝ) < Real.sqrt 96 := Real.sqrt_pos.2 (by norm_num)
  rw [bits_two, bits_96, Ideal.log_coe, Ideal.sqrt_coe, if_neg (by norm_num), if_neg (by norm_num), ← EReal.coe_mul,
    Ideal.div_coe (show Real.log 2 * Real.sqrt 96 ≠ 0 by positivity), one_mul, one_div, mul_inv]

theorem slots_apply_grouped (x : FVec Ideal S12x8448x8x64 .f32) (y : FVec Ideal S12x8448x8x96 .f32) (b : Fin 12) (h : Fin 8) (row : Fin 8448) (d : Fin 128) :
    slots x y (ix4 b ⟨h.val, by omega⟩ row d) = slotsG x (ix4 b row h d) := by
  unfold slots
  generalize slotsG x = X
  generalize slotsM y = Y
  pointwise

theorem slots_apply_latent (x : FVec Ideal S12x8448x8x64 .f32) (y : FVec Ideal S12x8448x8x96 .f32) (b : Fin 12) (h : Fin 8) (row : Fin 8448) (d : Fin 128) :
    slots x y (ix4 b ⟨8 + h.val, by omega⟩ row d) = slotsM y (ix4 b row h d) := by
  unfold slots
  generalize slotsG x = X
  generalize slotsM y = Y
  pointwise

theorem slotsG_low (x : FVec Ideal S12x8448x8x64 .f32) (b : Fin 12) (h : Fin 8) (row : Fin 8448) (d : Fin 64) :
    slotsG x (ix4 b row h ⟨d.val, by omega⟩) = if h.val < 4 then scaledG x (ix4 b row h d) else 0 := by
  unfold slotsG firstGroup zeroG
  generalize scaledG x = X
  pointwise
  revert h
  intro h
  by_cases e : h.val < 4
  · rw [if_pos e, slt_four h, if_pos e]; rfl
  · rw [if_neg e, slt_four h, if_neg e]; rfl

theorem slotsG_high (x : FVec Ideal S12x8448x8x64 .f32) (b : Fin 12) (h : Fin 8) (row : Fin 8448) (d : Fin 64) :
    slotsG x (ix4 b row h ⟨64 + d.val, by omega⟩) = if h.val < 4 then 0 else scaledG x (ix4 b row h d) := by
  unfold slotsG firstGroup zeroG
  generalize scaledG x = X
  pointwise
  revert h
  intro h
  by_cases e : h.val < 4
  · rw [if_pos e, slt_four h, if_pos e]; rfl
  · rw [if_neg e, slt_four h, if_neg e]; rfl

theorem scaledG_apply (x : FVec Ideal S12x8448x8x64 .f32) (b : Fin 12) (h : Fin 8) (row : Fin 8448) (d : Fin 64) :
    scaledG x (ix4 b row h d) = x (ix4 b row h d) * (((Real.log 2)⁻¹ * 8⁻¹ : ℝ) : EReal) := by
  unfold scaledG scaleG
  pointwise
  rw [factorG]

theorem slotsM_apply (y : FVec Ideal S12x8448x8x96 .f32) (b : Fin 12) (h : Fin 8) (row : Fin 8448) (d : Fin 128) :
    slotsM y (ix4 b row h d) = if hd : d.val < 96 then y (ix4 b row h ⟨d.val, hd⟩) * (((Real.log 2)⁻¹ * (Real.sqrt 96)⁻¹ : ℝ) : EReal) else 0 := by
  unfold slotsM scaleM
  pointwise
  rw [factorM, sitofp_zero]

theorem keySlabs_apply (k : FVec Ideal S12x8448x2x64 .f32) (x : FVec Ideal S12x8448x8x64 .f32) (y : FVec Ideal S12x8448x32 .f32)
    (b : Fin 12) (s : Fin 9) (n : Fin 8448) (d : Fin 128) :
    keySlabs k x y (ix5 b s ⟨n.val / 768, by omega⟩ d ⟨n.val % 768, by omega⟩) = keyRows k x y (ix4 b n s d) := by
  unfold keySlabs
  generalize keyRows k x y = X
  pointwise

theorem keyRows_grouped (k : FVec Ideal S12x8448x2x64 .f32) (x : FVec Ideal S12x8448x8x64 .f32) (y : FVec Ideal S12x8448x32 .f32)
    (b : Fin 12) (n : Fin 8448) (d : Fin 128) :
    keyRows k x y (ix4 b n 0 d) = k (ix4 b n ⟨d.val / 64, by omega⟩ ⟨d.val % 64, by omega⟩) := by
  unfold keyRows
  generalize keysM x y = X
  pointwise

theorem keyRows_latent (k : FVec Ideal S12x8448x2x64 .f32) (x : FVec Ideal S12x8448x8x64 .f32) (y : FVec Ideal S12x8448x32 .f32)
    (b : Fin 12) (n : Fin 8448) (h : Fin 8) (d : Fin 128) :
    keyRows k x y (ix4 b n ⟨1 + h.val, by omega⟩ d) = keysM x y (ix4 b n h d) := by
  unfold keyRows
  generalize keysM x y = X
  pointwise

theorem keysM_apply (x : FVec Ideal S12x8448x8x64 .f32) (y : FVec Ideal S12x8448x32 .f32)
    (b : Fin 12) (n : Fin 8448) (h : Fin 8) (d : Fin 128) :
    keysM x y (ix4 b n h d) = if h0 : d.val < 64 then x (ix4 b n h ⟨d.val, h0⟩) else if h1 : d.val < 96 then y (ix3 b n ⟨d.val - 64, by omega⟩) else 0 := by
  unfold keysM
  pointwise
  rw [sitofp_zero]
  by_cases h0 : d.val < 64
  · rw [dif_pos (by omega), dif_pos h0, dif_pos h0]
  · rw [dif_neg h0]
    by_cases h1 : d.val < 96
    · rw [dif_pos h1, dif_neg h0, dif_pos h1]
    · rw [dif_neg h1, dif_neg h1]

theorem valueSlabs_grouped (v : FVec Ideal S12x8448x2x64 .f32) (w : FVec Ideal S12x8448x8x64 .f32) (b : Fin 12) (s : Fin 4) (n : Fin 8448) (l : Fin 128) :
    valueSlabs v w (ix4 b ⟨s.val, by omega⟩ n l) = valuesG v (ix4 b n s l) := by
  unfold valueSlabs
  generalize valuesG v = X
  generalize valuesM w = Y
  pointwise

theorem valueSlabs_latent (v : FVec Ideal S12x8448x2x64 .f32) (w : FVec Ideal S12x8448x8x64 .f32) (b : Fin 12) (s : Fin 8) (n : Fin 8448) (l : Fin 128) :
    valueSlabs v w (ix4 b ⟨4 + s.val, by omega⟩ n l) = valuesM w (ix4 b n s l) := by
  unfold valueSlabs
  generalize valuesG v = X
  generalize valuesM w = Y
  pointwise

theorem valuesG_apply (v : FVec Ideal S12x8448x2x64 .f32) (b : Fin 12) (s : Fin 4) (n : Fin 8448) (l : Fin 128) :
    valuesG v (ix4 b n s l) = if s.val % 2 = 0 then (if hl : l.val < 64 then v (ix4 b n ⟨s.val / 2, by omega⟩ ⟨l.val, hl⟩) else 1)
      else (if hl : l.val < 64 then 1 else v (ix4 b n ⟨s.val / 2, by omega⟩ ⟨l.val - 64, by omega⟩)) := by
  unfold valuesG onesG
  pointwise
  by_cases e : s.val % 2 = 0
  · exact (dif_pos (show s.val % 2 < 1 by omega)).trans (if_pos e).symm
  · exact (dif_neg (show ¬ s.val % 2 < 1 by omega)).trans (if_neg e).symm

theorem valuesM_apply (w : FVec Ideal S12x8448x8x64 .f32) (b : Fin 12) (s : Fin 8) (n : Fin 8448) (l : Fin 128) :
    valuesM w (ix4 b n s l) = if s.val % 2 = 0 then (if hl : l.val < 64 then w (ix4 b n s ⟨l.val, hl⟩) else 1)
      else (if hl : l.val < 64 then 1 else w (ix4 b n s ⟨l.val - 64, by omega⟩)) := by
  unfold valuesM evenM oddM onesM
  pointwise
  by_cases e : s.val % 2 = 0
  · refine (dif_pos (show s.val % 2 < 1 by omega)).trans (Eq.trans ?_ (if_pos e).symm)
    have : s.val / 2 * 2 = s.val := by omega
    simp only [this]
  · refine (dif_neg (show ¬ s.val % 2 < 1 by omega)).trans (Eq.trans ?_ (if_neg e).symm)
    have : s.val / 2 * 2 + 1 = s.val := by omega
    simp only [this]

end Cert.KernelIdeal.Attn
end
-- ==== Proof.Online.lean ====
/-
  The online softmax over extended reals: a running maximum and a running weighted sum, rescaled block by block, end at the
  weighted sum against the last maximum; the quotient of two such sums is the softmax average.
-/
module

public import Idealize.ShloMosaic.PureOps.Ideal

@[expose] public section

noncomputable section

namespace Cert.Online

open Idealize.ShloMosaic

/-- A power of two of anything below `⊤` is a non-negative real. -/
theorem exp2_real {x : EReal} (hx : x ≠ ⊤) : ∃ r : ℝ, 0 ≤ r ∧ Ideal.exp2 x = (r : EReal) := by
  induction x using EReal.rec with
  | bot => exact ⟨0, le_refl _, by simp⟩
  | top => exact absurd rfl hx
  | coe t => exact ⟨Real.rpow 2 t, Real.rpow_nonneg (by norm_num) t, Ideal.exp2_coe t⟩

/-- Below `⊤`, less a real, is below `⊤`. -/
theorem sub_coe_ne_top {x : EReal} (hx : x ≠ ⊤) (μ : ℝ) : x - (μ : EReal) ≠ ⊤ := by
  induction x using EReal.rec with
  | bot => simp
  | top => exact absurd rfl hx
  | coe t => rw [← EReal.coe_sub]; exact EReal.coe_ne_top _

/-- Rescaling a weight from one maximum to another. -/
theorem exp2_rescale {x : EReal} (hx : x ≠ ⊤) (μ ν : ℝ) :
    Ideal.exp2 ((μ : EReal) - (ν : EReal)) * Ideal.exp2 (x - (μ : EReal)) = Ideal.exp2 (x - (ν : EReal)) := by
  induction x using EReal.rec with
  | bot => simp
  | top => exact absurd rfl hx
  | coe t =>
    rw [← EReal.coe_sub, ← EReal.coe_sub, ← EReal.coe_sub, Ideal.exp2_coe, Ideal.exp2_coe, Ideal.exp2_coe, ← EReal.coe_mul]
    congr 1
    show (2 : ℝ) ^ (μ - ν) * (2 : ℝ) ^ (t - μ) = (2 : ℝ) ^ (t - ν)
    rw [← Real.rpow_add (by norm_num)]
    congr 1; ring

/-- A non-negative real distributes over a sum of extended reals. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top _) _ _

/-- The sum of reals, in the extended reals, is their real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running maximum after `j` blocks of `T` scores. -/
def runMax {T : ℕ} (s : ℕ → Fin T → EReal) : ℕ → EReal
  | 0 => ⊥
  | j + 1 => max (runMax s j) (Finset.univ.sup (s j))

/-- The running weighted sum after `j` blocks, rescaled at each block. -/
def runAcc {T : ℕ} (s v : ℕ → Fin T → EReal) : ℕ → EReal
  | 0 => 0
  | j + 1 => Ideal.exp2 (runMax s j - runMax s (j + 1)) * runAcc s v j
      + ∑ c, Ideal.exp2 (s j c - runMax s (j + 1)) * v j c

theorem runMax_ne_top {T : ℕ} (s : ℕ → Fin T → EReal) (hs : ∀ i c, s i c ≠ ⊤) (j : ℕ) : runMax s j ≠ ⊤ := by
  induction j with
  | zero => simp [runMax]
  | succ j ih =>
    rw [runMax, ← lt_top_iff_ne_top, max_lt_iff]
    refine ⟨lt_top_iff_ne_top.2 ih, ?_⟩
    rw [Finset.sup_lt_iff (by simp)]
    exact fun c _ => lt_top_iff_ne_top.2 (hs j c)

theorem runMax_ne_bot {T : ℕ} (s : ℕ → Fin T → EReal) (h0 : ∃ c, s 0 c ≠ ⊥) (j : ℕ) : runMax s (j + 1) ≠ ⊥ := by
  induction j with
  | zero =>
    obtain ⟨c, hc⟩ := h0
    rw [← bot_lt_iff_ne_bot] at hc ⊢
    exact lt_of_lt_of_le hc ((Finset.le_sup (f := s 0) (Finset.mem_univ c)).trans (le_max_right _ _))
  | succ j ih =>
    rw [← bot_lt_iff_ne_bot] at ih ⊢
    exact lt_of_lt_of_le ih (le_max_left _ _)

/-- After one block or more, the running maximum is a real. -/
theorem runMax_real {T : ℕ} (s : ℕ → Fin T → EReal) (hs : ∀ i c, s i c ≠ ⊤) (h0 : ∃ c, s 0 c ≠ ⊥) (j : ℕ) :
    ∃ μ : ℝ, runMax s (j + 1) = (μ : EReal) :=
  ⟨_, (EReal.coe_toReal (runMax_ne_top s hs _) (runMax_ne_bot s h0 j)).symm⟩

/-- The running sum is the weighted sum of all scores so far against the running maximum. -/
theorem runAcc_eq {T : ℕ} (s v : ℕ → Fin T → EReal) (hs : ∀ i c, s i c ≠ ⊤) (h0 : ∃ c, s 0 c ≠ ⊥) (j : ℕ) :
    runAcc s v (j + 1) = ∑ i ∈ Finset.range (j + 1), ∑ c, Ideal.exp2 (s i c - runMax s (j + 1)) * v i c := by
  induction j with
  | zero =>
    rw [Finset.sum_range_one, runAcc, runAcc, mul_zero, zero_add]
  | succ j ih =>
    rw [runAcc, ih, Finset.sum_range_succ _ (j + 1)]
    congr 1
    obtain ⟨μ, hμ⟩ := runMax_real s hs h0 j
    obtain ⟨ν, hν⟩ := runMax_real s hs h0 (j + 1)
    rw [hμ, hν]
    obtain ⟨r, hr, hre⟩ := exp2_real (sub_coe_ne_top (EReal.coe_ne_top μ) ν)
    rw [hre, coe_mul_sum _ hr]
    refine Finset.sum_congr rfl fun i _ => ?_
    rw [coe_mul_sum _ hr]
    refine Finset.sum_congr rfl fun c _ => ?_
    rw [← mul_assoc, ← hre, exp2_rescale (hs i c)]

/-- A sum block by block is the sum over the keys in order. -/
theorem sum_blocks (T n : ℕ) (f : ℕ → EReal) :
    ∑ i ∈ Finset.range n, ∑ c : Fin T, f (i * T + c.val) = ∑ k ∈ Finset.range (n * T), f k := by
  induction n with
  | zero => simp
  | succ n ih =>
    rw [Finset.sum_range_succ, ih, Nat.succ_mul, Finset.sum_range_add]
    congr 1
    exact Fin.sum_univ_eq_sum_range (fun c => f (n * T + c)) T

/-- The weighted sum over all blocks when the keys from `N` on are masked (their scores are `⊥`): only the first `N` count. -/
theorem sum_blocks_masked (T n N : ℕ) (hN : N ≤ n * T) (t : ℕ → EReal) (v : ℕ → EReal) (μ : ℝ) (hm : ∀ k, N ≤ k → t k = ⊥) :
    ∑ i ∈ Finset.range n, ∑ c : Fin T, Ideal.exp2 (t (i * T + c.val) - (μ : EReal)) * v (i * T + c.val)
      = ∑ k : Fin N, Ideal.exp2 (t k.val - (μ : EReal)) * v k.val := by
  rw [sum_blocks T n fun k => Ideal.exp2 (t k - (μ : EReal)) * v k, Fin.sum_univ_eq_sum_range (fun k => Ideal.exp2 (t k - (μ : EReal)) * v k) N]
  refine (Finset.sum_subset (Finset.range_mono hN) fun k _ hk => ?_).symm
  rw [hm k (by simpa using hk), EReal.bot_sub, Ideal.exp2_bot, zero_mul]

/-- A division by a real that is not zero is the product with its inverse. -/
theorem div_coe_ne {x : EReal} {r : ℝ} (hr : r ≠ 0) : Ideal.div x (r : EReal) = ((r⁻¹ : ℝ) : EReal) * x := by
  rw [Ideal.div, if_neg (by exact_mod_cast hr), EReal.coe_inv, mul_comm]

/-- The softmax average two ways. Powers of two of the scores over `ln 2`, shifted by `μ`, with the quotient taken last; and
    exponentials of the scores, shifted by `ν`, each divided by their sum before it weighs its value. -/
theorem average_eq {N : ℕ} (hN : 0 < N) (t : Fin N → ℝ) (v : Fin N → EReal) (μ ν : ℝ) :
    Ideal.div (∑ k, Ideal.exp2 (((t k * (Real.log 2)⁻¹ : ℝ) : EReal) - (μ : EReal)) * v k)
        (∑ k, Ideal.exp2 (((t k * (Real.log 2)⁻¹ : ℝ) : EReal) - (μ : EReal)) * 1)
      = ∑ k, v k * Ideal.div (Ideal.exp ((t k : EReal) - (ν : EReal))) (∑ k', Ideal.exp ((t k' : EReal) - (ν : EReal))) := by
  have hl : Real.log 2 ≠ 0 := (Real.log_pos (by norm_num)).ne'
  have h2 : ∀ k, Ideal.exp2 (((t k * (Real.log 2)⁻¹ : ℝ) : EReal) - (μ : EReal))
      = ((Real.exp (t k) * Real.exp (-(μ * Real.log 2)) : ℝ) : EReal) := fun k => by
    rw [← EReal.coe_sub, Ideal.exp2_coe]
    congr 1
    show (2 : ℝ) ^ (t k * (Real.log 2)⁻¹ - μ) = _
    rw [Real.rpow_def_of_pos (by norm_num), ← Real.exp_add]
    congr 1
    field_simp
    ring
  have h1 : ∀ k, Ideal.exp ((t k : EReal) - (ν : EReal)) = ((Real.exp (t k) * Real.exp (-ν) : ℝ) : EReal) := fun k => by
    rw [← EReal.coe_sub, Ideal.exp_coe, sub_eq_add_neg, Real.exp_add]
  simp only [h1, h2, mul_one]
  rw [coe_sum, coe_sum, ← Finset.sum_mul, ← Finset.sum_mul]
  have hS : 0 < ∑ k, Real.exp (t k) := by
    haveI : Nonempty (Fin N) := ⟨⟨0, hN⟩⟩
    exact Finset.sum_pos (fun k _ => Real.exp_pos _) Finset.univ_nonempty
  set S := ∑ k, Real.exp (t k)
  have hA := Real.exp_pos (-(μ * Real.log 2))
  have hB := Real.exp_pos (-ν)
  set A := Real.exp (-(μ * Real.log 2))
  set B := Real.exp (-ν)
  rw [div_coe_ne (by positivity), coe_mul_sum _ (by positivity)]
  refine Finset.sum_congr rfl fun k _ => ?_
  rw [div_coe_ne (by positivity), ← EReal.coe_mul, ← mul_assoc, ← EReal.coe_mul, mul_comm (v k)]
  congr 2
  field_simp

end Cert.Online

end

end
-- ==== Proof.IdealValue.lean ====
/- The tile of the attention kernel read entry by entry over the extended reals: each row is an online softmax. -/
module

public import proofs.«01_k».proof.Proof.IdealTile
public import proofs.«01_k».proof.Proof.Online
public import Idealize.ShloMosaic.Lib.Pointwise
public import Idealize.ShloMosaic.Lib.Pipeline.ValueKit.Tiles

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem trips_eq : k0_t1_loop.trips = 11 := by decide +kernel

/-- Row `r` of query tile `k` among all queries. -/
def rowOf (k : Fin k0_t1_loop.trips) (r : Fin 768) : Fin 8448 := ⟨768 * k.val + r.val, by have := lt_of_lt_of_eq k.isLt trips_eq; omega⟩

/-- Key `c` of block `j` among all keys. -/
def keyOf (j : ℕ) (c : Fin 768) : Fin 8448 := ⟨768 * (j % 11) + c.val, by have := Nat.mod_lt j (show 0 < 11 by norm_num); omega⟩

theorem cast_1x1x768x128 {α : Type} (u : S1x1x768x128.Idx → α) (h : S1x1x768x128.ShapeCasts S768x128) (r : Fin 768) (l : Fin 128) :
    shapeCast S768x128 u h (ix2 r l) = u (ix4 0 0 r l) := by
  pointwise

theorem cast_1x1x1x128x768 {α : Type} (u : S1x1x1x128x768.Idx → α) (h : S1x1x1x128x768.ShapeCasts S128x768) (l : Fin 128) (c : Fin 768) :
    shapeCast S128x768 u h (ix2 l c) = u (ix5 0 0 0 l c) := by
  pointwise

theorem qTile_apply (x : Vec Ideal S1x2x8448x128 .bf16) (h : Fin 2) (k : Fin k0_t1_loop.trips) (r : Fin 768) (l : Fin 128) :
    qTile x h k (ix2 r l) = x (ix4 0 h (rowOf k r) l) := by
  unfold qTile
  refine (cast_1x1x768x128 _ _ r l).trans ?_
  refine View.ld_unit_apply_of x _ _ _ _ (ix4 0 h (rowOf k r) l) fun a => ?_
  refine Eq.trans ?_ (congrArg (· + _) (congrFun (qOff_eq h k) a).symm)
  match a with
  | ⟨0, _⟩ => rfl
  | ⟨1, _⟩ => rfl
  | ⟨2, _⟩ => rfl
  | ⟨3, _⟩ => exact (Nat.zero_add _).symm

theorem kTile_apply (x : Vec Ideal S1x1x11x128x768 .bf16) (j : ℕ) (l : Fin 128) (c : Fin 768) :
    kTile x j (ix2 l c) = x (ix5 0 0 ⟨j % 11, Nat.mod_lt j (by norm_num)⟩ l c) := by
  unfold kTile
  refine (cast_1x1x1x128x768 _ _ l c).trans ?_
  refine View.ld_unit_apply_of x _ _ _ _ (ix5 0 0 ⟨j % 11, Nat.mod_lt j (by norm_num)⟩ l c) fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem vTile_apply (y : Vec Ideal S1x1x8448x128 .bf16) (j : ℕ) (c : Fin 768) (l : Fin 128) :
    vTile y j (ix2 c l) = y (ix4 0 0 (keyOf j c) l) := by
  unfold vTile
  refine (cast_1x1x768x128 _ _ c l).trans ?_
  refine View.ld_unit_apply_of y _ _ _ _ (ix4 0 0 (keyOf j c) l) fun a => ?_
  match a with
  | ⟨0, _⟩ => rfl
  | ⟨1, _⟩ => rfl
  | ⟨2, _⟩ => rfl
  | ⟨3, _⟩ => exact (Nat.zero_add _).symm

theorem scores_apply (q : FVec Ideal S768x128 .bf16) (kt : FVec Ideal S128x768 .bf16) (r c : Fin 768) :
    scores q kt (ix2 r c) = ∑ l : Fin 128, q (ix2 r l) * kt (ix2 l c) := by
  unfold scores
  pointwise

theorem mask_ideal : (Named.named κ "mask" 0xF149F2CA#32 : Ideal .f32) = ⊥ := rfl

theorem col_word : ∀ c : Fin 768, (IntOp.cmpi .slt (BitVec.ofNat 32 c.val) 528#32 = 1) ↔ c.val < 528 := by decide +kernel

theorem lane_word : ∀ l : Fin 128, (IntOp.cmpi .slt (BitVec.ofNat 32 l.val) 64#32 = 1) ↔ l.val < 64 := by decide +kernel

theorem ofBits_neg_inf : Ideal.ofBits .f32 0xFF800000#32 = ⊥ := by simp [Ideal.ofBits, Ideal.ieee]

theorem masked_apply (s : FVec Ideal S768x768 .f32) (r c : Fin 768) :
    masked s (ix2 r c) = if c.val < 528 then s (ix2 r c) else ⊥ := by
  unfold masked
  rw [mask_ideal]
  pointwise
  unfold Scalar.select
  simp only [col_word]

theorem newMax_apply (s : FVec Ideal S768x768 .f32) (mx : FVec Ideal S768x1 .f32) (r : Fin 768) :
    newMax s mx (ix2 r 0) = max (mx (ix2 r 0)) (Finset.univ.sup fun c => s (ix2 r c)) := by
  unfold newMax
  pointwise
  rw [ofBits_neg_inf]
  rfl

theorem newAcc_apply (s : FVec Ideal S768x768 .f32) (v : FVec Ideal S768x128 .bf16) (mx mx' : FVec Ideal S768x1 .f32)
    (acc : FVec Ideal S768x128 .f32) (r : Fin 768) (l : Fin 128) :
    newAcc s v mx mx' acc (ix2 r l) = Ideal.exp2 (mx (ix2 r 0) - mx' (ix2 r 0)) * acc (ix2 r l)
      + ∑ c : Fin 768, Ideal.exp2 (s (ix2 r c) - mx' (ix2 r 0)) * v (ix2 c l) := by
  unfold newAcc
  pointwise
  rfl

theorem quot_apply (acc : FVec Ideal S768x128 .f32) (r : Fin 768) (l : Fin 128) :
    quot acc (ix2 r l) = Ideal.div (acc (ix2 r l)) (acc (ix2 r ⟨(l.val + 64) % 128, Nat.mod_lt _ (by norm_num)⟩)) := by
  unfold quot
  pointwise
  congr 4

/-- A row of the running maximum is the running maximum of the row's scores. -/
theorem maxAt_apply (q : FVec Ideal S768x128 .bf16) (x : Vec Ideal S1x1x11x128x768 .bf16) (j : ℕ) (r : Fin 768) :
    maxAt q x j (ix2 r 0) = Cert.Online.runMax (fun j c => blockScores q x j (ix2 r c)) j := by
  induction j with
  | zero => exact mask_ideal
  | succ j ih => rw [maxAt, newMax_apply, ih, Cert.Online.runMax]

/-- A row of the running accumulator, in a lane, is the running weighted sum of the lane's values. -/
theorem accAt_apply (q : FVec Ideal S768x128 .bf16) (x : Vec Ideal S1x1x11x128x768 .bf16) (y : Vec Ideal S1x1x8448x128 .bf16) (j : ℕ)
    (r : Fin 768) (l : Fin 128) :
    accAt q x y j (ix2 r l)
      = Cert.Online.runAcc (fun j c => blockScores q x j (ix2 r c)) (fun j c => y (ix4 0 0 (keyOf j c) l)) j := by
  induction j with
  | zero => exact Ideal.ofBits_zero_f32
  | succ j ih =>
    rw [accAt, newAcc_apply, ih, Cert.Online.runAcc, maxAt_apply, maxAt_apply]
    simp only [vTile_apply]

/-- A block's scores, entry by entry: the product of the query and the key, masked past the sequence in the last block. -/
theorem blockScores_apply (x0 : Vec Ideal S1x2x8448x128 .bf16) (h : Fin 2) (k : Fin k0_t1_loop.trips)
    (x : Vec Ideal S1x1x11x128x768 .bf16) (j : ℕ) (r c : Fin 768) :
    blockScores (qTile x0 h k) x j (ix2 r c) = if j = 10 ∧ ¬ c.val < 528 then ⊥ else
      ∑ l : Fin 128, x0 (ix4 0 h (rowOf k r) l) * x (ix5 0 0 ⟨j % 11, Nat.mod_lt j (by norm_num)⟩ l c) := by
  have hs : scores (qTile x0 h k) (kTile x j) (ix2 r c)
      = ∑ l : Fin 128, x0 (ix4 0 h (rowOf k r) l) * x (ix5 0 0 ⟨j % 11, Nat.mod_lt j (by norm_num)⟩ l c) := by
    rw [scores_apply]; simp only [qTile_apply, kTile_apply]
  unfold blockScores
  by_cases hj : j = 10
  · rw [if_pos hj, masked_apply, hs]
    by_cases hc : c.val < 528
    · rw [if_pos hc, if_neg (fun h => h.2 hc)]
    · rw [if_neg hc, if_pos ⟨hj, hc⟩]
  · rw [if_neg hj, hs, if_neg (fun h => hj h.1)]

/-- What a query tile writes, entry by entry. -/
theorem tileOut_apply (x0 : Vec Ideal S1x2x8448x128 .bf16) (x1 x2 : Vec Ideal S1x1x11x128x768 .bf16) (x3 x4 : Vec Ideal S1x1x8448x128 .bf16)
    (k : Fin k0_t1_loop.trips) (r : Fin 768) (l : Fin 128) :
    tileOut x0 x1 x2 x3 x4 k (ix3 0 r l)
      = if l.val < 64 then quot (accAt (qTile x0 0 k) x1 x3 11) (ix2 r l) else quot (accAt (qTile x0 1 k) x2 x4 11) (ix2 r l) := by
  unfold tileOut
  generalize quot (accAt (qTile x0 0 k) x1 x3 11) = A
  generalize quot (accAt (qTile x0 1 k) x2 x4 11) = B
  pointwise
  unfold Scalar.select
  simp only [lane_word]

end Cert.KernelIdeal.Attn

end

end
-- ==== Proof.Head.lean ====
/- One head of the attention kernel: a row of the quotient is the softmax average of the lane's values. -/
module

public import proofs.«01_k».proof.Proof.IdealValue

@[expose] public section

set_option maxRecDepth 16384

noncomputable section

namespace Cert.Online

open Idealize.ShloMosaic

theorem runMax_congr {T : ℕ} (s s' : ℕ → Fin T → EReal) (n : ℕ) (h : ∀ i, i < n → ∀ c, s i c = s' i c) : runMax s n = runMax s' n := by
  induction n with
  | zero => rfl
  | succ n ih =>
    rw [runMax, runMax, ih fun i hi => h i (by omega), funext (h n (by omega))]

theorem runAcc_congr {T : ℕ} (s s' v v' : ℕ → Fin T → EReal) (n : ℕ) (h : ∀ i, i < n → ∀ c, s i c = s' i c)
    (hv : ∀ i, i < n → ∀ c, v i c = v' i c) : runAcc s v n = runAcc s' v' n := by
  induction n with
  | zero => rfl
  | succ n ih =>
    rw [runAcc, runAcc, ih (fun i hi => h i (by omega)) (fun i hi => hv i (by omega)), runMax_congr s s' n fun i hi => h i (by omega),
      runMax_congr s s' (n + 1) h, funext (h n (by omega)), funext (hv n (by omega))]

/-- The softmax average of the values `v` under the scores `t`, shifted by `ν`. -/
def average {N : ℕ} (t : Fin N → ℝ) (v : Fin N → EReal) (ν : ℝ) : EReal :=
  ∑ k, v k * Ideal.div (Ideal.exp ((t k : EReal) - (ν : EReal))) (∑ k', Ideal.exp ((t k' : EReal) - (ν : EReal)))

/-- The online softmax over `n` blocks of `T` keys, the keys past `N` masked: the quotient of the running sum of the values by
    that of ones is the average over the first `N` keys. -/
theorem online_average {T n N : ℕ} (hN : 0 < N) (hT : 0 < T) (hle : N ≤ (n + 1) * T) (s v w : ℕ → Fin T → EReal) (t : Fin N → ℝ) (y : Fin N → EReal)
    (hs : ∀ i c, i < n + 1 → s i c = if h : i * T + c.val < N then ((t ⟨i * T + c.val, h⟩ * (Real.log 2)⁻¹ : ℝ) : EReal) else ⊥)
    (hv : ∀ i c (h : i * T + c.val < N), v i c = y ⟨i * T + c.val, h⟩)
    (hw : ∀ i c, i < n + 1 → i * T + c.val < N → w i c = 1) (ν : ℝ) :
    Ideal.div (runAcc s v (n + 1)) (runAcc s w (n + 1)) = average t y ν := by
  set τ : ℕ → EReal := fun k => if h : k < N then ((t ⟨k, h⟩ * (Real.log 2)⁻¹ : ℝ) : EReal) else ⊥ with hτ
  have hfin : ∀ (i : ℕ) (c : Fin T), τ (i * T + c.val) ≠ ⊤ := by
    intro i c
    simp only [hτ]
    split
    · exact EReal.coe_ne_top _
    · simp
  have h0 : ∃ c : Fin T, τ (0 * T + c.val) ≠ ⊥ := by
    refine ⟨⟨0, hT⟩, ?_⟩
    simp only [hτ, Nat.zero_mul, Nat.zero_add, dif_pos hN]
    exact EReal.coe_ne_bot _
  obtain ⟨μ, hμ⟩ := runMax_real (fun i c => τ (i * T + c.val)) hfin h0 n
  have key : ∀ (z : ℕ → Fin T → EReal) (u : Fin N → EReal), (∀ i c (h : i * T + c.val < N), i < n + 1 → z i c = u ⟨i * T + c.val, h⟩) →
      runAcc s z (n + 1) = ∑ k : Fin N, Ideal.exp2 (((t k * (Real.log 2)⁻¹ : ℝ) : EReal) - (μ : EReal)) * u k := by
    intro z u hz
    rw [runAcc_congr s (fun i c => τ (i * T + c.val)) z z (n + 1) (fun i hi c => hs i c hi) (fun _ _ _ => rfl), runAcc_eq _ _ hfin h0, hμ]
    refine Eq.trans ?_ ((sum_blocks_masked T (n + 1) N hle τ (fun k => if h : k < N then u ⟨k, h⟩ else 0) μ fun k hk => dif_neg (by omega)).trans ?_)
    · refine Finset.sum_congr rfl fun i hi => Finset.sum_congr rfl fun c _ => ?_
      by_cases h : i * T + c.val < N
      · rw [hz i c h (Finset.mem_range.1 hi), dif_pos h]
      · simp only [hτ, dif_neg h, EReal.bot_sub, Ideal.exp2_bot, zero_mul]
    · refine Finset.sum_congr rfl fun k _ => ?_
      simp only [hτ, dif_pos k.isLt]
  rw [key v y fun i c h _ => hv i c h, key w (fun _ => 1) fun i c h hi => hw i c hi h]
  exact average_eq hN t y μ ν

end Cert.Online

namespace Cert.KernelIdeal.Attn

open Cert.KernelIdeal Cert.KernelIdeal.Gen
open Idealize.ShloMosaic Idealize.ShloMosaic.TcCoe Idealize.ShloMosaic.Tactic

/-- Key `k` among the first 8208, as one of the 8448 rows. -/
def keyRow (k : Fin 8208) : Fin 8448 := ⟨k.val, by omega⟩

/-- Row `r` of query tile `k`, lane `l`, of one head's quotient: the softmax average of lane `l` of the values over the first 8208 keys,
    if the scores are the reals `t` over `ln 2`, and the values in lane `l ± 64` are ones. -/
theorem quot_average (x0 : Vec Ideal S1x2x8448x128 .bf16) (h : Fin 2) (k : Fin k0_t1_loop.trips) (x : Vec Ideal S1x1x11x128x768 .bf16)
    (y : Vec Ideal S1x1x8448x128 .bf16) (r : Fin 768) (l : Fin 128) (t : Fin 8208 → ℝ)
    (ht : ∀ n : Fin 8208, ∑ d : Fin 128, x0 (ix4 0 h (rowOf k r) d) * x (ix5 0 0 ⟨n.val / 768, by omega⟩ d ⟨n.val % 768, by omega⟩)
      = ((t n * (Real.log 2)⁻¹ : ℝ) : EReal))
    (h1 : ∀ n : Fin 8208, y (ix4 0 0 (keyRow n) ⟨(l.val + 64) % 128, Nat.mod_lt _ (by norm_num)⟩) = 1) (ν : ℝ) :
    quot (accAt (qTile x0 h k) x y 11) (ix2 r l) = Cert.Online.average t (fun n => y (ix4 0 0 (keyRow n) l)) ν := by
  rw [quot_apply, accAt_apply, accAt_apply]
  refine Cert.Online.online_average (T := 768) (n := 10) (N := 8208) (by norm_num) (by norm_num) (by norm_num) _ _ _ t _ ?_ ?_ ?_ ν
  · intro i c hi
    rw [blockScores_apply]
    have hc := c.isLt
    by_cases hm : i * 768 + c.val < 8208
    · rw [dif_pos hm, if_neg (by omega), ← ht ⟨i * 768 + c.val, hm⟩]
      refine Finset.sum_congr rfl fun d _ => ?_
      congr 3
      · exact Fin.ext (show i % 11 = (i * 768 + c.val) / 768 by omega)
      · exact Fin.ext (show c.val = (i * 768 + c.val) % 768 by omega)
    · rw [dif_neg hm, if_pos (by omega)]
  · intro i c hm
    have hc := c.isLt
    have : keyOf i c = keyRow ⟨i * 768 + c.val, hm⟩ := Fin.ext (show 768 * (i % 11) + c.val = i * 768 + c.val by omega)
    simp only [this]
  · intro i c hi hm
    have hc := c.isLt
    have : keyOf i c = keyRow ⟨i * 768 + c.val, hm⟩ := Fin.ext (show 768 * (i % 11) + c.val = i * 768 + c.val by omega)
    simp only [this]
    exact h1 _

end Cert.KernelIdeal.Attn

end

end
-- ==== Proof.IdealArray.lean ====
/- The idealized attention's result at an index: a tile's value, at the blocks of the region's arrays. -/
module

public import proofs.«01_k».proof.Proof.Head
public import proofs.«01_k».proof.Proof.IdealFrame
public import Idealize.ShloMosaic.Lib.Pipeline.ValueKit
public import Idealize.ShloMosaic.Lib.WritesUnit

@[expose] public section
set_option maxRecDepth 16384
noncomputable section
namespace Cert.KernelIdeal.Attn

open Cert.KernelIdeal Cert.KernelIdeal.Gen
open Idealize.ShloMosaic Idealize.ShloMosaic.TcCoe Idealize.ShloMosaic.Tactic
open Idealize.SL

variable (m : (ℓ : Loc nD τ sig) → Buf (Elt Ideal) ℓ)

theorem block0 : ∀ t : Fin cfg0.N, win0_0.index t = ![t.val / 8, t.val % 8, 0, 0] :=
  (by decide +kernel : ∀ t : Fin grid0.N, win0_0.index t = ![t.val / 8, t.val % 8, 0, 0])

/-- The slab of a head's keys, and of its values. -/
def keySlab (h : ℕ) : ℕ := if h < 8 then 0 else h - 7
def valueSlab (h : ℕ) : ℕ := if h < 8 then 2 * (h / 4) + h % 2 else h - 4

theorem block1 : ∀ t : Fin cfg0.N, win0_1.index t = ![t.val / 8, keySlab (2 * (t.val % 8)), 0, 0, 0] :=
  (by decide +kernel : ∀ t : Fin grid0.N, win0_1.index t = ![t.val / 8, keySlab (2 * (t.val % 8)), 0, 0, 0])
theorem block2 : ∀ t : Fin cfg0.N, win0_2.index t = ![t.val / 8, keySlab (2 * (t.val % 8) + 1), 0, 0, 0] :=
  (by decide +kernel : ∀ t : Fin grid0.N, win0_2.index t = ![t.val / 8, keySlab (2 * (t.val % 8) + 1), 0, 0, 0])
theorem block3 : ∀ t : Fin cfg0.N, win0_3.index t = ![t.val / 8, valueSlab (2 * (t.val % 8)), 0, 0] :=
  (by decide +kernel : ∀ t : Fin grid0.N, win0_3.index t = ![t.val / 8, valueSlab (2 * (t.val % 8)), 0, 0])
theorem block4 : ∀ t : Fin cfg0.N, win0_4.index t = ![t.val / 8, valueSlab (2 * (t.val % 8) + 1), 0, 0] :=
  (by decide +kernel : ∀ t : Fin grid0.N, win0_4.index t = ![t.val / 8, valueSlab (2 * (t.val % 8) + 1), 0, 0])
theorem block5 : ∀ t : Fin cfg0.N, win0_5.index t = ![t.val / 8, 0, t.val % 8] :=
  (by decide +kernel : ∀ t : Fin grid0.N, win0_5.index t = ![t.val / 8, 0, t.val % 8])
theorem flush5 : ∀ t : Fin cfg0.N, (cfg0.win 5).flush t = true :=
  (by decide +kernel : ∀ t : Fin grid0.N, win0_5.flush t = true)

/-- The grid point of a batch and a pair of heads. -/
def pointOf (b : Fin 12) (p : Fin 8) : Fin cfg0.N := ⟨8 * b.val + p.val, by show _ < grid0.N; have := b.isLt; have := p.isLt; have : grid0.N = 96 := by decide
                                                                            omega⟩
theorem pointOf_div (b : Fin 12) (p : Fin 8) : (pointOf b p).val / 8 = b.val := by show (8 * b.val + p.val) / 8 = _; omega
theorem pointOf_mod (b : Fin 12) (p : Fin 8) : (pointOf b p).val % 8 = p.val := by show (8 * b.val + p.val) % 8 = _; omega

theorem keySlab_lt {h : ℕ} (hh : h < 16) : keySlab h < 9 := by unfold keySlab; split <;> omega
theorem valueSlab_lt {h : ℕ} (hh : h < 16) : valueSlab h < 12 := by unfold valueSlab; split <;> omega

theorem queries_read (A : Vec Ideal S12x16x8448x128 .bf16) (b : Fin 12) (p : Fin 8) (h : Fin 2) (row : Fin 8448) (d : Fin 128) :
    (((cfg0.win 0).blk (pointOf b p)).view.read (Elt Ideal) A : Vec Ideal S1x2x8448x128 .bf16) (ix4 0 h row d) = A (ix4 b ⟨2 * p.val + h.val, by omega⟩ row d) := by
  have e1 := pointOf_div b p
  have e2 := pointOf_mod b p
  blk_simp []
  refine congrArg A ?_
  blk_ext [block0, e1, e2]

theorem queries_block (c : Dev nD) (b : Fin 12) (p : Fin 8) (h : Fin 2) (row : Fin 8448) (d : Fin 128) :
    (iblk m c 0 (pointOf b p) : Vec Ideal S1x2x8448x128 .bf16) (ix4 0 h row d)
      = (V m c main_v23 : Vec Ideal S12x16x8448x128 .bf16) (ix4 b ⟨2 * p.val + h.val, by omega⟩ row d) :=
  queries_read (V m c main_v23) b p h row d

theorem keys_even_read (A : Vec Ideal S12x9x11x128x768 .bf16) (b : Fin 12) (p : Fin 8) (j : Fin 11) (d : Fin 128) (n : Fin 768) :
    (((cfg0.win 1).blk (pointOf b p)).view.read (Elt Ideal) A : Vec Ideal S1x1x11x128x768 .bf16) (ix5 0 0 j d n) = A (ix5 b ⟨keySlab (2 * p.val), keySlab_lt (by omega)⟩ j d n) := by
  have e1 := pointOf_div b p
  have e2 := pointOf_mod b p
  blk_simp []
  refine congrArg A ?_
  blk_ext [block1, e1, e2]

theorem keys_even_block (c : Dev nD) (b : Fin 12) (p : Fin 8) (j : Fin 11) (d : Fin 128) (n : Fin 768) :
    (iblk m c 1 (pointOf b p) : Vec Ideal S1x1x11x128x768 .bf16) (ix5 0 0 j d n)
      = (V m c main_v32 : Vec Ideal S12x9x11x128x768 .bf16) (ix5 b ⟨keySlab (2 * p.val), keySlab_lt (by omega)⟩ j d n) :=
  keys_even_read (V m c main_v32) b p j d n

theorem keys_odd_read (A : Vec Ideal S12x9x11x128x768 .bf16) (b : Fin 12) (p : Fin 8) (j : Fin 11) (d : Fin 128) (n : Fin 768) :
    (((cfg0.win 2).blk (pointOf b p)).view.read (Elt Ideal) A : Vec Ideal S1x1x11x128x768 .bf16) (ix5 0 0 j d n) = A (ix5 b ⟨keySlab (2 * p.val + 1), keySlab_lt (by omega)⟩ j d n) := by
  have e1 := pointOf_div b p
  have e2 := pointOf_mod b p
  blk_simp []
  refine congrArg A ?_
  blk_ext [block2, e1, e2]

theorem keys_odd_block (c : Dev nD) (b : Fin 12) (p : Fin 8) (j : Fin 11) (d : Fin 128) (n : Fin 768) :
    (iblk m c 2 (pointOf b p) : Vec Ideal S1x1x11x128x768 .bf16) (ix5 0 0 j d n)
      = (V m c main_v32 : Vec Ideal S12x9x11x128x768 .bf16) (ix5 b ⟨keySlab (2 * p.val + 1), keySlab_lt (by omega)⟩ j d n) :=
  keys_odd_read (V m c main_v32) b p j d n

theorem values_even_read (A : Vec Ideal S12x12x8448x128 .bf16) (b : Fin 12) (p : Fin 8) (n : Fin 8448) (l : Fin 128) :
    (((cfg0.win 3).blk (pointOf b p)).view.read (Elt Ideal) A : Vec Ideal S1x1x8448x128 .bf16) (ix4 0 0 n l) = A (ix4 b ⟨valueSlab (2 * p.val), valueSlab_lt (by omega)⟩ n l) := by
  have e1 := pointOf_div b p
  have e2 := pointOf_mod b p
  blk_simp []
  refine congrArg A ?_
  blk_ext [block3, e1, e2]

theorem values_even_block (c : Dev nD) (b : Fin 12) (p : Fin 8) (n : Fin 8448) (l : Fin 128) :
    (iblk m c 3 (pointOf b p) : Vec Ideal S1x1x8448x128 .bf16) (ix4 0 0 n l)
      = (V m c main_v56 : Vec Ideal S12x12x8448x128 .bf16) (ix4 b ⟨valueSlab (2 * p.val), valueSlab_lt (by omega)⟩ n l) :=
  values_even_read (V m c main_v56) b p n l

theorem values_odd_read (A : Vec Ideal S12x12x8448x128 .bf16) (b : Fin 12) (p : Fin 8) (n : Fin 8448) (l : Fin 128) :
    (((cfg0.win 4).blk (pointOf b p)).view.read (Elt Ideal) A : Vec Ideal S1x1x8448x128 .bf16) (ix4 0 0 n l) = A (ix4 b ⟨valueSlab (2 * p.val + 1), valueSlab_lt (by omega)⟩ n l) := by
  have e1 := pointOf_div b p
  have e2 := pointOf_mod b p
  blk_simp []
  refine congrArg A ?_
  blk_ext [block4, e1, e2]

theorem values_odd_block (c : Dev nD) (b : Fin 12) (p : Fin 8) (n : Fin 8448) (l : Fin 128) :
    (iblk m c 4 (pointOf b p) : Vec Ideal S1x1x8448x128 .bf16) (ix4 0 0 n l)
      = (V m c main_v56 : Vec Ideal S12x12x8448x128 .bf16) (ix4 b ⟨valueSlab (2 * p.val + 1), valueSlab_lt (by omega)⟩ n l) :=
  values_odd_read (V m c main_v56) b p n l

/-- What the stores of the first `n` tiles leave in tile `k`'s rows. -/
theorem pieces_apply (x0 : Vec Ideal S1x2x8448x128 .bf16) (x1 x2 : Vec Ideal S1x1x11x128x768 .bf16) (x3 x4 : Vec Ideal S1x1x8448x128 .bf16)
    (k : Fin k0_t1_loop.trips) (r : Fin 768) (l : Fin 128) : ∀ n, k.val < n → n ≤ k0_t1_loop.trips →
    VO0_5.read (Elt Ideal) (VO0_5.writes (Elt Ideal) VO0_5.junk (outPieces x0 x1 x2 x3 x4 n)) (ix3 0 (rowOf k r) l)
      = tileOut x0 x1 x2 x3 x4 k (ix3 0 r l)
  | 0, h, _ => absurd h (Nat.not_lt_zero _)
  | n + 1, h, hn => by
    rw [outPieces, dif_pos (show n < k0_t1_loop.trips from hn)]
    by_cases e : k.val = n
    · subst e
      exact View.read_writes_cons_unit_of_mem VO0_5 VO0_5.junk _ _ _ _ (ix3 0 r l) (Gen.k0_off5_eq k) fun a =>
        match a with
        | ⟨0, _⟩ => rfl
        | ⟨1, _⟩ => rfl
        | ⟨2, _⟩ => (Nat.zero_add _).symm
    · refine (View.read_writes_cons_unit_of_not_mem VO0_5 VO0_5.junk _ _ _ _ (Gen.k0_off5_eq ⟨n, hn⟩) 1 (Or.inl ?_)).trans
        (pieces_apply x0 x1 x2 x3 x4 k r l n (by omega) (Nat.le_of_succ_le hn))
      show 768 * k.val + r.val < 768 * n
      have := r.isLt
      omega

theorem blockOut_apply (x0 : Vec Ideal S1x2x8448x128 .bf16) (x1 x2 : Vec Ideal S1x1x11x128x768 .bf16) (x3 x4 : Vec Ideal S1x1x8448x128 .bf16)
    (k : Fin k0_t1_loop.trips) (r : Fin 768) (l : Fin 128) :
    blockOut x0 x1 x2 x3 x4 (ix3 0 (rowOf k r) l) = tileOut x0 x1 x2 x3 x4 k (ix3 0 r l) :=
  pieces_apply x0 x1 x2 x3 x4 k r l _ k.isLt le_rfl

/-- The result's entry: a tile's entry of the grid point of the entry's batch and pair of heads. -/
theorem result_apply (c : Dev nD) (b : Fin 12) (p : Fin 8) (k : Fin k0_t1_loop.trips) (r : Fin 768) (l : Fin 128) :
    ((dats m 0 c).arrAt 5 cfg0.N : Vec Ideal S12x8448x1024 .bf16) (ix3 b (rowOf k r) ⟨128 * p.val + l.val, by omega⟩)
      = tileOut (iblk m c 0 (pointOf b p)) (iblk m c 1 (pointOf b p)) (iblk m c 2 (pointOf b p)) (iblk m c 3 (pointOf b p)) (iblk m c 4 (pointOf b p)) k (ix3 0 r l) := by
  have h := congrFun ((blocks5 m c (pointOf b p) (flush5 _)).trans (flushed5_eq m c (pointOf b p))) (ix3 0 (rowOf k r) l)
  refine Eq.trans ?_ (h.trans ?_)
  · generalize (dats m 0 c).arrAt 5 cfg0.N = A
    have e1 := pointOf_div b p
    have e2 := pointOf_mod b p
    blk_simp []
    refine congrArg A ?_
    blk_ext [block5, e1, e2]
  · exact blockOut_apply _ _ _ _ _ k r l

end Cert.KernelIdeal.Attn
end
-- ==== Proof.Scores.lean ====
/- The scores and the values that the region's arrays hold, head by head. -/
module

public import proofs.«01_k».proof.Proof.HostReads
public import proofs.«01_k».proof.Proof.IdealArray

@[expose] public section
noncomputable section
namespace Cert.KernelIdeal.Attn

open Cert.KernelIdeal Cert.KernelIdeal.Gen
open Idealize.ShloMosaic Idealize.ShloMosaic.TcCoe Idealize.ShloMosaic.Tactic
open Idealize.SL

variable (q : FVec Ideal S12x8448x8x64 .f32) (k : FVec Ideal S12x8448x2x64 .f32) (v : FVec Ideal S12x8448x2x64 .f32)
  (q' : FVec Ideal S12x8448x8x96 .f32) (k' : FVec Ideal S12x8448x8x64 .f32) (e' : FVec Ideal S12x8448x32 .f32) (v' : FVec Ideal S12x8448x8x64 .f32)

/-- A grouped head's scores over `ln 2`: one half of the lanes is zero, the other holds the head's query. -/
theorem grouped_scores (x : S12x8448x8x64.Idx → ℝ) (hx : ∀ i, q i = (x i : EReal)) (y : Fin 12 → Fin 8208 → Fin 2 → Fin 64 → ℝ)
    (hy : ∀ b n g d, k (ix4 b (keyRow n) g d) = (y b n g d : EReal)) (b : Fin 12) (h : Fin 8) (row : Fin 8448) (n : Fin 8208) :
    ∑ d : Fin 128, slots q q' (ix4 b ⟨h.val, by omega⟩ row d) * keySlabs k k' e' (ix5 b 0 ⟨n.val / 768, by omega⟩ d ⟨n.val % 768, by omega⟩)
      = (((∑ d : Fin 64, y b n ⟨h.val / 4, by omega⟩ d * x (ix4 b row h d)) * 8⁻¹ * (Real.log 2)⁻¹ : ℝ) : EReal) := by
  have hk : ∀ d : Fin 128, keySlabs k k' e' (ix5 b 0 ⟨n.val / 768, by omega⟩ d ⟨n.val % 768, by omega⟩)
      = (y b n ⟨d.val / 64, by omega⟩ ⟨d.val % 64, by omega⟩ : EReal) := fun d =>
    (keySlabs_apply k k' e' b 0 (keyRow n) d).trans ((keyRows_grouped k k' e' b (keyRow n) d).trans (hy _ _ _ _))
  have hl : ∀ d : Fin 64, slots q q' (ix4 b ⟨h.val, by omega⟩ row ⟨d.val, by omega⟩)
      = ((if h.val < 4 then x (ix4 b row h d) * ((Real.log 2)⁻¹ * 8⁻¹) else 0 : ℝ) : EReal) := fun d => by
    rw [slots_apply_grouped, slotsG_low, scaledG_apply, hx, ← EReal.coe_mul]
    split <;> rfl
  have hr : ∀ d : Fin 64, slots q q' (ix4 b ⟨h.val, by omega⟩ row ⟨64 + d.val, by omega⟩)
      = ((if h.val < 4 then 0 else x (ix4 b row h d) * ((Real.log 2)⁻¹ * 8⁻¹) : ℝ) : EReal) := fun d => by
    rw [slots_apply_grouped, slotsG_high, scaledG_apply, hx, ← EReal.coe_mul]
    split <;> rfl
  refine (Fin.sum_univ_add (a := 64) (b := 64) _).trans ?_
  have e1 : ∀ d : Fin 64, slots q q' (ix4 b ⟨h.val, by omega⟩ row (Fin.castAdd 64 d)) * keySlabs k k' e' (ix5 b 0 ⟨n.val / 768, by omega⟩ (Fin.castAdd 64 d) ⟨n.val % 768, by omega⟩)
      = (((if h.val < 4 then x (ix4 b row h d) * ((Real.log 2)⁻¹ * 8⁻¹) else 0) * y b n 0 d : ℝ) : EReal) := fun d => by
    rw [EReal.coe_mul]
    refine congrArg₂ (· * ·) (hl d) ((hk _).trans ?_)
    congr 2
    · exact Fin.ext (show d.val / 64 = 0 by omega)
    · exact Fin.ext (show d.val % 64 = d.val by omega)
  have e2 : ∀ d : Fin 64, slots q q' (ix4 b ⟨h.val, by omega⟩ row (Fin.natAdd 64 d)) * keySlabs k k' e' (ix5 b 0 ⟨n.val / 768, by omega⟩ (Fin.natAdd 64 d) ⟨n.val % 768, by omega⟩)
      = (((if h.val < 4 then 0 else x (ix4 b row h d) * ((Real.log 2)⁻¹ * 8⁻¹)) * y b n 1 d : ℝ) : EReal) := fun d => by
    rw [EReal.coe_mul]
    refine congrArg₂ (· * ·) (hr d) ((hk _).trans ?_)
    congr 2
    · exact Fin.ext (show (64 + d.val) / 64 = 1 by omega)
    · exact Fin.ext (show (64 + d.val) % 64 = d.val by omega)
  rw [Finset.sum_congr rfl fun d _ => e1 d, Finset.sum_congr rfl fun d _ => e2 d, Cert.Online.coe_sum, Cert.Online.coe_sum, ← EReal.coe_add]
  congr 1
  rw [Finset.sum_mul, Finset.sum_mul, ← Finset.sum_add_distrib]
  refine Finset.sum_congr rfl fun d _ => ?_
  by_cases h4 : h.val < 4
  · have : (⟨h.val / 4, by omega⟩ : Fin 2) = 0 := Fin.ext (show h.val / 4 = 0 by omega)
    rw [if_pos h4, if_pos h4, this]; ring
  · have : (⟨h.val / 4, by omega⟩ : Fin 2) = 1 := Fin.ext (show h.val / 4 = 1 by omega)
    rw [if_neg h4, if_neg h4, this]; ring

/-- A latent head's scores over `ln 2`: 64 lanes of its own keys, 32 of the shared key, 32 of zeros. -/
theorem latent_scores (x : S12x8448x8x96.Idx → ℝ) (hx : ∀ i, q' i = (x i : EReal)) (y : Fin 12 → Fin 8208 → Fin 8 → Fin 64 → ℝ)
    (hy : ∀ b n g d, k' (ix4 b (keyRow n) g d) = (y b n g d : EReal)) (z : Fin 12 → Fin 8208 → Fin 32 → ℝ)
    (hz : ∀ b n d, e' (ix3 b (keyRow n) d) = (z b n d : EReal)) (b : Fin 12) (h : Fin 8) (row : Fin 8448) (n : Fin 8208) :
    ∑ d : Fin 128, slots q q' (ix4 b ⟨8 + h.val, by omega⟩ row d) * keySlabs k k' e' (ix5 b ⟨1 + h.val, by omega⟩ ⟨n.val / 768, by omega⟩ d ⟨n.val % 768, by omega⟩)
      = (((∑ d : Fin 64, x (ix4 b row h ⟨d.val, by omega⟩) * y b n h d + ∑ d : Fin 32, z b n d * x (ix4 b row h ⟨64 + d.val, by omega⟩)) * (Real.sqrt 96)⁻¹ * (Real.log 2)⁻¹ : ℝ) : EReal) := by
  have hk : ∀ d : Fin 128, keySlabs k k' e' (ix5 b ⟨1 + h.val, by omega⟩ ⟨n.val / 768, by omega⟩ d ⟨n.val % 768, by omega⟩) = keysM k' e' (ix4 b (keyRow n) h d) := fun d =>
    (keySlabs_apply k k' e' b ⟨1 + h.val, by omega⟩ (keyRow n) d).trans (keyRows_latent k k' e' b (keyRow n) h d)
  have hq : ∀ d : Fin 128, slots q q' (ix4 b ⟨8 + h.val, by omega⟩ row d)
      = ((if hd : d.val < 96 then x (ix4 b row h ⟨d.val, hd⟩) * ((Real.log 2)⁻¹ * (Real.sqrt 96)⁻¹) else 0 : ℝ) : EReal) := fun d => by
    rw [slots_apply_latent, slotsM_apply]
    split
    · rw [hx, ← EReal.coe_mul]
    · rfl
  refine (Fin.sum_univ_add (a := 64) (b := 64) _).trans ?_
  have e1 : ∀ d : Fin 64, slots q q' (ix4 b ⟨8 + h.val, by omega⟩ row (Fin.castAdd 64 d)) * keySlabs k k' e' (ix5 b ⟨1 + h.val, by omega⟩ ⟨n.val / 768, by omega⟩ (Fin.castAdd 64 d) ⟨n.val % 768, by omega⟩)
      = ((x (ix4 b row h ⟨d.val, by omega⟩) * ((Real.log 2)⁻¹ * (Real.sqrt 96)⁻¹) * y b n h d : ℝ) : EReal) := fun d => by
    rw [EReal.coe_mul, hk, hq, keysM_apply, dif_pos (show (Fin.castAdd 64 d).val < 96 by show d.val < 96; omega), dif_pos (show (Fin.castAdd 64 d).val < 64 from d.isLt)]
    exact congrArg₂ (· * ·) rfl (hy b n h d)
  have e2 : ∀ d : Fin 32, slots q q' (ix4 b ⟨8 + h.val, by omega⟩ row (Fin.natAdd 64 (Fin.castAdd 32 d))) * keySlabs k k' e' (ix5 b ⟨1 + h.val, by omega⟩ ⟨n.val / 768, by omega⟩ (Fin.natAdd 64 (Fin.castAdd 32 d)) ⟨n.val % 768, by omega⟩)
      = ((x (ix4 b row h ⟨64 + d.val, by omega⟩) * ((Real.log 2)⁻¹ * (Real.sqrt 96)⁻¹) * z b n d : ℝ) : EReal) := fun d => by
    have hv : (Fin.natAdd 64 (Fin.castAdd 32 d)).val = 64 + d.val := rfl
    rw [EReal.coe_mul, hk, hq, keysM_apply, dif_pos (show (Fin.natAdd 64 (Fin.castAdd 32 d)).val < 96 by omega), dif_neg (show ¬ (Fin.natAdd 64 (Fin.castAdd 32 d)).val < 64 by omega),
      dif_pos (show (Fin.natAdd 64 (Fin.castAdd 32 d)).val < 96 by omega)]
    refine congrArg₂ (· * ·) rfl ((congrArg (fun i => e' (ix3 b (keyRow n) i)) (Fin.ext ?_)).trans (hz b n d))
    show 64 + d.val - 64 = d.val
    omega
  have e3 : ∀ d : Fin 32, slots q q' (ix4 b ⟨8 + h.val, by omega⟩ row (Fin.natAdd 64 (Fin.natAdd 32 d))) * keySlabs k k' e' (ix5 b ⟨1 + h.val, by omega⟩ ⟨n.val / 768, by omega⟩ (Fin.natAdd 64 (Fin.natAdd 32 d)) ⟨n.val % 768, by omega⟩)
      = ((0 : ℝ) : EReal) := fun d => by
    have hv : (Fin.natAdd 64 (Fin.natAdd 32 d)).val = 64 + (32 + d.val) := rfl
    rw [hq, dif_neg (show ¬ (Fin.natAdd 64 (Fin.natAdd 32 d)).val < 96 by omega), EReal.coe_zero, zero_mul]
  refine (congrArg₂ (· + ·) (Finset.sum_congr rfl fun d _ => e1 d) ((Fin.sum_univ_add (a := 32) (b := 32) _).trans
    (congrArg₂ (· + ·) (Finset.sum_congr rfl fun d _ => e2 d) (Finset.sum_congr rfl fun d _ => e3 d)))).trans ?_
  rw [Cert.Online.coe_sum, Cert.Online.coe_sum, Cert.Online.coe_sum, ← EReal.coe_add, ← EReal.coe_add]
  congr 1
  rw [Finset.sum_const_zero, add_zero, add_mul, add_mul, Finset.sum_mul, Finset.sum_mul, Finset.sum_mul, Finset.sum_mul]
  refine congrArg₂ (· + ·) (Finset.sum_congr rfl fun d _ => by ring) (Finset.sum_congr rfl fun d _ => by ring)

/-- A grouped head's values, in the half of the lanes that its parity names. -/
theorem grouped_value (b : Fin 12) (h : Fin 8) (n : Fin 8448) (d : Fin 64) :
    valueSlabs v v' (ix4 b ⟨valueSlab h.val, valueSlab_lt (by omega)⟩ n ⟨64 * (h.val % 2) + d.val, by omega⟩) = v (ix4 b n ⟨h.val / 4, by omega⟩ d) := by
  have hs : valueSlab h.val = 2 * (h.val / 4) + h.val % 2 := if_pos h.isLt
  have e0 : (⟨valueSlab h.val, valueSlab_lt (by omega)⟩ : Fin 12) = ⟨(⟨2 * (h.val / 4) + h.val % 2, by omega⟩ : Fin 4).val, by show 2 * (h.val / 4) + h.val % 2 < 12; omega⟩ := Fin.ext hs
  rw [e0, valueSlabs_grouped, valuesG_apply]
  by_cases e : h.val % 2 = 0
  · rw [if_pos (by show (2 * (h.val / 4) + h.val % 2) % 2 = 0; omega), dif_pos (by show 64 * (h.val % 2) + d.val < 64; omega)]
    congr 2
    · exact Fin.ext (show (2 * (h.val / 4) + h.val % 2) / 2 = h.val / 4 by omega)
    · exact Fin.ext (show 64 * (h.val % 2) + d.val = d.val by omega)
  · rw [if_neg (by show ¬ (2 * (h.val / 4) + h.val % 2) % 2 = 0; omega), dif_neg (by show ¬ 64 * (h.val % 2) + d.val < 64; omega)]
    congr 2
    · exact Fin.ext (show (2 * (h.val / 4) + h.val % 2) / 2 = h.val / 4 by omega)
    · exact Fin.ext (show 64 * (h.val % 2) + d.val - 64 = d.val by omega)

/-- The other half holds ones. -/
theorem grouped_one (b : Fin 12) (h : Fin 8) (n : Fin 8448) (d : Fin 64) :
    valueSlabs v v' (ix4 b ⟨valueSlab h.val, valueSlab_lt (by omega)⟩ n ⟨(64 * (h.val % 2) + d.val + 64) % 128, Nat.mod_lt _ (by norm_num)⟩) = 1 := by
  have hs : valueSlab h.val = 2 * (h.val / 4) + h.val % 2 := if_pos h.isLt
  have e0 : (⟨valueSlab h.val, valueSlab_lt (by omega)⟩ : Fin 12) = ⟨(⟨2 * (h.val / 4) + h.val % 2, by omega⟩ : Fin 4).val, by show 2 * (h.val / 4) + h.val % 2 < 12; omega⟩ := Fin.ext hs
  rw [e0, valueSlabs_grouped, valuesG_apply]
  by_cases e : h.val % 2 = 0
  · rw [if_pos (by show (2 * (h.val / 4) + h.val % 2) % 2 = 0; omega), dif_neg (by show ¬ (64 * (h.val % 2) + d.val + 64) % 128 < 64; omega)]
  · rw [if_neg (by show ¬ (2 * (h.val / 4) + h.val % 2) % 2 = 0; omega), dif_pos (by show (64 * (h.val % 2) + d.val + 64) % 128 < 64; omega)]

/-- A latent head's values, and the ones beside them. -/
theorem latent_value (b : Fin 12) (h : Fin 8) (n : Fin 8448) (d : Fin 64) :
    valueSlabs v v' (ix4 b ⟨valueSlab (8 + h.val), valueSlab_lt (by omega)⟩ n ⟨64 * ((8 + h.val) % 2) + d.val, by omega⟩) = v' (ix4 b n h d) := by
  have hs : valueSlab (8 + h.val) = 4 + h.val := (if_neg (by omega)).trans (by omega)
  have e0 : (⟨valueSlab (8 + h.val), valueSlab_lt (by omega)⟩ : Fin 12) = ⟨4 + h.val, by omega⟩ := Fin.ext hs
  rw [e0, valueSlabs_latent, valuesM_apply]
  by_cases e : h.val % 2 = 0
  · rw [if_pos e, dif_pos (by show 64 * ((8 + h.val) % 2) + d.val < 64; omega)]
    congr 2
    exact Fin.ext (show 64 * ((8 + h.val) % 2) + d.val = d.val by omega)
  · rw [if_neg e, dif_neg (by show ¬ 64 * ((8 + h.val) % 2) + d.val < 64; omega)]
    congr 2
    exact Fin.ext (show 64 * ((8 + h.val) % 2) + d.val - 64 = d.val by omega)

theorem latent_one (b : Fin 12) (h : Fin 8) (n : Fin 8448) (d : Fin 64) :
    valueSlabs v v' (ix4 b ⟨valueSlab (8 + h.val), valueSlab_lt (by omega)⟩ n ⟨(64 * ((8 + h.val) % 2) + d.val + 64) % 128, Nat.mod_lt _ (by norm_num)⟩) = 1 := by
  have hs : valueSlab (8 + h.val) = 4 + h.val := (if_neg (by omega)).trans (by omega)
  have e0 : (⟨valueSlab (8 + h.val), valueSlab_lt (by omega)⟩ : Fin 12) = ⟨4 + h.val, by omega⟩ := Fin.ext hs
  rw [e0, valueSlabs_latent, valuesM_apply]
  by_cases e : h.val % 2 = 0
  · rw [if_pos e, dif_neg (by show ¬ (64 * ((8 + h.val) % 2) + d.val + 64) % 128 < 64; omega)]
  · rw [if_neg e, dif_pos (by show (64 * ((8 + h.val) % 2) + d.val + 64) % 128 < 64; omega)]

end Cert.KernelIdeal.Attn
end
-- ==== Proof.Finite.lean ====
/- What the precondition says: the queries, and the keys that are attended to, are reals. -/
module

public import proofs.«01_k».proof.Pre_finite_scores
public import proofs.«01_k».proof.Proof.Head
public import Idealize.ShloMosaic.Lib.ReduceAll
public import Idealize.ShloMosaic.Lib.Pointwise

@[expose] public section
noncomputable section
namespace Cert.Pre_finite_scores

open Idealize.ShloMosaic Idealize.ShloMosaic.Tactic

instance facts : Facts where
  bcast_S_S12x8448x8x64 := by decide
  reducesTo_S12x8448x8x64_S_d0_1_2_3 := by decide
  h_S_ := by decide
  slices_S12x8448x2x64_S12x8208x2x64_0_0_0_0 := by decide
  bcast_S_S12x8208x2x64 := by decide
  reducesTo_S12x8208x2x64_S_d0_1_2_3 := by decide
  bcast_S_S12x8448x8x96 := by decide
  reducesTo_S12x8448x8x96_S_d0_1_2_3 := by decide
  slices_S12x8448x8x64_S12x8208x8x64_0_0_0_0 := by decide
  bcast_S_S12x8208x8x64 := by decide
  reducesTo_S12x8208x8x64_S_d0_1_2_3 := by decide
  slices_S12x8448x32_S12x8208x32_0_0_0 := by decide
  bcast_S_S12x8208x32 := by decide
  reducesTo_S12x8208x32_S_d0_1_2 := by decide

open Facts
open Cert.KernelIdeal.Attn (keyRow)

instance : Subsingleton S_.Idx := ⟨fun _ _ => funext fun a => a.elim0⟩

theorem bits_inf : Ideal.ofBits FTy.f32 0x7F800000#32 = (⊤ : EReal) := by simp [Ideal.ofBits, Ideal.ieee]

/-- An array whose entries are all of a magnitude under infinity is an array of reals. -/
theorem all_real {S U : Shape} {axes : List (Fin S.rank)} (x z : FVec Ideal S .f32) (hz : ∀ i, z i = (⊤ : EReal)) (init : IVec U 1)
    (h : S.ReducesTo axes S_) (hu : 0 < U.numel) (j : S_.Idx)
    (e : Host.reduce IntOp.andi (cmpf .olt (Host.absf x) z) init h hu j = 1#1) (i : S.Idx) : ∃ r : ℝ, x i = (r : EReal) := by
  have h1 : Ideal.cmp .olt (max (x i : EReal) (-(x i : EReal))) (z i) = 1#1 := Host.reduce_andi_all _ _ h hu j e i
  rw [hz] at h1
  unfold Ideal.cmp at h1
  rcases eq_or_ne (x i : EReal) ⊤ with ht | ht
  · simp [ht] at h1
  rcases eq_or_ne (x i : EReal) ⊥ with hb | hb
  · simp [hb] at h1
  exact ⟨(x i : EReal).toReal, (EReal.coe_toReal ht hb).symm⟩

variable (a0 : FVec Ideal S12x8448x8x64 .f32) (a1 a2 : FVec Ideal S12x8448x2x64 .f32) (a3 : FVec Ideal S12x8448x8x96 .f32)
  (a4 : FVec Ideal S12x8448x8x64 .f32) (a5 : FVec Ideal S12x8448x32 .f32) (a6 : FVec Ideal S12x8448x8x64 .f32)

theorem slice_grouped (b : Fin 12) (n : Fin 8208) (g : Fin 2) (d : Fin 64) :
    extractStridedSlice S12x8208x2x64 ![0, 0, 0, 0] a1 slices_S12x8448x2x64_S12x8208x2x64_0_0_0_0 (ix4 b n g d) = a1 (ix4 b (keyRow n) g d) := by
  unfold keyRow
  pointwise
theorem slice_latent (b : Fin 12) (n : Fin 8208) (g : Fin 8) (d : Fin 64) :
    extractStridedSlice S12x8208x8x64 ![0, 0, 0, 0] a4 slices_S12x8448x8x64_S12x8208x8x64_0_0_0_0 (ix4 b n g d) = a4 (ix4 b (keyRow n) g d) := by
  unfold keyRow
  pointwise
theorem slice_shared (b : Fin 12) (n : Fin 8208) (d : Fin 32) :
    extractStridedSlice S12x8208x32 ![0, 0, 0] a5 slices_S12x8448x32_S12x8208x32_0_0_0 (ix3 b n d) = a5 (ix3 b (keyRow n) d) := by
  unfold keyRow
  pointwise

/-- The precondition, read. -/
theorem reals (hpre : fn (F := Ideal) a0 a1 a2 a3 a4 a5 a6 = fun _ => 1#1) :
    (∀ i, ∃ r : ℝ, a0 i = (r : EReal)) ∧ (∀ b n g d, ∃ r : ℝ, a1 (ix4 b (keyRow n) g d) = (r : EReal)) ∧ (∀ i, ∃ r : ℝ, a3 i = (r : EReal))
      ∧ (∀ b n g d, ∃ r : ℝ, a4 (ix4 b (keyRow n) g d) = (r : EReal)) ∧ (∀ b n d, ∃ r : ℝ, a5 (ix3 b (keyRow n) d) = (r : EReal)) := by
  have e := congrFun hpre (fun a => a.elim0)
  simp only [fn, fn_part1, andi] at e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  refine ⟨all_real a0 _ (fun _ => bits_inf) _ _ _ _ e0, fun b n g d => ?_, all_real a3 _ (fun _ => bits_inf) _ _ _ _ e3, fun b n g d => ?_, fun b n d => ?_⟩
  · rw [← slice_grouped a1 b n g d]; exact all_real _ _ (fun _ => bits_inf) _ _ _ _ e1 _
  · rw [← slice_latent a4 b n g d]; exact all_real _ _ (fun _ => bits_inf) _ _ _ _ e4 _
  · rw [← slice_shared a5 b n d]; exact all_real _ _ (fun _ => bits_inf) _ _ _ _ e5 _

end Cert.Pre_finite_scores
end
-- ==== Proof.RefValue.lean ====
/- The reference's result at an index: an average of the values, with the softmax's weights. -/
module

public import proofs.«01_k».proof.Proof.Gen.ReferenceIdeal.Run
public import proofs.«01_k».proof.Proof.Head
public import Idealize.ShloMosaic.Lib.Pointwise

@[expose] public section
set_option maxRecDepth 16384
noncomputable section
namespace Cert.ReferenceIdeal.Attn

open Cert.ReferenceIdeal Cert.ReferenceIdeal.Gen
open Idealize.ShloMosaic Idealize.ShloMosaic.TcCoe Idealize.ShloMosaic.Tactic
open Idealize.SL
open Cert.KernelIdeal.Attn (keyRow)

/-- The grouped heads' scores. -/
def scoresG (q : FVec Ideal S12x8448x8x64 .f32) (k : FVec Ideal S12x8448x2x64 .f32) : FVec Ideal S12x2x4x8448x8208 .f32 :=
  mulf (transpose S12x2x4x8448x8208 [0, 1, 4, 3, 2] (Host.dotGeneral dot_S12x8208x2x64_S12x8448x2x4x64_S12x2x8208x8448x4_3_4_1_13_02_02 none (extractStridedSlice S12x8208x2x64 ![0, 0, 0, 0] k slices_S12x8448x2x64_S12x8208x2x64_0_0_0_0) (shapeCast S12x8448x2x4x64 q shapeCasts_S12x8448x8x64_S12x8448x2x4x64)) transposes_S12x2x8208x8448x4_S12x2x4x8448x8208_0_1_4_3_2) (broadcastInDim S12x2x4x8448x8208 ![] bcast_S_S12x2x4x8448x8208 (constant S_ .f32 0x3E000000#32))

/-- The grouped heads' maxima over the keys. -/
def maxG (s : FVec Ideal S12x2x4x8448x8208 .f32) : FVec Ideal S12x2x4x8448 .f32 :=
  maximumf (broadcastInDim S12x2x4x8448 ![] bcast_S_S12x2x4x8448 (constant S_ .f32 0xFF800000#32))
    (Host.reduce FloatOps.maximumf s (constant S_ .f32 0xFF800000#32) reducesTo_S12x2x4x8448x8208_S12x2x4x8448_d4 h_S_)

/-- The exponentials of the grouped heads' scores. -/
def expG (s : FVec Ideal S12x2x4x8448x8208 .f32) (μ : FVec Ideal S12x2x4x8448 .f32) : FVec Ideal S12x2x4x8448x8208 .f32 :=
  Host.exp (subf s (broadcastInDim S12x2x4x8448x8208 ![0, 1, 2, 3, 4] bcast_S12x2x4x8448x1_S12x2x4x8448x8208_0_1_2_3_4 (broadcastInDim S12x2x4x8448x1 ![0, 1, 2, 3] bcast_S12x2x4x8448_S12x2x4x8448x1_0_1_2_3 μ)))

/-- The grouped heads' weights. -/
def weightG (e : FVec Ideal S12x2x4x8448x8208 .f32) : FVec Ideal S12x2x4x8448x8208 .f32 :=
  Host.divf e (broadcastInDim S12x2x4x8448x8208 ![0, 1, 2, 3, 4] bcast_S12x2x4x8448x1_S12x2x4x8448x8208_0_1_2_3_4 (broadcastInDim S12x2x4x8448x1 ![0, 1, 2, 3] bcast_S12x2x4x8448_S12x2x4x8448x1_0_1_2_3
    (Host.reduceAdd e (constant S_ .f32 0x00000000#32) reducesTo_S12x2x4x8448x8208_S12x2x4x8448_d4 h_S_)))

/-- The grouped heads' results. -/
def outG (p : FVec Ideal S12x2x4x8448x8208 .f32) (v : FVec Ideal S12x8448x2x64 .f32) : FVec Ideal S12x8448x512 .f32 :=
  shapeCast S12x8448x512 (transpose S12x8448x2x4x64 [0, 4, 1, 3, 2] (Host.dotGeneral dot_S12x8208x2x64_S12x2x4x8448x8208_S12x2x64x4x8448_1_4_3_23_02_01 none (extractStridedSlice S12x8208x2x64 ![0, 0, 0, 0] v slices_S12x8448x2x64_S12x8208x2x64_0_0_0_0) p) transposes_S12x2x64x4x8448_S12x8448x2x4x64_0_4_1_3_2) shapeCasts_S12x8448x2x4x64_S12x8448x512

/-- The latent heads' scores. -/
def scoresM (q : FVec Ideal S12x8448x8x96 .f32) (k : FVec Ideal S12x8448x8x64 .f32) (r : FVec Ideal S12x8448x32 .f32) : FVec Ideal S12x8x8448x8208 .f32 :=
  mulf (addf (Host.dotGeneral dot_S12x8448x8x64_S12x8208x8x64_S12x8x8448x8208_3_3_1_1_02_02 none (extractStridedSlice S12x8448x8x64 ![0, 0, 0, 0] q slices_S12x8448x8x96_S12x8448x8x64_0_0_0_0) (extractStridedSlice S12x8208x8x64 ![0, 0, 0, 0] k slices_S12x8448x8x64_S12x8208x8x64_0_0_0_0))
      (transpose S12x8x8448x8208 [0, 3, 2, 1] (Host.dotGeneral dot_S12x8208x32_S12x8448x8x32_S12x8208x8448x8_2_3_1_12_0_0 none (extractStridedSlice S12x8208x32 ![0, 0, 0] r slices_S12x8448x32_S12x8208x32_0_0_0) (extractStridedSlice S12x8448x8x32 ![0, 0, 0, 64] q slices_S12x8448x8x96_S12x8448x8x32_0_0_0_64)) transposes_S12x8208x8448x8_S12x8x8448x8208_0_3_2_1))
    (broadcastInDim S12x8x8448x8208 ![] bcast_S_S12x8x8448x8208 (Host.divf (constant S_ .f32 0x3F800000#32) (Host.sqrt (constant S_ .f32 0x42C00000#32))))

def maxM (s : FVec Ideal S12x8x8448x8208 .f32) : FVec Ideal S12x8x8448 .f32 :=
  maximumf (broadcastInDim S12x8x8448 ![] bcast_S_S12x8x8448 (constant S_ .f32 0xFF800000#32))
    (Host.reduce FloatOps.maximumf s (constant S_ .f32 0xFF800000#32) reducesTo_S12x8x8448x8208_S12x8x8448_d3 h_S_)

def expM (s : FVec Ideal S12x8x8448x8208 .f32) (μ : FVec Ideal S12x8x8448 .f32) : FVec Ideal S12x8x8448x8208 .f32 :=
  Host.exp (subf s (broadcastInDim S12x8x8448x8208 ![0, 1, 2, 3] bcast_S12x8x8448x1_S12x8x8448x8208_0_1_2_3 (broadcastInDim S12x8x8448x1 ![0, 1, 2] bcast_S12x8x8448_S12x8x8448x1_0_1_2 μ)))

def weightM (e : FVec Ideal S12x8x8448x8208 .f32) : FVec Ideal S12x8x8448x8208 .f32 :=
  Host.divf e (broadcastInDim S12x8x8448x8208 ![0, 1, 2, 3] bcast_S12x8x8448x1_S12x8x8448x8208_0_1_2_3 (broadcastInDim S12x8x8448x1 ![0, 1, 2] bcast_S12x8x8448_S12x8x8448x1_0_1_2
    (Host.reduceAdd e (constant S_ .f32 0x00000000#32) reducesTo_S12x8x8448x8208_S12x8x8448_d3 h_S_)))

def outM (p : FVec Ideal S12x8x8448x8208 .f32) (v : FVec Ideal S12x8448x8x64 .f32) : FVec Ideal S12x8448x512 .f32 :=
  shapeCast S12x8448x512 (transpose S12x8448x8x64 [0, 3, 1, 2] (Host.dotGeneral dot_S12x8208x8x64_S12x8x8448x8208_S12x8x64x8448_1_3_3_2_02_01 none (extractStridedSlice S12x8208x8x64 ![0, 0, 0, 0] v slices_S12x8448x8x64_S12x8208x8x64_0_0_0_0) p) transposes_S12x8x64x8448_S12x8448x8x64_0_3_1_2) shapeCasts_S12x8448x8x64_S12x8448x512

/-- Both, side by side. -/
def joined (x y : FVec Ideal S12x8448x512 .f32) : FVec Ideal S12x8448x1024 .bf16 :=
  truncf .bf16 (concatenate S12x8448x1024 2 [⟨S12x8448x512, x⟩, ⟨S12x8448x512, y⟩] concatenates_S12x8448x512_S12x8448x512_S12x8448x1024_d2) bitsLt_bf16_f32

theorem bits_eighth : Ideal.ofBits FTy.f32 0x3E000000#32 = ((8⁻¹ : ℝ) : EReal) := by
  simp [Ideal.ofBits, Ideal.ieee]
  rw [← EReal.coe_mul]; norm_num
theorem bits_ninety_six : Ideal.ofBits FTy.f32 0x42C00000#32 = ((96 : ℝ) : EReal) := by
  simp [Ideal.ofBits, Ideal.ieee]
  rw [← EReal.coe_mul]; norm_num

/-- The latent heads' factor is the real `1 / √96`. -/
theorem factor : Ideal.div 1 (Ideal.sqrt (Ideal.ofBits FTy.f32 0x42C00000#32)) = (((Real.sqrt 96)⁻¹ : ℝ) : EReal) := by
  have h8 : (0 : ℝ) < Real.sqrt 96 := Real.sqrt_pos.2 (by norm_num)
  rw [bits_ninety_six, Ideal.sqrt_coe, if_neg (by norm_num), Ideal.div_coe (show Real.sqrt 96 ≠ 0 by positivity), one_mul, one_div]

theorem scoresG_apply (q : FVec Ideal S12x8448x8x64 .f32) (k : FVec Ideal S12x8448x2x64 .f32) (b : Fin 12) (g : Fin 2) (r : Fin 4) (row : Fin 8448) (n : Fin 8208) :
    scoresG q k (ix5 b g r row n) = (∑ x : Fin 64, k (ix4 b (keyRow n) g x) * q (ix4 b row ⟨g.val * 4 + r.val, by omega⟩ x)) * ((8⁻¹ : ℝ) : EReal) := by
  unfold scoresG keyRow
  rw [← bits_eighth]
  pointwise

/-- A maximum of finitely many reals, at least one, is a real. -/
theorem fold_max_real {N : ℕ} (hN : 0 < N) (f : Fin N → EReal) (h : ∀ k, ∃ x : ℝ, f k = (x : EReal)) :
    ∃ x : ℝ, (Finset.univ : Finset (Fin N)).fold max ⊥ f = (x : EReal) := by
  refine ⟨_, (EReal.coe_toReal (ne_of_lt ?_) (ne_of_gt ?_)).symm⟩
  · rw [Finset.fold_max_lt]
    refine ⟨bot_lt_top, fun k _ => ?_⟩
    obtain ⟨x, hx⟩ := h k
    rw [hx]; exact EReal.coe_lt_top x
  · refine (Finset.lt_fold_max (b := (⊥ : EReal)) (c := ⊥)).2 ?_
    refine Or.inr ⟨⟨0, hN⟩, Finset.mem_univ _, ?_⟩
    obtain ⟨x, hx⟩ := h ⟨0, hN⟩
    rw [hx]; exact EReal.bot_lt_coe x

theorem bits_neg_inf : Ideal.ofBits FTy.f32 0xFF800000#32 = (⊥ : EReal) := by simp [Ideal.ofBits, Ideal.ieee]

/-- The maximum over one axis of an array of reals is a real, where that axis is not empty. -/
theorem reduce_max_real {S T : Shape} {a : Fin S.rank} (s : FVec Ideal S .f32) (hr : S.Reduces [a] T) (h' : S.ReducesTo [a] T) (hu : 0 < S_.numel)
    (ha : 0 < S.size a) (z : FVec Ideal S_ .f32) (hz : ∀ i, z i = (⊥ : EReal)) (w : FVec Ideal T .f32) (hw : ∀ i, w i = (⊥ : EReal))
    (hs : ∀ i, ∃ x : ℝ, s i = (x : EReal)) (j : T.Idx) :
    ∃ x : ℝ, maximumf w (Host.reduce FloatOps.maximumf s z h' hu) j = (x : EReal) := by
  have e : Host.reduce (max : EReal → EReal → EReal) s z h' hu j = (Finset.univ : Finset (Fin (S.size a))).fold max ⊥ (s ∘ hr.lift j) := by
    rw [Host.reduce_eq_fold_single max s z h' hr hu j, hz]
  obtain ⟨x, hx⟩ := fold_max_real ha (s ∘ hr.lift j) fun k => hs _
  refine ⟨x, ?_⟩
  show max (w j : EReal) (Host.reduce (max : EReal → EReal → EReal) s z h' hu j) = _
  rw [e, hx, hw]
  exact max_eq_right bot_le

theorem maxG_real (s : FVec Ideal S12x2x4x8448x8208 .f32) (hs : ∀ i, ∃ x : ℝ, s i = (x : EReal)) (j : S12x2x4x8448.Idx) :
    ∃ x : ℝ, maxG s j = (x : EReal) := by
  unfold maxG
  exact reduce_max_real s (show S12x2x4x8448x8208.Reduces [4] S12x2x4x8448 by decide) reducesTo_S12x2x4x8448x8208_S12x2x4x8448_d4 h_S_ (by decide) _ (fun _ => bits_neg_inf) _ (fun _ => bits_neg_inf) hs j

theorem expG_apply (s : FVec Ideal S12x2x4x8448x8208 .f32) (μ : FVec Ideal S12x2x4x8448 .f32) (b : Fin 12) (g : Fin 2) (r : Fin 4) (row : Fin 8448) (n : Fin 8208) :
    expG s μ (ix5 b g r row n) = Ideal.exp (s (ix5 b g r row n) - μ (ix4 b g r row)) := by
  unfold expG
  pointwise

theorem weightG_apply (s : FVec Ideal S12x2x4x8448x8208 .f32) (b : Fin 12) (g : Fin 2) (r : Fin 4) (row : Fin 8448) (n : Fin 8208) :
    weightG s (ix5 b g r row n) = Ideal.div (s (ix5 b g r row n)) (∑ n', s (ix5 b g r row n')) := by
  unfold weightG
  pointwise

theorem outG_apply (p : FVec Ideal S12x2x4x8448x8208 .f32) (v : FVec Ideal S12x8448x2x64 .f32) (b : Fin 12) (h : Fin 8) (row : Fin 8448) (d : Fin 64) :
    outG p v (ix3 b row ⟨64 * h.val + d.val, by omega⟩)
      = ∑ n : Fin 8208, v (ix4 b (keyRow n) ⟨h.val / 4, by omega⟩ d) * p (ix5 b ⟨h.val / 4, by omega⟩ ⟨h.val % 4, by omega⟩ row n) := by
  unfold outG keyRow
  pointwise
  have e1 : (64 * h.val + d.val) / 256 = h.val / 4 := by omega
  have e2 : (64 * h.val + d.val) / 64 % 4 = h.val % 4 := by omega
  simp only [e1, e2]

theorem scoresM_apply (q : FVec Ideal S12x8448x8x96 .f32) (k : FVec Ideal S12x8448x8x64 .f32) (r : FVec Ideal S12x8448x32 .f32) (b : Fin 12) (h : Fin 8) (row : Fin 8448) (n : Fin 8208) :
    scoresM q k r (ix4 b h row n) = (∑ x : Fin 64, q (ix4 b row h ⟨x.val, by omega⟩) * k (ix4 b (keyRow n) h x)
      + ∑ x : Fin 32, r (ix3 b (keyRow n) x) * q (ix4 b row h ⟨64 + x.val, by omega⟩)) * (((Real.sqrt 96)⁻¹ : ℝ) : EReal) := by
  unfold scoresM keyRow
  rw [← factor]
  pointwise

theorem maxM_real (s : FVec Ideal S12x8x8448x8208 .f32) (hs : ∀ i, ∃ x : ℝ, s i = (x : EReal)) (j : S12x8x8448.Idx) :
    ∃ x : ℝ, maxM s j = (x : EReal) := by
  unfold maxM
  exact reduce_max_real s (show S12x8x8448x8208.Reduces [3] S12x8x8448 by decide) reducesTo_S12x8x8448x8208_S12x8x8448_d3 h_S_ (by decide) _ (fun _ => bits_neg_inf) _ (fun _ => bits_neg_inf) hs j

theorem expM_apply (s : FVec Ideal S12x8x8448x8208 .f32) (μ : FVec Ideal S12x8x8448 .f32) (b : Fin 12) (h : Fin 8) (row : Fin 8448) (n : Fin 8208) :
    expM s μ (ix4 b h row n) = Ideal.exp (s (ix4 b h row n) - μ (ix3 b h row)) := by
  unfold expM
  pointwise

theorem weightM_apply (s : FVec Ideal S12x8x8448x8208 .f32) (b : Fin 12) (h : Fin 8) (row : Fin 8448) (n : Fin 8208) :
    weightM s (ix4 b h row n) = Ideal.div (s (ix4 b h row n)) (∑ n', s (ix4 b h row n')) := by
  unfold weightM
  pointwise

theorem outM_apply (p : FVec Ideal S12x8x8448x8208 .f32) (v : FVec Ideal S12x8448x8x64 .f32) (b : Fin 12) (h : Fin 8) (row : Fin 8448) (d : Fin 64) :
    outM p v (ix3 b row ⟨64 * h.val + d.val, by omega⟩) = ∑ n : Fin 8208, v (ix4 b (keyRow n) h d) * p (ix4 b h row n) := by
  unfold outM keyRow
  pointwise

theorem joined_low (x y : FVec Ideal S12x8448x512 .f32) (b : Fin 12) (row : Fin 8448) (j : Fin 512) :
    joined x y (ix3 b row ⟨j.val, by omega⟩) = x (ix3 b row j) := by
  unfold joined
  pointwise
theorem joined_high (x y : FVec Ideal S12x8448x512 .f32) (b : Fin 12) (row : Fin 8448) (j : Fin 512) :
    joined x y (ix3 b row ⟨512 + j.val, by omega⟩) = y (ix3 b row j) := by
  unfold joined
  pointwise

/-- A grouped head's result, where its scores are real: the average of the values with some real `ν` taken off the scores. -/
theorem grouped_average (s : FVec Ideal S12x2x4x8448x8208 .f32) (hs : ∀ i, ∃ x : ℝ, s i = (x : EReal)) (v : FVec Ideal S12x8448x2x64 .f32)
    (b : Fin 12) (h : Fin 8) (row : Fin 8448) (d : Fin 64) (t : Fin 8208 → ℝ)
    (ht : ∀ n, s (ix5 b ⟨h.val / 4, by omega⟩ ⟨h.val % 4, by omega⟩ row n) = (t n : EReal)) :
    ∃ ν : ℝ, outG (weightG (expG s (maxG s))) v (ix3 b row ⟨64 * h.val + d.val, by omega⟩)
      = Cert.Online.average t (fun n => v (ix4 b (keyRow n) ⟨h.val / 4, by omega⟩ d)) ν := by
  obtain ⟨ν, hν⟩ := maxG_real s hs (ix4 b ⟨h.val / 4, by omega⟩ ⟨h.val % 4, by omega⟩ row)
  refine ⟨ν, ?_⟩
  rw [outG_apply, Cert.Online.average]
  simp only [weightG_apply, expG_apply, ht, hν]

/-- A latent head's likewise. -/
theorem latent_average (s : FVec Ideal S12x8x8448x8208 .f32) (hs : ∀ i, ∃ x : ℝ, s i = (x : EReal)) (v : FVec Ideal S12x8448x8x64 .f32)
    (b : Fin 12) (h : Fin 8) (row : Fin 8448) (d : Fin 64) (t : Fin 8208 → ℝ)
    (ht : ∀ n, s (ix4 b h row n) = (t n : EReal)) :
    ∃ ν : ℝ, outM (weightM (expM s (maxM s))) v (ix3 b row ⟨64 * h.val + d.val, by omega⟩)
      = Cert.Online.average t (fun n => v (ix4 b (keyRow n) h d)) ν := by
  obtain ⟨ν, hν⟩ := maxM_real s hs (ix3 b h row)
  refine ⟨ν, ?_⟩
  rw [outM_apply, Cert.Online.average]
  simp only [weightM_apply, expM_apply, ht, hν]

end Cert.ReferenceIdeal.Attn
end
-- ==== Proof.RefResult.lean ====
/- The reference's result, in the parts that RefValue.lean reads. -/
module

public import proofs.«01_k».proof.Proof.Gen.ReferenceIdeal.Run
public import proofs.«01_k».proof.Proof.RefValue

@[expose] public section
set_option maxRecDepth 16384
noncomputable section
namespace Cert.ReferenceIdeal.Attn

open Cert.ReferenceIdeal Cert.ReferenceIdeal.Gen
open Idealize.ShloMosaic Idealize.ShloMosaic.TcCoe Idealize.ShloMosaic.Tactic
open Idealize.SL

variable (m : (ℓ : Loc nD τ sig) → Buf (Elt Ideal) ℓ)

theorem result_eq (c : Dev nD) : Value.res_out0 m c =
    joined (outG (weightG (expG (scoresG (m ((c.tc : Thread nD τ).loc main_arg0)) (m ((c.tc : Thread nD τ).loc main_arg1)))
        (maxG (scoresG (m ((c.tc : Thread nD τ).loc main_arg0)) (m ((c.tc : Thread nD τ).loc main_arg1)))))) (m ((c.tc : Thread nD τ).loc main_arg2)))
      (outM (weightM (expM (scoresM (m ((c.tc : Thread nD τ).loc main_arg3)) (m ((c.tc : Thread nD τ).loc main_arg4)) (m ((c.tc : Thread nD τ).loc main_arg5)))
        (maxM (scoresM (m ((c.tc : Thread nD τ).loc main_arg3)) (m ((c.tc : Thread nD τ).loc main_arg4)) (m ((c.tc : Thread nD τ).loc main_arg5)))))) (m ((c.tc : Thread nD τ).loc main_arg6))) := by
  unfold Value.res_out0 Value.res_main_v49
  rfl

end Cert.ReferenceIdeal.Attn
end
-- ==== Proof.Value.lean ====
/- The idealized attention ends with the reference's result. -/
module

public import proofs.«01_k».proof.Proof.Scores
public import proofs.«01_k».proof.Proof.Finite
public import proofs.«01_k».proof.Proof.RefResult

@[expose] public section
noncomputable section
namespace Cert.KernelIdeal.Attn

open Cert.KernelIdeal Cert.KernelIdeal.Gen
open Idealize.ShloMosaic Idealize.ShloMosaic.TcCoe Idealize.ShloMosaic.Tactic
open Idealize.SL

variable (m : (ℓ : Loc nD τ sig) → Buf (Elt Ideal) ℓ)

theorem head_lt (p : Fin 8) (e : Fin 2) : 2 * p.val + e.val < 16 := by omega

/-- The result's entry at lane `d` of head `H`, where the head's scores over `ln 2` are those of the reals `t`. -/
theorem entry_average (c : Dev nD) (Q : FVec Ideal S12x16x8448x128 .bf16) (K : FVec Ideal S12x9x11x128x768 .bf16) (W : FVec Ideal S12x12x8448x128 .bf16)
    (hQ : V m c main_v23 = Q) (hK : V m c main_v32 = K) (hW : V m c main_v56 = W) (b : Fin 12) (H : Fin 16) (k : Fin k0_t1_loop.trips) (r : Fin 768) (d : Fin 64)
    (t : Fin 8208 → ℝ)
    (ht : ∀ n : Fin 8208, ∑ x : Fin 128, Q (ix4 b H (rowOf k r) x) * K (ix5 b ⟨keySlab H.val, keySlab_lt H.isLt⟩ ⟨n.val / 768, by omega⟩ x ⟨n.val % 768, by omega⟩)
      = ((t n * (Real.log 2)⁻¹ : ℝ) : EReal))
    (h1 : ∀ n : Fin 8208, W (ix4 b ⟨valueSlab H.val, valueSlab_lt H.isLt⟩ (keyRow n) ⟨(64 * (H.val % 2) + d.val + 64) % 128, Nat.mod_lt _ (by norm_num)⟩) = 1) (ν : ℝ) :
    ((dats m 0 c).arrAt 5 cfg0.N : Vec Ideal S12x8448x1024 .bf16) (ix3 b (rowOf k r) ⟨64 * H.val + d.val, by omega⟩)
      = Cert.Online.average t (fun n => W (ix4 b ⟨valueSlab H.val, valueSlab_lt H.isLt⟩ (keyRow n) ⟨64 * (H.val % 2) + d.val, by omega⟩)) ν := by
  subst hQ hK hW
  by_cases hp : H.val % 2 = 0
  · obtain ⟨p, rfl⟩ : ∃ p : Fin 8, H = ⟨2 * p.val + (0 : Fin 2).val, head_lt p 0⟩ :=
      ⟨⟨H.val / 2, by omega⟩, Fin.ext (show H.val = 2 * (H.val / 2) + 0 by omega)⟩
    have el : (⟨64 * ((2 * p.val + (0 : Fin 2).val) % 2) + d.val, by omega⟩ : Fin 128) = ⟨d.val, by omega⟩ := Fin.ext (show 64 * ((2 * p.val + 0) % 2) + d.val = d.val by omega)
    have ec : (⟨64 * (2 * p.val + (0 : Fin 2).val) + d.val, by show 64 * (2 * p.val + 0) + d.val < 1024; omega⟩ : Fin 1024) = ⟨128 * p.val + (⟨d.val, by omega⟩ : Fin 128).val, by show 128 * p.val + d.val < 1024; omega⟩ :=
      Fin.ext (show 64 * (2 * p.val + 0) + d.val = 128 * p.val + d.val by omega)
    refine (congrArg (fun z => ((dats m 0 c).arrAt 5 cfg0.N : Vec Ideal S12x8448x1024 .bf16) (ix3 b (rowOf k r) z)) ec).trans ((result_apply m c b p k r ⟨d.val, by omega⟩).trans ?_)
    rw [tileOut_apply, if_pos (show d.val < 64 from d.isLt)]
    refine (quot_average _ _ _ _ _ r ⟨d.val, by omega⟩ t (fun n => ?_) (fun n => ?_) ν).trans ?_
    · refine (Finset.sum_congr rfl fun x _ => congrArg₂ (fun x y : EReal => x * y) (queries_block m c b p 0 (rowOf k r) x) (keys_even_block m c b p _ x _)).trans (ht n)
    · refine (values_even_block m c b p (keyRow n) _).trans (Eq.trans ?_ (h1 n))
      congr 2
      exact Fin.ext (show (d.val + 64) % 128 = (64 * ((2 * p.val + 0) % 2) + d.val + 64) % 128 by omega)
    · refine congrArg (fun z => Cert.Online.average t z ν) (funext fun n => (values_even_block m c b p (keyRow n) ⟨d.val, by omega⟩).trans ?_)
      exact congrArg (fun z => (V m c main_v56 : Vec Ideal S12x12x8448x128 .bf16) (ix4 b ⟨valueSlab (2 * p.val), valueSlab_lt (by omega)⟩ (keyRow n) z)) el.symm
  · obtain ⟨p, rfl⟩ : ∃ p : Fin 8, H = ⟨2 * p.val + (1 : Fin 2).val, head_lt p 1⟩ :=
      ⟨⟨H.val / 2, by omega⟩, Fin.ext (show H.val = 2 * (H.val / 2) + 1 by omega)⟩
    have el : (⟨64 * ((2 * p.val + (1 : Fin 2).val) % 2) + d.val, by omega⟩ : Fin 128) = ⟨64 + d.val, by omega⟩ := Fin.ext (show 64 * ((2 * p.val + 1) % 2) + d.val = 64 + d.val by omega)
    have ec : (⟨64 * (2 * p.val + (1 : Fin 2).val) + d.val, by show 64 * (2 * p.val + 1) + d.val < 1024; omega⟩ : Fin 1024) = ⟨128 * p.val + (⟨64 + d.val, by omega⟩ : Fin 128).val, by show 128 * p.val + (64 + d.val) < 1024; omega⟩ :=
      Fin.ext (show 64 * (2 * p.val + 1) + d.val = 128 * p.val + (64 + d.val) by omega)
    refine (congrArg (fun z => ((dats m 0 c).arrAt 5 cfg0.N : Vec Ideal S12x8448x1024 .bf16) (ix3 b (rowOf k r) z)) ec).trans ((result_apply m c b p k r ⟨64 + d.val, by omega⟩).trans ?_)
    rw [tileOut_apply, if_neg (show ¬ 64 + d.val < 64 by omega)]
    refine (quot_average _ _ _ _ _ r ⟨64 + d.val, by omega⟩ t (fun n => ?_) (fun n => ?_) ν).trans ?_
    · refine (Finset.sum_congr rfl fun x _ => congrArg₂ (fun x y : EReal => x * y) (queries_block m c b p 1 (rowOf k r) x) (keys_odd_block m c b p _ x _)).trans (ht n)
    · refine (values_odd_block m c b p (keyRow n) _).trans (Eq.trans ?_ (h1 n))
      congr 2
      exact Fin.ext (show (64 + d.val + 64) % 128 = (64 * ((2 * p.val + 1) % 2) + d.val + 64) % 128 by omega)
    · refine congrArg (fun z => Cert.Online.average t z ν) (funext fun n => (values_odd_block m c b p (keyRow n) ⟨64 + d.val, by omega⟩).trans ?_)
      exact congrArg (fun z => (V m c main_v56 : Vec Ideal S12x12x8448x128 .bf16) (ix4 b ⟨valueSlab (2 * p.val + 1), valueSlab_lt (by omega)⟩ (keyRow n) z)) el.symm

open Cert.ReferenceIdeal.Attn

variable (q : FVec Ideal S12x8448x8x64 .f32) (k : FVec Ideal S12x8448x2x64 .f32) (v : FVec Ideal S12x8448x2x64 .f32)
  (q' : FVec Ideal S12x8448x8x96 .f32) (k' : FVec Ideal S12x8448x8x64 .f32) (e' : FVec Ideal S12x8448x32 .f32) (v' : FVec Ideal S12x8448x8x64 .f32)

/-- A grouped head's entry is the reference's. -/
theorem grouped_entry (c : Dev nD) (hQ : V m c main_v23 = slots q q') (hK : V m c main_v32 = keySlabs k k' e') (hW : V m c main_v56 = valueSlabs v v')
    (hq : ∀ i, ∃ x : ℝ, q i = (x : EReal)) (hk : ∀ b n g d, ∃ x : ℝ, k (ix4 b (keyRow n) g d) = (x : EReal))
    (b : Fin 12) (h : Fin 8) (i : Fin k0_t1_loop.trips) (r : Fin 768) (d : Fin 64) :
    ((dats m 0 c).arrAt 5 cfg0.N : Vec Ideal S12x8448x1024 .bf16) (ix3 b (rowOf i r) ⟨64 * h.val + d.val, by omega⟩)
      = outG (weightG (expG (scoresG q k) (maxG (scoresG q k)))) v (ix3 b (rowOf i r) ⟨64 * h.val + d.val, by omega⟩) := by
  choose x hx using hq
  choose y hy using hk
  have hs : ∀ (b : Fin 12) (g : Fin 2) (s : Fin 4) (row : Fin 8448) (n : Fin 8208), scoresG q k (ix5 b g s row n)
      = (((∑ d : Fin 64, y b n g d * x (ix4 b row ⟨g.val * 4 + s.val, by omega⟩ d)) * 8⁻¹ : ℝ) : EReal) := fun b g s row n => by
    rw [scoresG_apply, EReal.coe_mul, ← Cert.Online.coe_sum]
    simp only [hx, hy, EReal.coe_mul]
  have hreal : ∀ j, ∃ z : ℝ, scoresG q k j = (z : EReal) := fun j => by
    obtain ⟨j0, j1, j2, j3, j4, rfl⟩ : ∃ (j0 : Fin 12) (j1 : Fin 2) (j2 : Fin 4) (j3 : Fin 8448) (j4 : Fin 8208), j = ix5 j0 j1 j2 j3 j4 :=
      ⟨j 0, j 1, j 2, j 3, j 4, (ix5_eta j).symm⟩
    exact ⟨_, hs _ _ _ _ _⟩
  obtain ⟨ν, hν⟩ := grouped_average (scoresG q k) hreal v b h (rowOf i r) d
    (fun n => (∑ d : Fin 64, y b n ⟨h.val / 4, by omega⟩ d * x (ix4 b (rowOf i r) h d)) * 8⁻¹) (fun n => by
      rw [hs]
      have e : (⟨h.val / 4 * 4 + h.val % 4, by omega⟩ : Fin 8) = h := Fin.ext (by show h.val / 4 * 4 + h.val % 4 = h.val; omega)
      simp only [e])
  refine Eq.trans ?_ hν.symm
  refine (entry_average m c _ _ _ hQ hK hW b ⟨h.val, by omega⟩ i r d
    (fun n => (∑ d : Fin 64, y b n ⟨h.val / 4, by omega⟩ d * x (ix4 b (rowOf i r) h d)) * 8⁻¹) (fun n => ?_) (fun n => grouped_one v v' b h (keyRow n) d) ν).trans ?_
  · have e : (⟨keySlab h.val, keySlab_lt (by omega)⟩ : Fin 9) = 0 := Fin.ext (if_pos h.isLt)
    refine Eq.trans ?_ (grouped_scores q k q' k' e' x hx y hy b h (rowOf i r) n)
    simp only [e]
  · refine congrArg (fun z => Cert.Online.average _ z ν) (funext fun n => grouped_value v v' b h (keyRow n) d)

/-- A latent head's likewise. -/
theorem latent_entry (c : Dev nD) (hQ : V m c main_v23 = slots q q') (hK : V m c main_v32 = keySlabs k k' e') (hW : V m c main_v56 = valueSlabs v v')
    (hq : ∀ i, ∃ x : ℝ, q' i = (x : EReal)) (hk : ∀ b n g d, ∃ x : ℝ, k' (ix4 b (keyRow n) g d) = (x : EReal))
    (he : ∀ b n d, ∃ x : ℝ, e' (ix3 b (keyRow n) d) = (x : EReal))
    (b : Fin 12) (h : Fin 8) (i : Fin k0_t1_loop.trips) (r : Fin 768) (d : Fin 64) :
    ((dats m 0 c).arrAt 5 cfg0.N : Vec Ideal S12x8448x1024 .bf16) (ix3 b (rowOf i r) ⟨64 * (8 + h.val) + d.val, by omega⟩)
      = outM (weightM (expM (scoresM q' k' e') (maxM (scoresM q' k' e')))) v' (ix3 b (rowOf i r) ⟨64 * h.val + d.val, by omega⟩) := by
  choose x hx using hq
  choose y hy using hk
  choose z hz using he
  have hs : ∀ (b : Fin 12) (h : Fin 8) (row : Fin 8448) (n : Fin 8208), scoresM q' k' e' (ix4 b h row n)
      = (((∑ d : Fin 64, x (ix4 b row h ⟨d.val, by omega⟩) * y b n h d + ∑ d : Fin 32, z b n d * x (ix4 b row h ⟨64 + d.val, by omega⟩)) * (Real.sqrt 96)⁻¹ : ℝ) : EReal) := fun b h row n => by
    rw [scoresM_apply, EReal.coe_mul, EReal.coe_add, ← Cert.Online.coe_sum, ← Cert.Online.coe_sum]
    simp only [hx, hy, hz, EReal.coe_mul]
  have hreal : ∀ j, ∃ z : ℝ, scoresM q' k' e' j = (z : EReal) := fun j => by
    obtain ⟨j0, j1, j2, j3, rfl⟩ : ∃ (j0 : Fin 12) (j1 : Fin 8) (j2 : Fin 8448) (j3 : Fin 8208), j = ix4 j0 j1 j2 j3 :=
      ⟨j 0, j 1, j 2, j 3, (ix4_eta j).symm⟩
    exact ⟨_, hs _ _ _ _⟩
  obtain ⟨ν, hν⟩ := latent_average (scoresM q' k' e') hreal v' b h (rowOf i r) d _ (fun n => hs b h (rowOf i r) n)
  refine Eq.trans ?_ hν.symm
  refine (entry_average m c _ _ _ hQ hK hW b ⟨8 + h.val, by omega⟩ i r d
    (fun n => (∑ d : Fin 64, x (ix4 b (rowOf i r) h ⟨d.val, by omega⟩) * y b n h d + ∑ d : Fin 32, z b n d * x (ix4 b (rowOf i r) h ⟨64 + d.val, by omega⟩)) * (Real.sqrt 96)⁻¹) (fun n => ?_) (fun n => latent_one v v' b h (keyRow n) d) ν).trans ?_
  · have e : (⟨keySlab (8 + h.val), keySlab_lt (by omega)⟩ : Fin 9) = ⟨1 + h.val, by omega⟩ :=
      Fin.ext ((if_neg (by omega)).trans (show 8 + h.val - 7 = 1 + h.val by omega))
    refine Eq.trans ?_ (latent_scores q k q' k' e' x hx y hy z hz b h (rowOf i r) n)
    simp only [e]
  · refine congrArg (fun z => Cert.Online.average _ z ν) (funext fun n => latent_value v v' b h (keyRow n) d)

theorem low_lt (h : Fin 8) (d : Fin 64) : 64 * h.val + d.val < 1024 := by omega
theorem high_lt (h : Fin 8) (d : Fin 64) : 64 * (8 + h.val) + d.val < 1024 := by omega

/-- The whole result is the reference's. -/
theorem result_joined (c : Dev nD) (hQ : V m c main_v23 = slots q q') (hK : V m c main_v32 = keySlabs k k' e') (hW : V m c main_v56 = valueSlabs v v')
    (hpre : Cert.Pre_finite_scores.fn (F := Ideal) q k v q' k' e' v' = fun _ => 1#1) :
    ((dats m 0 c).arrAt 5 cfg0.N : Vec Ideal S12x8448x1024 .bf16)
      = joined (outG (weightG (expG (scoresG q k) (maxG (scoresG q k)))) v) (outM (weightM (expM (scoresM q' k' e') (maxM (scoresM q' k' e')))) v') := by
  obtain ⟨r0, r1, r3, r4, r5⟩ := Cert.Pre_finite_scores.reals q k v q' k' e' v' hpre
  funext j
  obtain ⟨b, row, l, rfl⟩ : ∃ (b : Fin 12) (row : Fin 8448) (l : Fin 1024), j = ix3 b row l := ⟨j 0, j 1, j 2, (ix3_eta j).symm⟩
  obtain ⟨i, r, rfl⟩ : ∃ (i : Fin k0_t1_loop.trips) (r : Fin 768), row = rowOf i r :=
    ⟨⟨row.val / 768, by rw [trips_eq]; omega⟩, ⟨row.val % 768, by omega⟩, Fin.ext (show row.val = 768 * (row.val / 768) + row.val % 768 by omega)⟩
  by_cases hl : l.val < 512
  · obtain ⟨h, d, rfl⟩ : ∃ (h : Fin 8) (d : Fin 64), l = ⟨64 * h.val + d.val, low_lt h d⟩ :=
      ⟨⟨l.val / 64, by omega⟩, ⟨l.val % 64, by omega⟩, Fin.ext (show l.val = 64 * (l.val / 64) + l.val % 64 by omega)⟩
    exact (grouped_entry m q k v q' k' e' v' c hQ hK hW r0 r1 b h i r d).trans (joined_low _ _ b (rowOf i r) ⟨64 * h.val + d.val, by omega⟩).symm
  · obtain ⟨h, d, rfl⟩ : ∃ (h : Fin 8) (d : Fin 64), l = ⟨64 * (8 + h.val) + d.val, high_lt h d⟩ :=
      ⟨⟨l.val / 64 - 8, by omega⟩, ⟨l.val % 64, by omega⟩, Fin.ext (show l.val = 64 * (8 + (l.val / 64 - 8)) + l.val % 64 by omega)⟩
    refine (latent_entry m q k v q' k' e' v' c hQ hK hW r3 r4 r5 b h i r d).trans (Eq.trans (joined_high (outG (weightG (expG (scoresG q k) (maxG (scoresG q k)))) v) _ b (rowOf i r) ⟨64 * h.val + d.val, by omega⟩).symm ?_)
    exact congrArg (fun z => joined (outG (weightG (expG (scoresG q k) (maxG (scoresG q k)))) v)
      (outM (weightM (expM (scoresM q' k' e') (maxM (scoresM q' k' e')))) v') (ix3 b (rowOf i r) z)) (Fin.ext (show 512 + (64 * h.val + d.val) = 64 * (8 + h.val) + d.val by omega))

end Cert.KernelIdeal.Attn
end
-- ==== Proof.Experts.lean ====
/- The experts' call at an index: one entry of one expert's SwiGLU, from the arguments' rows and columns. -/
module

public import proofs.«01_k».proof.Proof.Gen.Kernel2Ideal.Value
public import Idealize.ShloMosaic.Lib.StableHlo.RunRead
public import Idealize.ShloMosaic.Lib.Pipeline.ValueKit
public import Idealize.ShloMosaic.Lib.Pointwise

@[expose] public section
set_option maxRecDepth 16384
noncomputable section
namespace Cert.Kernel2Ideal.Experts

open Cert.Kernel2Ideal Cert.Kernel2Ideal.Gen
open Idealize.ShloMosaic Idealize.ShloMosaic.TcCoe Idealize.ShloMosaic.Tactic
open Idealize.SL

/-- One entry of a SwiGLU: a row `x` against the columns `g f` and `u f`, the products gated, then summed against the column `d`. -/
def swiglu (x : Fin 1024 → EReal) (g u : Fin 512 → Fin 1024 → EReal) (d : Fin 512 → EReal) : EReal :=
  ∑ f : Fin 512, ((∑ k : Fin 1024, x k * g f k) * Ideal.logistic (∑ k : Fin 1024, x k * g f k) * ∑ k : Fin 1024, x k * u f k) * d f

/-- A block of rows times an expert's matrix. -/
def proj (x : Vec Ideal S1x1664x1024 .bf16) (w : Vec Ideal S1x1024x512 .bf16) : FVec Ideal S1664x512 .f32 :=
  matmul dot_S1664x1024_S1024x512_S1664x512_1_0_0_1_n_n none (φ₁ := .bf16) (φ₂ := .bf16) (shapeCast S1664x1024 x shapeCasts_S1x1664x1024_S1664x1024)
    (shapeCast S1024x512 w shapeCasts_S1x1024x512_S1024x512) (constant S1664x512 .f32 0x00000000#32)

theorem proj_apply (x : Vec Ideal S1x1664x1024 .bf16) (w : Vec Ideal S1x1024x512 .bf16) (r : Fin 1664) (f : Fin 512) :
    proj x w (ix2 r f) = ∑ k : Fin 1024, x (ix3 0 r k) * w (ix3 0 k f) := by
  unfold proj
  pointwise

/-- The gated block. -/
def gated (a b : FVec Ideal S1664x512 .f32) : FVec Ideal S1664x512 .bf16 := truncf .bf16 (mulf (mulf a (logistic a)) b) bitsLt_bf16_f32

theorem gated_apply (a b : FVec Ideal S1664x512 .f32) (i : S1664x512.Idx) : gated a b i = a i * Ideal.logistic (a i) * b i := rfl

/-- The gated block times an expert's last matrix. -/
def down (a : FVec Ideal S1664x512 .bf16) (w : Vec Ideal S1x512x1024 .bf16) : FVec Ideal S1x1664x1024 .bf16 :=
  shapeCast S1x1664x1024 (truncf .bf16 (matmul dot_S1664x512_S512x1024_S1664x1024_1_0_0_1_n_n none (φ₁ := .bf16) (φ₂ := .bf16) a
    (shapeCast S512x1024 w shapeCasts_S1x512x1024_S512x1024) (constant S1664x1024 .f32 0x00000000#32)) bitsLt_bf16_f32) shapeCasts_S1664x1024_S1x1664x1024

theorem down_apply (a : FVec Ideal S1664x512 .bf16) (w : Vec Ideal S1x512x1024 .bf16) (r : Fin 1664) (d : Fin 1024) :
    down a w (ix3 0 r d) = ∑ f : Fin 512, a (ix2 r f) * w (ix3 0 f d) := by
  unfold down
  pointwise

theorem block_apply (x : Vec Ideal S1x1664x1024 .bf16) (g u : Vec Ideal S1x1024x512 .bf16) (w : Vec Ideal S1x512x1024 .bf16) (r : Fin 1664) (d : Fin 1024) :
    out0_4 x g u w (ix3 0 r d)
      = swiglu (fun k => x (ix3 0 r k)) (fun f k => g (ix3 0 k f)) (fun f k => u (ix3 0 k f)) (fun f => w (ix3 0 f d)) := by
  have hl : out0_4 x g u w = down (gated (proj x g) (proj x u)) w := by
    unfold out0_4
    rw [View.canon_unit_zero (by decide), View.ld_unit_zero (by decide), View.ld_unit_zero (by decide), View.ld_unit_zero (by decide),
      View.ld_unit_zero (by decide)]
    rfl
  rw [hl, down_apply]
  unfold swiglu
  simp only [gated_apply, proj_apply]

theorem block0 : ∀ t : Fin cfg0.N, win0_0.index t = ![t.val / 5, t.val % 5, 0] :=
  (by decide +kernel : ∀ t : Fin grid0.N, win0_0.index t = ![t.val / 5, t.val % 5, 0])
theorem block1 : ∀ t : Fin cfg0.N, win0_1.index t = ![t.val / 5, 0, 0] :=
  (by decide +kernel : ∀ t : Fin grid0.N, win0_1.index t = ![t.val / 5, 0, 0])
theorem block2 : ∀ t : Fin cfg0.N, win0_2.index t = ![t.val / 5, 0, 0] :=
  (by decide +kernel : ∀ t : Fin grid0.N, win0_2.index t = ![t.val / 5, 0, 0])
theorem block3 : ∀ t : Fin cfg0.N, win0_3.index t = ![t.val / 5, 0, 0] :=
  (by decide +kernel : ∀ t : Fin grid0.N, win0_3.index t = ![t.val / 5, 0, 0])
theorem block4 : ∀ t : Fin cfg0.N, win0_4.index t = ![t.val / 5, t.val % 5, 0] :=
  (by decide +kernel : ∀ t : Fin grid0.N, win0_4.index t = ![t.val / 5, t.val % 5, 0])
theorem flush4 : ∀ t : Fin cfg0.N, (cfg0.win 4).flush t = true :=
  (by decide +kernel : ∀ t : Fin grid0.N, win0_4.flush t = true)

/-- The grid point of an expert and a block of its rows. -/
def pointOf (e : Fin 16) (j : Fin 5) : Fin cfg0.N :=
  ⟨5 * e.val + j.val, by show _ < grid0.N; have := e.isLt; have := j.isLt; have : grid0.N = 80 := by decide
                         omega⟩
theorem pointOf_div (e : Fin 16) (j : Fin 5) : (pointOf e j).val / 5 = e.val := by show (5 * e.val + j.val) / 5 = _; omega
theorem pointOf_mod (e : Fin 16) (j : Fin 5) : (pointOf e j).val % 5 = j.val := by show (5 * e.val + j.val) % 5 = _; omega

/-- Row `r` of block `j` among an expert's rows. -/
def rowOf (j : Fin 5) (r : Fin 1664) : Fin 8320 := ⟨1664 * j.val + r.val, by omega⟩

theorem rows_read (A : Vec Ideal S16x8320x1024 .bf16) (e : Fin 16) (j : Fin 5) (r : Fin 1664) (k : Fin 1024) :
    (((cfg0.win 0).blk (pointOf e j)).view.read (Elt Ideal) A : Vec Ideal S1x1664x1024 .bf16) (ix3 0 r k) = A (ix3 e (rowOf j r) k) := by
  have e1 := pointOf_div e j
  have e2 := pointOf_mod e j
  blk_simp []
  refine congrArg A ?_
  blk_ext [block0, e1, e2, rowOf]

theorem gate_read (A : Vec Ideal S16x1024x512 .bf16) (e : Fin 16) (j : Fin 5) (k : Fin 1024) (f : Fin 512) :
    (((cfg0.win 1).blk (pointOf e j)).view.read (Elt Ideal) A : Vec Ideal S1x1024x512 .bf16) (ix3 0 k f) = A (ix3 e k f) := by
  have e1 := pointOf_div e j
  blk_simp []
  refine congrArg A ?_
  blk_ext [block1, e1]

theorem up_read (A : Vec Ideal S16x1024x512 .bf16) (e : Fin 16) (j : Fin 5) (k : Fin 1024) (f : Fin 512) :
    (((cfg0.win 2).blk (pointOf e j)).view.read (Elt Ideal) A : Vec Ideal S1x1024x512 .bf16) (ix3 0 k f) = A (ix3 e k f) := by
  have e1 := pointOf_div e j
  blk_simp []
  refine congrArg A ?_
  blk_ext [block2, e1]

theorem down_read (A : Vec Ideal S16x512x1024 .bf16) (e : Fin 16) (j : Fin 5) (f : Fin 512) (d : Fin 1024) :
    (((cfg0.win 3).blk (pointOf e j)).view.read (Elt Ideal) A : Vec Ideal S1x512x1024 .bf16) (ix3 0 f d) = A (ix3 e f d) := by
  have e1 := pointOf_div e j
  blk_simp []
  refine congrArg A ?_
  blk_ext [block3, e1]

theorem result_read (A : Vec Ideal S16x8320x1024 .bf16) (e : Fin 16) (j : Fin 5) (r : Fin 1664) (k : Fin 1024) :
    (((cfg0.win 4).blk (pointOf e j)).view.read (Elt Ideal) A : Vec Ideal S1x1664x1024 .bf16) (ix3 0 r k) = A (ix3 e (rowOf j r) k) := by
  have e1 := pointOf_div e j
  have e2 := pointOf_mod e j
  blk_simp []
  refine congrArg A ?_
  blk_ext [block4, e1, e2, rowOf]

variable (m : (ℓ : Loc nD τ sig) → Buf (Elt Ideal) ℓ)

/-- The region's arrays are the arguments: over the extended reals the casts are the identity. -/
theorem region0 (c : Dev nD) : V m c main_v0 = m ((c : Thread nD τ).loc main_arg0) := by
  simp only [V, List.flatten_cons, List.flatten_nil, List.append_nil]
  after_reads_simp
  rfl
theorem region1 (c : Dev nD) : V m c main_v1 = m ((c : Thread nD τ).loc main_arg1) := by
  simp only [V, List.flatten_cons, List.flatten_nil, List.append_nil]
  after_reads_simp
  rfl
theorem region2 (c : Dev nD) : V m c main_v2 = m ((c : Thread nD τ).loc main_arg2) := by
  simp only [V, List.flatten_cons, List.flatten_nil, List.append_nil]
  after_reads_simp
  rfl
theorem region3 (c : Dev nD) : V m c main_v3 = m ((c : Thread nD τ).loc main_arg3) := by
  simp only [V, List.flatten_cons, List.flatten_nil, List.append_nil]
  after_reads_simp
  rfl

/-- The result's entry, from the arguments. -/
theorem result_apply (c : Dev nD) (e : Fin 16) (j : Fin 5) (r : Fin 1664) (d : Fin 1024) (x : FVec Ideal S16x8320x1024 .f32)
    (g u : FVec Ideal S16x1024x512 .f32) (w : FVec Ideal S16x512x1024 .f32)
    (hx : V m c main_v0 = x) (hg : V m c main_v1 = g) (hu : V m c main_v2 = u) (hw : V m c main_v3 = w) :
    ((dats m 0 c).arrAt 4 cfg0.N : Vec Ideal S16x8320x1024 .bf16) (ix3 e (rowOf j r) d)
      = swiglu (fun k => x (ix3 e (rowOf j r) k)) (fun f k => g (ix3 e k f)) (fun f k => u (ix3 e k f)) (fun f => w (ix3 e f d)) := by
  have h := congrFun ((Value.blocks4 m c (pointOf e j) (flush4 _)).trans (Value.flushed4 m c (pointOf e j))) (ix3 0 r d)
  refine (result_read _ e j r d).symm.trans (h.trans ?_)
  refine (block_apply _ _ _ _ r d).trans ?_
  have h0 : ∀ k, (iblk m c 0 (pointOf e j) : Vec Ideal S1x1664x1024 .bf16) (ix3 0 r k) = x (ix3 e (rowOf j r) k) := fun k =>
    (rows_read (V m c main_v0) e j r k).trans (congrFun hx _)
  have h1 : ∀ k f, (iblk m c 1 (pointOf e j) : Vec Ideal S1x1024x512 .bf16) (ix3 0 k f) = g (ix3 e k f) := fun k f =>
    (gate_read (V m c main_v1) e j k f).trans (congrFun hg _)
  have h2 : ∀ k f, (iblk m c 2 (pointOf e j) : Vec Ideal S1x1024x512 .bf16) (ix3 0 k f) = u (ix3 e k f) := fun k f =>
    (up_read (V m c main_v2) e j k f).trans (congrFun hu _)
  have h3 : ∀ f, (iblk m c 3 (pointOf e j) : Vec Ideal S1x512x1024 .bf16) (ix3 0 f d) = w (ix3 e f d) := fun f =>
    (down_read (V m c main_v3) e j f d).trans (congrFun hw _)
  simp only [h0, h1, h2, h3]

end Cert.Kernel2Ideal.Experts
end
-- ==== Proof.RefExperts.lean ====
/- The experts' reference at an index, and its equality with the call's result. -/
module

public import proofs.«01_k».proof.Proof.Gen.Reference2Ideal.Run
public import proofs.«01_k».proof.Proof.Experts

@[expose] public section
set_option maxRecDepth 16384
noncomputable section
namespace Cert.Reference2Ideal.Experts

open Cert.Reference2Ideal Cert.Reference2Ideal.Gen
open Idealize.ShloMosaic Idealize.ShloMosaic.TcCoe Idealize.ShloMosaic.Tactic
open Idealize.SL
open Cert.Kernel2Ideal.Experts (swiglu rowOf)

/-- Every expert's rows times its matrix. -/
def proj (x : FVec Ideal S16x8320x1024 .f32) (w : FVec Ideal S16x1024x512 .f32) : FVec Ideal S16x8320x512 .f32 :=
  Host.dotGeneral dot_S16x8320x1024_S16x1024x512_S16x8320x512_2_1_1_2_0_0 none x w

theorem proj_apply (x : FVec Ideal S16x8320x1024 .f32) (w : FVec Ideal S16x1024x512 .f32) (e : Fin 16) (r : Fin 8320) (f : Fin 512) :
    proj x w (ix3 e r f) = ∑ k : Fin 1024, x (ix3 e r k) * w (ix3 e k f) := by
  unfold proj
  pointwise

/-- The `silu` of one array times another. -/
def gated (a b : FVec Ideal S16x8320x512 .f32) : FVec Ideal S16x8320x512 .f32 :=
  mulf (mulf a (Host.divf (broadcastInDim S16x8320x512 ![] bcast_S_S16x8320x512 (constant S_ .f32 0x3F800000#32))
    (addf (broadcastInDim S16x8320x512 ![] bcast_S_S16x8320x512 (constant S_ .f32 0x3F800000#32)) (Host.exp (Host.negf a))))) b

theorem gated_apply (a b : FVec Ideal S16x8320x512 .f32) (e : Fin 16) (r : Fin 8320) (f : Fin 512) :
    gated a b (ix3 e r f) = a (ix3 e r f) * Ideal.logistic (a (ix3 e r f)) * b (ix3 e r f) := by
  unfold gated Ideal.logistic
  pointwise

/-- The gated rows times every expert's last matrix. -/
def down (a : FVec Ideal S16x8320x512 .f32) (w : FVec Ideal S16x512x1024 .f32) : FVec Ideal S16x8320x1024 .bf16 :=
  truncf .bf16 (Host.dotGeneral dot_S16x8320x512_S16x512x1024_S16x8320x1024_2_1_1_2_0_0 none a w) bitsLt_bf16_f32

theorem down_apply (a : FVec Ideal S16x8320x512 .f32) (w : FVec Ideal S16x512x1024 .f32) (e : Fin 16) (r : Fin 8320) (d : Fin 1024) :
    down a w (ix3 e r d) = ∑ f : Fin 512, a (ix3 e r f) * w (ix3 e f d) := by
  unfold down
  pointwise

/-- The reference's entry is the SwiGLU of its row. -/
theorem result_apply (x : FVec Ideal S16x8320x1024 .f32) (g u : FVec Ideal S16x1024x512 .f32) (w : FVec Ideal S16x512x1024 .f32)
    (e : Fin 16) (r : Fin 8320) (d : Fin 1024) :
    down (gated (proj x g) (proj x u)) w (ix3 e r d)
      = swiglu (fun k => x (ix3 e r k)) (fun f k => g (ix3 e k f)) (fun f k => u (ix3 e k f)) (fun f => w (ix3 e f d)) := by
  rw [down_apply]
  unfold swiglu
  simp only [gated_apply, proj_apply]

/-- The call's array is the reference's. -/
theorem result_eq (m : (ℓ : Loc Cert.Kernel2Ideal.nD Cert.Kernel2Ideal.τ Cert.Kernel2Ideal.sig) → Buf (Elt Ideal) ℓ) (c : Dev Cert.Kernel2Ideal.nD)
    (x : FVec Ideal S16x8320x1024 .f32) (g u : FVec Ideal S16x1024x512 .f32) (w : FVec Ideal S16x512x1024 .f32)
    (hx : m ((c : Thread Cert.Kernel2Ideal.nD Cert.Kernel2Ideal.τ).loc Cert.Kernel2Ideal.main_arg0) = x)
    (hg : m ((c : Thread Cert.Kernel2Ideal.nD Cert.Kernel2Ideal.τ).loc Cert.Kernel2Ideal.main_arg1) = g)
    (hu : m ((c : Thread Cert.Kernel2Ideal.nD Cert.Kernel2Ideal.τ).loc Cert.Kernel2Ideal.main_arg2) = u)
    (hw : m ((c : Thread Cert.Kernel2Ideal.nD Cert.Kernel2Ideal.τ).loc Cert.Kernel2Ideal.main_arg3) = w) :
    down (gated (proj x g) (proj x u)) w = ((Cert.Kernel2Ideal.Gen.dats m 0 c).arrAt 4 Cert.Kernel2Ideal.cfg0.N : Vec Ideal S16x8320x1024 .bf16) := by
  funext i
  obtain ⟨e, r, d, rfl⟩ : ∃ (e : Fin 16) (r : Fin 8320) (d : Fin 1024), i = ix3 e r d := ⟨i 0, i 1, i 2, (ix3_eta i).symm⟩
  obtain ⟨j, q, rfl⟩ : ∃ (j : Fin 5) (q : Fin 1664), r = rowOf j q :=
    ⟨⟨r.val / 1664, by omega⟩, ⟨r.val % 1664, by omega⟩, Fin.ext (show r.val = 1664 * (r.val / 1664) + r.val % 1664 by omega)⟩
  exact (result_apply x g u w e _ d).trans (Cert.Kernel2Ideal.Experts.result_apply m c e j q d x g u w
    ((Cert.Kernel2Ideal.Experts.region0 m c).trans hx) ((Cert.Kernel2Ideal.Experts.region1 m c).trans hg)
    ((Cert.Kernel2Ideal.Experts.region2 m c).trans hu) ((Cert.Kernel2Ideal.Experts.region3 m c).trans hw)).symm

end Cert.Reference2Ideal.Experts
end
-- ==== Proof.MergeRow.lean ====
/- One row of the merged layer over the extended reals: the gated residual, its norm, and the router's softmax. -/
module

public import Idealize.ShloMosaic.Lib.Pointwise

@[expose] public section
noncomputable section
namespace Cert.MergeRow

open Idealize.ShloMosaic

/-- One entry of the residual: `h d`, and the two halves of `o` projected, gated by `g`, added, and projected. -/
def residual (o : Fin 1024 → EReal) (g : Fin 2048 → EReal) (h : Fin 1024 → EReal) (a b : Fin 512 → Fin 1024 → EReal)
    (w : Fin 1024 → Fin 1024 → EReal) (d : Fin 1024) : EReal :=
  h d + ∑ k : Fin 1024, (g ⟨k.val, by omega⟩ * (∑ f : Fin 512, o ⟨f.val, by omega⟩ * a f k)
    + g ⟨1024 + k.val, by omega⟩ * ∑ f : Fin 512, o ⟨512 + f.val, by omega⟩ * b f k) * w k d

/-- One entry of a row's norm: the entry over the root of the mean square, times the gain. -/
def normed (x n : Fin 1024 → EReal) (d : Fin 1024) : EReal :=
  x d * Ideal.rsqrt (Ideal.div (∑ k : Fin 1024, x k * x k) (Ideal.ofBits FTy.f32 0x44800000#32) + Ideal.ofBits FTy.f32 0x358637BD#32) * n d

/-- A softmax of sixteen entries at one of them. -/
def share (t : Fin 16 → EReal) (e : Fin 16) : EReal :=
  Ideal.div (Ideal.exp (t e - Finset.univ.sup t)) (∑ j : Fin 16, Ideal.exp (t j - Finset.univ.sup t))

/-- A lane below 16 among the 128. -/
def lane (e : Fin 16) : Fin 128 := ⟨e.val, by omega⟩

theorem sum_lanes (f : Fin 128 → EReal) (hf : ∀ l : Fin 128, ¬ l.val < 16 → f l = 0) : ∑ l, f l = ∑ e, f (lane e) := by
  refine (Fin.sum_univ_add (a := 16) (b := 112) f).trans ?_
  have h0 : ∑ l : Fin 112, f (Fin.natAdd 16 l) = 0 :=
    Finset.sum_eq_zero fun l _ => hf (Fin.natAdd 16 l) (not_lt.2 (Nat.le_add_right 16 l.val))
  exact (congrArg (_ + ·) h0).trans (add_zero _)

theorem sup_lanes (f : Fin 128 → EReal) (hf : ∀ l : Fin 128, ¬ l.val < 16 → f l = ⊥) :
    Finset.univ.sup f = Finset.univ.sup fun e => f (lane e) := by
  refine le_antisymm (Finset.sup_le fun l _ => ?_) (Finset.sup_le fun e _ => Finset.le_sup (f := f) (Finset.mem_univ _))
  by_cases h : l.val < 16
  · exact Finset.le_sup (f := fun e => f (lane e)) (Finset.mem_univ (⟨l.val, h⟩ : Fin 16))
  · rw [hf l h]; exact bot_le

/-- A softmax over 128 lanes, those past the sixteenth masked, is the softmax of the sixteen. -/
theorem share_lanes (f : Fin 128 → EReal) (t : Fin 16 → EReal) (hf : ∀ l : Fin 128, ¬ l.val < 16 → f l = ⊥) (ht : ∀ e, f (lane e) = t e) (e : Fin 16) :
    Ideal.div (Ideal.exp (f (lane e) - Finset.univ.sup f)) (∑ l, Ideal.exp (f l - Finset.univ.sup f)) = share t e := by
  have hs : Finset.univ.sup f = Finset.univ.sup t := by
    rw [sup_lanes f hf]
    exact congrArg _ (funext ht)
  rw [sum_lanes _ fun l h => by rw [hf l h, EReal.bot_sub, Ideal.exp_bot], hs]
  simp only [ht]
  rfl

/-! ## Rows of reals -/

/-- Being a real. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.sum {ι : Type} (s : Finset ι) {f : ι → EReal} (hf : ∀ i, IsReal (f i)) : IsReal (∑ i ∈ s, f i) :=
  Finset.sum_induction f IsReal (fun _ _ => IsReal.add) ⟨0, EReal.coe_zero.symm⟩ fun i _ => hf i
theorem IsReal.sub_self {x : EReal} (hx : IsReal x) : x - x = 0 := by
  obtain ⟨r, rfl⟩ := hx
  rw [← EReal.coe_sub, _root_.sub_self, EReal.coe_zero]

/-- A logistic is a real, of any argument. -/
theorem logistic_real (x : EReal) : IsReal (Ideal.logistic x) := by
  induction x using EReal.rec with
  | bot => exact ⟨0, Ideal.logistic_bot.trans EReal.coe_zero.symm⟩
  | top => exact ⟨1, Ideal.logistic_top.trans EReal.coe_one.symm⟩
  | coe r => exact ⟨_, Ideal.logistic_coe r⟩

theorem bits_1024 : Ideal.ofBits FTy.f32 0x44800000#32 = ((1024 : ℝ) : EReal) := by
  simp [Ideal.ofBits, Ideal.ieee]
  rw [← EReal.coe_mul]; norm_num

theorem bits_eps : ∃ r : ℝ, 0 < r ∧ Ideal.ofBits FTy.f32 0x358637BD#32 = (r : EReal) := by
  simp only [Ideal.ofBits, Ideal.ieee]
  simp
  refine ⟨_, ?_, (EReal.coe_mul _ _).symm⟩
  positivity

/-- The residual of reals is a real. -/
theorem residual_real {o : Fin 1024 → EReal} {g : Fin 2048 → EReal} {h : Fin 1024 → EReal} {a b : Fin 512 → Fin 1024 → EReal} {w : Fin 1024 → Fin 1024 → EReal}
    (ho : ∀ k, IsReal (o k)) (hg : ∀ k, IsReal (g k)) (hh : ∀ k, IsReal (h k)) (ha : ∀ f k, IsReal (a f k)) (hb : ∀ f k, IsReal (b f k))
    (hw : ∀ k d, IsReal (w k d)) (d : Fin 1024) : IsReal (residual o g h a b w d) :=
  (hh d).add (IsReal.sum _ fun k => ((((hg _).mul (IsReal.sum _ fun f => (ho _).mul (ha f k))).add
    ((hg _).mul (IsReal.sum _ fun f => (ho _).mul (hb f k)))).mul (hw k d)))

/-- The norm of reals is a real: the mean square is not negative, and what is added to it is positive. -/
theorem normed_real {x n : Fin 1024 → EReal} (hx : ∀ k, IsReal (x k)) (hn : ∀ k, IsReal (n k)) (d : Fin 1024) : IsReal (normed x n d) := by
  refine ((hx d).mul ?_).mul (hn d)
  choose y hy using hx
  obtain ⟨ε, hε, he⟩ := bits_eps
  have hsum : ∑ k : Fin 1024, x k * x k = ((∑ k : Fin 1024, y k * y k : ℝ) : EReal) := by
    rw [Finset.sum_congr rfl fun k _ => by rw [hy k, ← EReal.coe_mul]]
    exact (map_sum (⟨⟨fun r : ℝ => (r : EReal), EReal.coe_zero⟩, EReal.coe_add⟩ : ℝ →+ EReal) _ _).symm
  have h0 : 0 ≤ ∑ k : Fin 1024, y k * y k := Finset.sum_nonneg fun k _ => mul_self_nonneg _
  have hp : 0 < (∑ k : Fin 1024, y k * y k) / 1024 + ε := by positivity
  rw [hsum, bits_1024, he, Ideal.div_coe (by norm_num), ← EReal.coe_mul, ← EReal.coe_add]
  refine ⟨(Real.sqrt ((∑ k : Fin 1024, y k * y k) / 1024 + ε))⁻¹, ?_⟩
  rw [show (∑ k : Fin 1024, y k * y k) * (1 / 1024) + ε = (∑ k : Fin 1024, y k * y k) / 1024 + ε by ring]
  rw [Ideal.rsqrt_coe, if_neg (not_lt.2 hp.le), if_neg hp.ne']

/-- The split products: `x − x` against the weights, and `x` against the weights less themselves, are zero when all are reals. -/
theorem split_sum {x w : Fin 1024 → EReal} (hx : ∀ k, IsReal (x k)) (hw : ∀ k, IsReal (w k)) :
    (∑ k, x k * w k + ∑ k, (x k - x k) * w k) + ∑ k, x k * (w k - w k) = ∑ k, x k * w k := by
  simp only [fun k => (hx k).sub_self, fun k => (hw k).sub_self, zero_mul, mul_zero, Finset.sum_const_zero, add_zero]

end Cert.MergeRow
end
-- ==== Proof.MergeBlock.lean ====
/- The merging call's block at an index: one row's residual, its norm and its shares, from the blocks of the arguments. -/
module

public import proofs.«01_k».proof.Proof.Gen.Kernel3Ideal.Value
public import proofs.«01_k».proof.Proof.MergeRow

@[expose] public section
set_option maxRecDepth 16384
noncomputable section
namespace Cert.Kernel3Ideal.Merge

open Cert.Kernel3Ideal Cert.Kernel3Ideal.Gen
open Idealize.ShloMosaic Idealize.ShloMosaic.TcCoe Idealize.ShloMosaic.Tactic
open Idealize.SL
open Cert.MergeRow

variable (x0 : Vec Ideal S1x768x1024 .bf16) (x1 : Vec Ideal S1x768x2048 .bf16) (x2 : Vec Ideal S1x768x1024 .f32) (x3 x4 : Vec Ideal S512x1024 .bf16)
  (x5 : Vec Ideal S1024x1024 .bf16) (x6 : Vec Ideal S1x1024 .f32) (x7 x8 : Vec Ideal S1024x128 .bf16)

/-- A block of rows times a half's matrix. -/
def half0 (o : Vec Ideal S1x768x1024 .bf16) (w : Vec Ideal S512x1024 .bf16) : FVec Ideal S768x1024 .f32 :=
  matmul (φ₁ := .bf16) (φ₂ := .bf16) dot_S768x512_S512x1024_S768x1024_1_0_0_1_n_n none (extractStridedSlice S768x512 ![0, 0] (shapeCast S768x1024 o shapeCasts_S1x768x1024_S768x1024) slices_S768x1024_o0_0_S768x512)
    (shapeCast S512x1024 w shapeCasts_S512x1024_S512x1024) (constant S768x1024 .f32 0x00000000#32)
def half1 (o : Vec Ideal S1x768x1024 .bf16) (w : Vec Ideal S512x1024 .bf16) : FVec Ideal S768x1024 .f32 :=
  matmul (φ₁ := .bf16) (φ₂ := .bf16) dot_S768x512_S512x1024_S768x1024_1_0_0_1_n_n none (extractStridedSlice S768x512 ![0, 512] (shapeCast S768x1024 o shapeCasts_S1x768x1024_S768x1024) slices_S768x1024_o0_512_S768x512)
    (shapeCast S512x1024 w shapeCasts_S512x1024_S512x1024) (constant S768x1024 .f32 0x00000000#32)
/-- The gated sum of the halves. -/
def mixed (g : Vec Ideal S1x768x2048 .bf16) (p q : FVec Ideal S768x1024 .f32) : FVec Ideal S768x1024 .bf16 :=
  truncf .bf16 (addf (mulf (extractStridedSlice S768x1024 ![0, 0] (extf (φ := .bf16) .f32 (shapeCast S768x2048 g shapeCasts_S1x768x2048_S768x2048) bitsLt_bf16_f32) slices_S768x2048_o0_0_S768x1024) p)
    (mulf (extractStridedSlice S768x1024 ![0, 1024] (extf (φ := .bf16) .f32 (shapeCast S768x2048 g shapeCasts_S1x768x2048_S768x2048) bitsLt_bf16_f32) slices_S768x2048_o0_1024_S768x1024) q)) bitsLt_bf16_f32
/-- The residual of the block. -/
def added (h : Vec Ideal S1x768x1024 .f32) (y : FVec Ideal S768x1024 .bf16) (w : Vec Ideal S1024x1024 .bf16) : FVec Ideal S768x1024 .f32 :=
  addf (shapeCast (α := Ideal .f32) S768x1024 h shapeCasts_S1x768x1024_S768x1024) (matmul (φ₁ := .bf16) (φ₂ := .bf16) dot_S768x1024_S1024x1024_S768x1024_1_0_0_1_n_n none y
    (shapeCast S1024x1024 w shapeCasts_S1024x1024_S1024x1024) (constant S768x1024 .f32 0x00000000#32))

theorem half0_apply (o : Vec Ideal S1x768x1024 .bf16) (w : Vec Ideal S512x1024 .bf16) (r : Fin 768) (k : Fin 1024) :
    half0 o w (ix2 r k) = ∑ f : Fin 512, o (ix3 0 r ⟨f.val, by omega⟩) * w (ix2 f k) := by
  unfold half0
  pointwise
theorem half1_apply (o : Vec Ideal S1x768x1024 .bf16) (w : Vec Ideal S512x1024 .bf16) (r : Fin 768) (k : Fin 1024) :
    half1 o w (ix2 r k) = ∑ f : Fin 512, o (ix3 0 r ⟨512 + f.val, by omega⟩) * w (ix2 f k) := by
  unfold half1
  pointwise
theorem mixed_apply (g : Vec Ideal S1x768x2048 .bf16) (p q : FVec Ideal S768x1024 .f32) (r : Fin 768) (k : Fin 1024) :
    mixed g p q (ix2 r k) = g (ix3 0 r ⟨k.val, by omega⟩) * p (ix2 r k) + g (ix3 0 r ⟨1024 + k.val, by omega⟩) * q (ix2 r k) := by
  unfold mixed
  pointwise
theorem added_apply (h : Vec Ideal S1x768x1024 .f32) (y : FVec Ideal S768x1024 .bf16) (w : Vec Ideal S1024x1024 .bf16) (r : Fin 768) (d : Fin 1024) :
    added h y w (ix2 r d) = h (ix3 0 r d) + ∑ k : Fin 1024, y (ix2 r k) * w (ix2 k d) := by
  unfold added
  pointwise

/-- A block's row of residuals, from the blocks of the arguments. -/
def rowOfBlock (r : Fin 768) : Fin 1024 → EReal :=
  residual (fun k => x0 (ix3 0 r k)) (fun k => x1 (ix3 0 r k)) (fun k => x2 (ix3 0 r k)) (fun f k => x3 (ix2 f k)) (fun f k => x4 (ix2 f k)) (fun k d => x5 (ix2 k d))

theorem residual_apply (r : Fin 768) (d : Fin 1024) : k0_pay2 x0 x3 x4 x1 x2 x5 (ix2 r d) = rowOfBlock x0 x1 x2 x3 x4 x5 r d := by
  show added x2 (mixed x1 (half0 x0 x3) (half1 x0 x4)) x5 (ix2 r d) = _
  rw [added_apply]
  simp only [mixed_apply, half0_apply, half1_apply]
  rfl

theorem square_apply (r : Fin 768) : k0_pay5 x0 x3 x4 x1 x2 x5 (ix2 r 0) = ∑ k : Fin 1024, rowOfBlock x0 x1 x2 x3 x4 x5 r k * rowOfBlock x0 x1 x2 x3 x4 x5 r k := by
  unfold k0_pay5
  simp only [← residual_apply]
  generalize k0_pay2 x0 x3 x4 x1 x2 x5 = X
  pointwise

theorem gain_apply (d : Fin 1024) : k0_pay4 x6 (ix2 0 d) = x6 (ix2 0 d) := by
  unfold k0_pay4
  pointwise

theorem norm_apply (X : FVec Ideal S768x1024 .f32) (n : FVec Ideal S1x1024 .f32) (s : FVec Ideal S768x1 .f32) (r : Fin 768) (d : Fin 1024) :
    k0_pay6 X n s (ix2 r d) = X (ix2 r d) * Ideal.rsqrt (Ideal.div (s (ix2 r 0)) (Ideal.ofBits FTy.f32 0x44800000#32) + Ideal.ofBits FTy.f32 0x358637BD#32) * n (ix2 0 d) := by
  unfold k0_pay6
  pointwise

/-- A block's row of norms. -/
def normOfBlock (r : Fin 768) : Fin 1024 → EReal := normed (rowOfBlock x0 x1 x2 x3 x4 x5 r) fun d => x6 (ix2 0 d)

theorem normed_apply (r : Fin 768) (d : Fin 1024) :
    k0_pay6 (k0_pay2 x0 x3 x4 x1 x2 x5) (k0_pay4 x6) (k0_pay5 x0 x3 x4 x1 x2 x5) (ix2 r d) = normOfBlock x0 x1 x2 x3 x4 x5 x6 r d := by
  rw [norm_apply, residual_apply, square_apply, gain_apply]
  rfl

/-- The router's products of a block, the sum of three. -/
def logits (X : FVec Ideal S768x1024 .f32) (w v : Vec Ideal S1024x128 .bf16) : FVec Ideal S768x128 .f32 :=
  addf (addf (matmul (φ₁ := .bf16) (φ₂ := .bf16) dot_S768x1024_S1024x128_S768x128_1_0_0_1_n_n none (truncf .bf16 X bitsLt_bf16_f32) (shapeCast S1024x128 w shapeCasts_S1024x128_S1024x128) (constant S768x128 .f32 0x00000000#32))
      (matmul (φ₁ := .bf16) (φ₂ := .bf16) dot_S768x1024_S1024x128_S768x128_1_0_0_1_n_n none (truncf .bf16 (subf X (extf .f32 (truncf .bf16 X bitsLt_bf16_f32) bitsLt_bf16_f32)) bitsLt_bf16_f32) (shapeCast S1024x128 w shapeCasts_S1024x128_S1024x128) (constant S768x128 .f32 0x00000000#32)))
    (matmul (φ₁ := .bf16) (φ₂ := .bf16) dot_S768x1024_S1024x128_S768x128_1_0_0_1_n_n none (truncf .bf16 X bitsLt_bf16_f32) (shapeCast S1024x128 v shapeCasts_S1024x128_S1024x128) (constant S768x128 .f32 0x00000000#32))

/-- The lanes past the sixteenth masked. -/
def masked (s : FVec Ideal S768x128 .f32) : FVec Ideal S768x128 .f32 :=
  select (cmpi .slt (iota .tc S768x128 32 [1] iota_S768x128_d1_w32) (broadcast S768x128 16#32)) s (broadcast S768x128 (Named.named κ "mask" 0xF149F2CA#32))

/-- The exponentials of the masked products less their row's maximum. -/
def exps (s : FVec Ideal S768x128 .f32) : FVec Ideal S768x128 .f32 :=
  exp (subf s (broadcastTo S768x128 (shapeCast S768x1 (multiReduction .maximumf [1] S768 s 0xFF800000#32 reduces_S768x128_S768 (.inl rfl) rfl) shapeCasts_S768_S768x1) broadcasts_S768x1_S768x128))

/-- Every lane holding its row's sum. -/
def sums (s : FVec Ideal S768x128 .f32) : FVec Ideal S768x128 .f32 :=
  broadcastTo S768x128 (shapeCast S768x1 (multiReduction .add [1] S768 s 0x00000000#32 reduces_S768x128_S768 (.inl rfl) rfl) shapeCasts_S768_S768x1) broadcasts_S768x1_S768x128

theorem logits_apply (X : FVec Ideal S768x1024 .f32) (w v : Vec Ideal S1024x128 .bf16) (r : Fin 768) (l : Fin 128) :
    logits X w v (ix2 r l) = (∑ k : Fin 1024, X (ix2 r k) * w (ix2 k l) + ∑ k : Fin 1024, (X (ix2 r k) - X (ix2 r k)) * w (ix2 k l)) + ∑ k : Fin 1024, X (ix2 r k) * v (ix2 k l) := by
  unfold logits
  pointwise

theorem lane_word : ∀ l : Fin 128, (IntOp.cmpi .slt (BitVec.ofNat 32 l.val) 16#32 = 1) ↔ l.val < 16 := by decide +kernel

theorem mask_ideal : (Named.named κ "mask" 0xF149F2CA#32 : Ideal .f32) = ⊥ := rfl

theorem ofBits_neg_inf : Ideal.ofBits .f32 0xFF800000#32 = ⊥ := by simp [Ideal.ofBits, Ideal.ieee]

theorem masked_apply (s : FVec Ideal S768x128 .f32) (r : Fin 768) (l : Fin 128) : masked s (ix2 r l) = if l.val < 16 then s (ix2 r l) else ⊥ := by
  unfold masked
  rw [mask_ideal]
  pointwise
  unfold Scalar.select
  simp only [lane_word]

theorem exps_apply (s : FVec Ideal S768x128 .f32) (r : Fin 768) (l : Fin 128) :
    exps s (ix2 r l) = Ideal.exp (s (ix2 r l) - Finset.univ.sup fun j => s (ix2 r j)) := by
  unfold exps
  pointwise
  rw [ofBits_neg_inf]
  rfl

theorem sums_apply (s : FVec Ideal S768x128 .f32) (r : Fin 768) (l : Fin 128) : sums s (ix2 r l) = ∑ j : Fin 128, s (ix2 r j) := by
  unfold sums
  pointwise

/-- The row of a tile as a word, below the sequence's end or not. -/
theorem row_word (i : Fin 11) (r : Fin 768) :
    (IntOp.cmpi .slt (Scalar.muli (BitVec.ofNat 32 i.val) 768#32 + BitVec.ofNat 32 r.val) 8208#32 = 1) ↔ 768 * i.val + r.val < 8208 := by
  have h : Scalar.muli (BitVec.ofNat 32 i.val) 768#32 + BitVec.ofNat 32 r.val = BitVec.ofNat 32 (768 * i.val + r.val) := by
    apply BitVec.eq_of_toNat_eq
    simp [Scalar.muli, IntOp.muli]
    omega
  rw [h]
  have hn : 768 * i.val + r.val < 8448 := by omega
  generalize 768 * i.val + r.val = n at hn
  have e : (BitVec.ofNat 32 n).toInt = (n : ℤ) := by
    rw [BitVec.toInt_eq_toNat_of_lt] <;> simp <;> omega
  have e' : (8208#32 : BitVec 32).toInt = 8208 := by decide
  by_cases hc : n < 8208 <;> simp [IntOp.cmpi, BitVec.slt, e, e', hc]

theorem share_apply (i : Fin 11) (p q : FVec Ideal S768x128 .f32) (e : Fin 16) (r : Fin 768) :
    k0_pay1 (BitVec.ofNat 32 i.val) p q (ix2 e r)
      = if 768 * i.val + r.val < 8208 then Ideal.div (p (ix2 r (lane e))) (q (ix2 r (lane e))) else Ideal.ofBits FTy.f32 0xBF800000#32 := by
  unfold k0_pay1 lane
  pointwise
  unfold Scalar.select
  simp only [← row_word]
  rfl

end Cert.Kernel3Ideal.Merge
end
-- ==== Proof.Merge.lean ====
/- The merging call's results at an index, from the arguments. -/
module

public import proofs.«01_k».proof.Proof.MergeBlock
public import Idealize.ShloMosaic.Lib.StableHlo.RunRead
public import Idealize.ShloMosaic.Lib.Pipeline.ValueKit

@[expose] public section
set_option maxRecDepth 16384
noncomputable section
namespace Cert.Kernel3Ideal.Merge

open Cert.Kernel3Ideal Cert.Kernel3Ideal.Gen
open Idealize.ShloMosaic Idealize.ShloMosaic.TcCoe Idealize.ShloMosaic.Tactic
open Idealize.SL
open Cert.MergeRow

section
variable (i : grid0.Coords) (x0 : Vec Ideal S1x768x1024 .bf16) (x1 : Vec Ideal S1x768x2048 .bf16) (x2 : Vec Ideal S1x768x1024 .f32) (x3 x4 : Vec Ideal S512x1024 .bf16)
  (x5 : Vec Ideal S1024x1024 .bf16) (x6 : Vec Ideal S1x1024 .f32) (x7 x8 : Vec Ideal S1024x128 .bf16)

theorem out9_apply (r : Fin 768) (d : Fin 1024) : out0_9 i x0 x1 x2 x3 x4 x5 x6 x7 x8 (ix3 0 r d) = rowOfBlock x0 x1 x2 x3 x4 x5 r d := by
  rw [← residual_apply]
  unfold out0_9
  rw [View.canon_unit_zero (by decide)]
  iterate 6 rw [View.ld_unit_zero (by decide)]
  unfold k0_pay3
  generalize k0_pay2 x0 x3 x4 x1 x2 x5 = X
  pointwise

theorem pay10_eq : k0_pay10 i x0 x1 x2 x3 x4 x5 x6 x7 x8 = k0_pay2 x0 x3 x4 x1 x2 x5 := by
  unfold k0_pay10
  iterate 6 rw [View.ld_unit_zero (by decide)]
theorem pay11_eq : k0_pay11 i x0 x1 x2 x3 x4 x5 x6 x7 x8 = k0_pay4 x6 := by
  unfold k0_pay11
  rw [View.ld_unit_zero (by decide)]
theorem pay12_eq : k0_pay12 i x0 x1 x2 x3 x4 x5 x6 x7 x8 = k0_pay5 x0 x3 x4 x1 x2 x5 := by
  unfold k0_pay12
  iterate 6 rw [View.ld_unit_zero (by decide)]

theorem out10_apply (r : Fin 768) (d : Fin 1024) : out0_10 i x0 x1 x2 x3 x4 x5 x6 x7 x8 (ix3 0 r d) = normOfBlock x0 x1 x2 x3 x4 x5 x6 r d := by
  rw [← normed_apply]
  unfold out0_10
  rw [View.canon_unit_zero (by decide), pay10_eq, pay11_eq, pay12_eq]
  unfold k0_pay7
  generalize k0_pay6 (k0_pay2 x0 x3 x4 x1 x2 x5) (k0_pay4 x6) (k0_pay5 x0 x3 x4 x1 x2 x5) = X
  pointwise

/-- A row's share of one column of weights, or `−1` past the sequence's end, if the row's sums against the weights are `t`. -/
theorem out11_apply (e : Fin 16) (r : Fin 768) (t : Fin 16 → EReal)
    (ht : 768 * (i 1).val + r.val < 8208 → ∀ j : Fin 16, (∑ k, normOfBlock x0 x1 x2 x3 x4 x5 x6 r k * x7 (ix2 k (lane j))
        + ∑ k, (normOfBlock x0 x1 x2 x3 x4 x5 x6 r k - normOfBlock x0 x1 x2 x3 x4 x5 x6 r k) * x7 (ix2 k (lane j)))
        + ∑ k, normOfBlock x0 x1 x2 x3 x4 x5 x6 r k * x8 (ix2 k (lane j)) = t j) :
    out0_11 i x0 x1 x2 x3 x4 x5 x6 x7 x8 (ix2 e r) = if 768 * (i 1).val + r.val < 8208 then share t e else Ideal.ofBits FTy.f32 0xBF800000#32 := by
  unfold out0_11
  rw [View.canon_unit_zero (by decide), pay10_eq, pay11_eq, pay12_eq, View.ld_unit_zero (by decide), View.ld_unit_zero (by decide)]
  refine (share_apply (i 1) _ _ e r).trans ?_
  by_cases hc : 768 * (i 1).val + r.val < 8208
  · rw [if_pos hc, if_pos hc]
    have hp : k0_pay9 (k0_pay2 x0 x3 x4 x1 x2 x5) (k0_pay4 x6) (k0_pay5 x0 x3 x4 x1 x2 x5) x7 x7 x8
        = sums (exps (masked (logits (k0_pay6 (k0_pay2 x0 x3 x4 x1 x2 x5) (k0_pay4 x6) (k0_pay5 x0 x3 x4 x1 x2 x5)) x7 x8))) := rfl
    have hq : k0_pay8 (k0_pay2 x0 x3 x4 x1 x2 x5) (k0_pay4 x6) (k0_pay5 x0 x3 x4 x1 x2 x5) x7 x7 x8
        = exps (masked (logits (k0_pay6 (k0_pay2 x0 x3 x4 x1 x2 x5) (k0_pay4 x6) (k0_pay5 x0 x3 x4 x1 x2 x5)) x7 x8)) := rfl
    rw [hp, hq, sums_apply]
    simp only [exps_apply]
    refine share_lanes (fun l => masked _ (ix2 r l)) t (fun l hl => ?_) (fun j => ?_) e
    · rw [masked_apply, if_neg hl]
    · rw [masked_apply, if_pos (show (lane j).val < 16 from j.isLt), logits_apply, ← ht hc j]
      simp only [normed_apply]
  · rw [if_neg hc, if_neg hc]

end

/-! ## The windows -/

theorem block0 : ∀ t : Fin cfg0.N, win0_0.index t = ![t.val / 11, t.val % 11, 0] :=
  (by decide +kernel : ∀ t : Fin grid0.N, win0_0.index t = ![t.val / 11, t.val % 11, 0])
theorem block1 : ∀ t : Fin cfg0.N, win0_1.index t = ![t.val / 11, t.val % 11, 0] :=
  (by decide +kernel : ∀ t : Fin grid0.N, win0_1.index t = ![t.val / 11, t.val % 11, 0])
theorem block2 : ∀ t : Fin cfg0.N, win0_2.index t = ![t.val / 11, t.val % 11, 0] :=
  (by decide +kernel : ∀ t : Fin grid0.N, win0_2.index t = ![t.val / 11, t.val % 11, 0])
theorem block3 : ∀ t : Fin cfg0.N, win0_3.index t = ![0, 0] :=
  (by decide +kernel : ∀ t : Fin grid0.N, win0_3.index t = ![0, 0])
theorem block4 : ∀ t : Fin cfg0.N, win0_4.index t = ![0, 0] :=
  (by decide +kernel : ∀ t : Fin grid0.N, win0_4.index t = ![0, 0])
theorem block5 : ∀ t : Fin cfg0.N, win0_5.index t = ![0, 0] :=
  (by decide +kernel : ∀ t : Fin grid0.N, win0_5.index t = ![0, 0])
theorem block6 : ∀ t : Fin cfg0.N, win0_6.index t = ![0, 0] :=
  (by decide +kernel : ∀ t : Fin grid0.N, win0_6.index t = ![0, 0])
theorem block7 : ∀ t : Fin cfg0.N, win0_7.index t = ![0, 0] :=
  (by decide +kernel : ∀ t : Fin grid0.N, win0_7.index t = ![0, 0])
theorem block8 : ∀ t : Fin cfg0.N, win0_8.index t = ![0, 0] :=
  (by decide +kernel : ∀ t : Fin grid0.N, win0_8.index t = ![0, 0])
theorem block9 : ∀ t : Fin cfg0.N, win0_9.index t = ![t.val / 11, t.val % 11, 0] :=
  (by decide +kernel : ∀ t : Fin grid0.N, win0_9.index t = ![t.val / 11, t.val % 11, 0])
theorem block10 : ∀ t : Fin cfg0.N, win0_10.index t = ![t.val / 11, t.val % 11, 0] :=
  (by decide +kernel : ∀ t : Fin grid0.N, win0_10.index t = ![t.val / 11, t.val % 11, 0])
theorem block11 : ∀ t : Fin cfg0.N, win0_11.index t = ![0, t.val] :=
  (by decide +kernel : ∀ t : Fin grid0.N, win0_11.index t = ![0, t.val])
theorem flush9 : ∀ t : Fin cfg0.N, (cfg0.win 9).flush t = true :=
  (by decide +kernel : ∀ t : Fin grid0.N, win0_9.flush t = true)
theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)
theorem tile_coord : ∀ t : Fin cfg0.N, (grid0.coords t 1).val = t.val % 11 :=
  (by decide +kernel : ∀ t : Fin grid0.N, (grid0.coords t 1).val = t.val % 11)

/-- The grid point of a batch element and a tile of its rows. -/
def pointOf (b : Fin 12) (j : Fin 11) : Fin cfg0.N :=
  ⟨11 * b.val + j.val, by show _ < grid0.N; have := b.isLt; have := j.isLt; have : grid0.N = 132 := by decide
                          omega⟩
theorem pointOf_div (b : Fin 12) (j : Fin 11) : (pointOf b j).val / 11 = b.val := by show (11 * b.val + j.val) / 11 = _; omega
theorem pointOf_mod (b : Fin 12) (j : Fin 11) : (pointOf b j).val % 11 = j.val := by show (11 * b.val + j.val) % 11 = _; omega

/-- Row `r` of tile `j` among a batch element's rows. -/
def rowOf (j : Fin 11) (r : Fin 768) : Fin 8448 := ⟨768 * j.val + r.val, by omega⟩
/-- A batch element's row among all rows. -/
def flatRow (b : Fin 12) (n : Fin 8448) : Fin 101376 := ⟨8448 * b.val + n.val, by omega⟩

theorem read0 (A : Vec Ideal S12x8448x1024 .bf16) (b : Fin 12) (j : Fin 11) (r : Fin 768) (k : Fin 1024) :
    (((cfg0.win 0).blk (pointOf b j)).view.read (Elt Ideal) A : Vec Ideal S1x768x1024 .bf16) (ix3 0 r k) = A (ix3 b (rowOf j r) k) := by
  have e1 := pointOf_div b j
  have e2 := pointOf_mod b j
  blk_simp []
  refine congrArg A ?_
  blk_ext [block0, e1, e2, rowOf]
theorem read1 (A : Vec Ideal S12x8448x2048 .bf16) (b : Fin 12) (j : Fin 11) (r : Fin 768) (k : Fin 2048) :
    (((cfg0.win 1).blk (pointOf b j)).view.read (Elt Ideal) A : Vec Ideal S1x768x2048 .bf16) (ix3 0 r k) = A (ix3 b (rowOf j r) k) := by
  have e1 := pointOf_div b j
  have e2 := pointOf_mod b j
  blk_simp []
  refine congrArg A ?_
  blk_ext [block1, e1, e2, rowOf]
theorem read2 (A : Vec Ideal S12x8448x1024 .f32) (b : Fin 12) (j : Fin 11) (r : Fin 768) (k : Fin 1024) :
    (((cfg0.win 2).blk (pointOf b j)).view.read (Elt Ideal) A : Vec Ideal S1x768x1024 .f32) (ix3 0 r k) = A (ix3 b (rowOf j r) k) := by
  have e1 := pointOf_div b j
  have e2 := pointOf_mod b j
  blk_simp []
  refine congrArg A ?_
  blk_ext [block2, e1, e2, rowOf]
theorem read3 (A : Vec Ideal S512x1024 .bf16) (t : Fin cfg0.N) (k : Fin 512) (d : Fin 1024) :
    (((cfg0.win 3).blk t).view.read (Elt Ideal) A : Vec Ideal S512x1024 .bf16) (ix2 k d) = A (ix2 k d) := by
  blk_simp []
  refine congrArg A ?_
  blk_ext [block3]
theorem read4 (A : Vec Ideal S512x1024 .bf16) (t : Fin cfg0.N) (k : Fin 512) (d : Fin 1024) :
    (((cfg0.win 4).blk t).view.read (Elt Ideal) A : Vec Ideal S512x1024 .bf16) (ix2 k d) = A (ix2 k d) := by
  blk_simp []
  refine congrArg A ?_
  blk_ext [block4]
theorem read5 (A : Vec Ideal S1024x1024 .bf16) (t : Fin cfg0.N) (k : Fin 1024) (d : Fin 1024) :
    (((cfg0.win 5).blk t).view.read (Elt Ideal) A : Vec Ideal S1024x1024 .bf16) (ix2 k d) = A (ix2 k d) := by
  blk_simp []
  refine congrArg A ?_
  blk_ext [block5]
theorem read6 (A : Vec Ideal S1x1024 .f32) (t : Fin cfg0.N) (d : Fin 1024) :
    (((cfg0.win 6).blk t).view.read (Elt Ideal) A : Vec Ideal S1x1024 .f32) (ix2 0 d) = A (ix2 0 d) := by
  blk_simp []
  refine congrArg A ?_
  blk_ext [block6]
theorem read7 (A : Vec Ideal S1024x128 .bf16) (t : Fin cfg0.N) (k : Fin 1024) (l : Fin 128) :
    (((cfg0.win 7).blk t).view.read (Elt Ideal) A : Vec Ideal S1024x128 .bf16) (ix2 k l) = A (ix2 k l) := by
  blk_simp []
  refine congrArg A ?_
  blk_ext [block7]
theorem read8 (A : Vec Ideal S1024x128 .bf16) (t : Fin cfg0.N) (k : Fin 1024) (l : Fin 128) :
    (((cfg0.win 8).blk t).view.read (Elt Ideal) A : Vec Ideal S1024x128 .bf16) (ix2 k l) = A (ix2 k l) := by
  blk_simp []
  refine congrArg A ?_
  blk_ext [block8]
theorem read9 (A : Vec Ideal S12x8448x1024 .f32) (b : Fin 12) (j : Fin 11) (r : Fin 768) (k : Fin 1024) :
    (((cfg0.win 9).blk (pointOf b j)).view.read (Elt Ideal) A : Vec Ideal S1x768x1024 .f32) (ix3 0 r k) = A (ix3 b (rowOf j r) k) := by
  have e1 := pointOf_div b j
  have e2 := pointOf_mod b j
  blk_simp []
  refine congrArg A ?_
  blk_ext [block9, e1, e2, rowOf]
theorem read10 (A : Vec Ideal S12x8448x1024 .bf16) (b : Fin 12) (j : Fin 11) (r : Fin 768) (k : Fin 1024) :
    (((cfg0.win 10).blk (pointOf b j)).view.read (Elt Ideal) A : Vec Ideal S1x768x1024 .bf16) (ix3 0 r k) = A (ix3 b (rowOf j r) k) := by
  have e1 := pointOf_div b j
  have e2 := pointOf_mod b j
  blk_simp []
  refine congrArg A ?_
  blk_ext [block10, e1, e2, rowOf]
theorem read11 (A : Vec Ideal S16x101376 .f32) (b : Fin 12) (j : Fin 11) (e : Fin 16) (r : Fin 768) :
    (((cfg0.win 11).blk (pointOf b j)).view.read (Elt Ideal) A : Vec Ideal S16x768 .f32) (ix2 e r) = A (ix2 e (flatRow b (rowOf j r))) := by
  have e1 : (pointOf b j).val = 11 * b.val + j.val := rfl
  blk_simp []
  refine congrArg A ?_
  blk_ext [block11, e1, rowOf, flatRow]

end Cert.Kernel3Ideal.Merge
end
-- ==== Proof.MergeResult.lean ====
/- The merging call's arrays at an index, as functions of the arguments. -/
module

public import proofs.«01_k».proof.Proof.Merge

@[expose] public section
set_option maxRecDepth 16384
noncomputable section
namespace Cert.Kernel3Ideal.Merge

open Cert.Kernel3Ideal Cert.Kernel3Ideal.Gen
open Idealize.ShloMosaic Idealize.ShloMosaic.TcCoe Idealize.ShloMosaic.Tactic
open Idealize.SL
open Cert.MergeRow

section
variable (o : FVec Ideal S12x8448x1024 .f32) (g : FVec Ideal S12x8448x2048 .f32) (h : FVec Ideal S12x8448x1024 .f32) (a b : FVec Ideal S512x1024 .f32)
  (w : FVec Ideal S1024x1024 .f32) (n : FVec Ideal S1024 .f32) (v : FVec Ideal S1024x16 .f32)

/-- A row of residuals, from the arguments. -/
def resRow (i : Fin 12) (p : Fin 8448) : Fin 1024 → EReal :=
  residual (fun k => o (ix3 i p k)) (fun k => Ideal.logistic (g (ix3 i p k))) (fun k => h (ix3 i p k)) (fun f k => a (ix2 f k)) (fun f k => b (ix2 f k)) (fun k d => w (ix2 k d))

/-- A row of norms. -/
def normRow (i : Fin 12) (p : Fin 8448) : Fin 1024 → EReal := normed (resRow o g h a b w i p) fun d => n (ix1 d)

/-- A row's sums against the router's weights. -/
def routeRow (i : Fin 12) (p : Fin 8448) (e : Fin 16) : EReal := ∑ k : Fin 1024, normRow o g h a b w n i p k * v (ix2 k e)

/-- The router's weights, padded to 128 lanes. -/
def padded : FVec Ideal S1024x128 .f32 :=
  pad S1024x128 ![0, 0] ![0, 112] ![0, 0] v (sitofp .f32 (constantI S_ 32 0#32)) pads_S1024x16_S1024x128_000_01120 h_S_

theorem padded_apply (k : Fin 1024) (e : Fin 16) : padded v (ix2 k (lane e)) = v (ix2 k e) := by
  have h1 : (ix2 k (lane e) : Shape.Idx S1024x128) = ix2 k ⟨e.val, by omega⟩ := rfl
  rw [h1]
  unfold padded
  pointwise
end

variable (m : (ℓ : Loc nD τ sig) → Buf (Elt Ideal) ℓ)

/-! ## The region's arrays -/

theorem region0 (c : Dev nD) : V m c main_v5 = m ((c : Thread nD τ).loc main_arg0) := by
  simp only [V, List.flatten_cons, List.flatten_nil, List.append_nil]
  after_reads_simp
  rfl

/-- The gates of the region: every argument's logistic. -/
def gateArr (g : FVec Ideal S12x8448x2048 .f32) : FVec Ideal S12x8448x2048 .bf16 :=
  truncf .bf16 (Host.divf (broadcastInDim S12x8448x2048 ![] bcast_S_S12x8448x2048 (constant S_ .f32 0x3F800000#32))
    (addf (broadcastInDim S12x8448x2048 ![] bcast_S_S12x8448x2048 (constant S_ .f32 0x3F800000#32)) (Host.exp (Host.negf g)))) bitsLt_bf16_f32

theorem gateArr_apply (g : FVec Ideal S12x8448x2048 .f32) (i : Fin 12) (p : Fin 8448) (k : Fin 2048) :
    gateArr g (ix3 i p k) = Ideal.logistic (g (ix3 i p k)) := by
  unfold gateArr Ideal.logistic
  pointwise

theorem region1 (c : Dev nD) : V m c main_v12 = gateArr (m ((c : Thread nD τ).loc main_arg1)) := by
  simp only [V, List.flatten_cons, List.flatten_nil, List.append_nil]
  after_reads_simp
  rfl
theorem region3 (c : Dev nD) : V m c main_v13 = m ((c : Thread nD τ).loc main_arg3) := by
  simp only [V, List.flatten_cons, List.flatten_nil, List.append_nil]
  after_reads_simp
  rfl
theorem region4 (c : Dev nD) : V m c main_v14 = m ((c : Thread nD τ).loc main_arg4) := by
  simp only [V, List.flatten_cons, List.flatten_nil, List.append_nil]
  after_reads_simp
  rfl
theorem region5 (c : Dev nD) : V m c main_v15 = m ((c : Thread nD τ).loc main_arg5) := by
  simp only [V, List.flatten_cons, List.flatten_nil, List.append_nil]
  after_reads_simp
  rfl
/-- The gain, as one row. -/
def gainArr (n : FVec Ideal S1024 .f32) : FVec Ideal S1x1024 .f32 := broadcastInDim S1x1024 ![1] bcast_S1024_S1x1024_1 n
theorem gainArr_apply (n : FVec Ideal S1024 .f32) (d : Fin 1024) : gainArr n (ix2 0 d) = n (ix1 d) := by
  unfold gainArr
  pointwise
theorem region6 (c : Dev nD) : V m c main_v16 = gainArr (m ((c : Thread nD τ).loc main_arg6)) := by
  simp only [V, List.flatten_cons, List.flatten_nil, List.append_nil]
  after_reads_simp
  rfl
theorem region7 (c : Dev nD) : V m c main_v1 = padded (m ((c : Thread nD τ).loc main_arg7)) := by
  simp only [V, List.flatten_cons, List.flatten_nil, List.append_nil]
  after_reads_simp
  rfl
theorem region8 (c : Dev nD) : V m c main_v4 = subf (padded (m ((c : Thread nD τ).loc main_arg7))) (padded (m ((c : Thread nD τ).loc main_arg7))) := by
  simp only [V, List.flatten_cons, List.flatten_nil, List.append_nil]
  after_reads_simp
  rfl

/-! ## The results -/

variable (c : Dev nD) (o : FVec Ideal S12x8448x1024 .f32) (g : FVec Ideal S12x8448x2048 .f32) (h : FVec Ideal S12x8448x1024 .f32) (a b : FVec Ideal S512x1024 .f32)
  (w : FVec Ideal S1024x1024 .f32) (n : FVec Ideal S1024 .f32) (v : FVec Ideal S1024x16 .f32)

/-- The arguments are these arrays. -/
structure Args : Prop where
  h0 : m ((c : Thread nD τ).loc main_arg0) = o
  h1 : m ((c : Thread nD τ).loc main_arg1) = g
  h2 : m ((c : Thread nD τ).loc main_arg2) = h
  h3 : m ((c : Thread nD τ).loc main_arg3) = a
  h4 : m ((c : Thread nD τ).loc main_arg4) = b
  h5 : m ((c : Thread nD τ).loc main_arg5) = w
  h6 : m ((c : Thread nD τ).loc main_arg6) = n
  h7 : m ((c : Thread nD τ).loc main_arg7) = v

variable {m c o g h a b w n v}

theorem Args.row (H : Args m c o g h a b w n v) (i : Fin 12) (j : Fin 11) (r : Fin 768) :
    rowOfBlock (iblk m c 0 (pointOf i j)) (iblk m c 1 (pointOf i j)) (iblk m c 2 (pointOf i j)) (iblk m c 3 (pointOf i j)) (iblk m c 4 (pointOf i j)) (iblk m c 5 (pointOf i j)) r
      = resRow o g h a b w i (rowOf j r) := by
  have h0 : ∀ k, (iblk m c 0 (pointOf i j) : Vec Ideal S1x768x1024 .bf16) (ix3 0 r k) = o (ix3 i (rowOf j r) k) := fun k =>
    (read0 (V m c main_v5) i j r k).trans (congrFun ((region0 m c).trans H.h0) _)
  have h1 : ∀ k, (iblk m c 1 (pointOf i j) : Vec Ideal S1x768x2048 .bf16) (ix3 0 r k) = Ideal.logistic (g (ix3 i (rowOf j r) k)) := fun k =>
    (read1 (V m c main_v12) i j r k).trans ((congrFun ((region1 m c).trans (congrArg gateArr H.h1)) _).trans (gateArr_apply g i _ k))
  have h2 : ∀ k, (iblk m c 2 (pointOf i j) : Vec Ideal S1x768x1024 .f32) (ix3 0 r k) = h (ix3 i (rowOf j r) k) := fun k =>
    (read2 (V m c main_arg2) i j r k).trans (congrFun ((V_main_arg2 m c).trans H.h2) _)
  have h3 : ∀ k d, (iblk m c 3 (pointOf i j) : Vec Ideal S512x1024 .bf16) (ix2 k d) = a (ix2 k d) := fun k d =>
    (read3 (V m c main_v13) _ k d).trans (congrFun ((region3 m c).trans H.h3) _)
  have h4 : ∀ k d, (iblk m c 4 (pointOf i j) : Vec Ideal S512x1024 .bf16) (ix2 k d) = b (ix2 k d) := fun k d =>
    (read4 (V m c main_v14) _ k d).trans (congrFun ((region4 m c).trans H.h4) _)
  have h5 : ∀ k d, (iblk m c 5 (pointOf i j) : Vec Ideal S1024x1024 .bf16) (ix2 k d) = w (ix2 k d) := fun k d =>
    (read5 (V m c main_v15) _ k d).trans (congrFun ((region5 m c).trans H.h5) _)
  unfold rowOfBlock resRow
  simp only [h0, h1, h2, h3, h4, h5]

theorem Args.norm (H : Args m c o g h a b w n v) (i : Fin 12) (j : Fin 11) (r : Fin 768) :
    normOfBlock (iblk m c 0 (pointOf i j)) (iblk m c 1 (pointOf i j)) (iblk m c 2 (pointOf i j)) (iblk m c 3 (pointOf i j)) (iblk m c 4 (pointOf i j)) (iblk m c 5 (pointOf i j))
      (iblk m c 6 (pointOf i j)) r = normRow o g h a b w n i (rowOf j r) := by
  have h6 : ∀ d, (iblk m c 6 (pointOf i j) : Vec Ideal S1x1024 .f32) (ix2 0 d) = n (ix1 d) := fun d =>
    (read6 (V m c main_v16) _ d).trans ((congrFun ((region6 m c).trans (congrArg gainArr H.h6)) _).trans (gainArr_apply n d))
  unfold normOfBlock normRow
  rw [H.row i j r]
  simp only [h6]

/-- The first result's entry. -/
theorem Args.result9 (H : Args m c o g h a b w n v) (i : Fin 12) (j : Fin 11) (r : Fin 768) (d : Fin 1024) :
    ((dats m 0 c).arrAt 9 cfg0.N : Vec Ideal S12x8448x1024 .f32) (ix3 i (rowOf j r) d) = resRow o g h a b w i (rowOf j r) d := by
  have e := congrFun ((Value.blocks9 m c (pointOf i j) (flush9 _)).trans (Value.flushed9 m c (pointOf i j))) (ix3 0 r d)
  refine (read9 _ i j r d).symm.trans (e.trans ?_)
  exact (out9_apply _ _ _ _ _ _ _ _ _ _ r d).trans (congrFun (H.row i j r) d)

/-- The second result's entry. -/
theorem Args.result10 (H : Args m c o g h a b w n v) (i : Fin 12) (j : Fin 11) (r : Fin 768) (d : Fin 1024) :
    ((dats m 0 c).arrAt 10 cfg0.N : Vec Ideal S12x8448x1024 .bf16) (ix3 i (rowOf j r) d) = normRow o g h a b w n i (rowOf j r) d := by
  have e := congrFun ((Value.blocks10 m c (pointOf i j) (flush10 _)).trans (Value.flushed10 m c (pointOf i j))) (ix3 0 r d)
  refine (read10 _ i j r d).symm.trans (e.trans ?_)
  exact (out10_apply _ _ _ _ _ _ _ _ _ _ r d).trans (congrFun (H.norm i j r) d)

/-- The third result's entry, if the row's norms and the router's weights are reals where the row is within the sequence. -/
theorem Args.result11 (H : Args m c o g h a b w n v) (i : Fin 12) (j : Fin 11) (r : Fin 768) (e : Fin 16)
    (hn : 768 * j.val + r.val < 8208 → ∀ k, IsReal (normRow o g h a b w n i (rowOf j r) k)) (hv : ∀ k e, IsReal (v (ix2 k e))) :
    ((dats m 0 c).arrAt 11 cfg0.N : Vec Ideal S16x101376 .f32) (ix2 e (flatRow i (rowOf j r)))
      = if 768 * j.val + r.val < 8208 then share (routeRow o g h a b w n v i (rowOf j r)) e else Ideal.ofBits FTy.f32 0xBF800000#32 := by
  have hb := congrFun ((Value.blocks11 m c (pointOf i j) (flush11 _)).trans (Value.flushed11 m c (pointOf i j))) (ix2 e r)
  refine (read11 _ i j e r).symm.trans (hb.trans ?_)
  have hj : (grid0.coords (pointOf i j) 1).val = j.val := (tile_coord _).trans (pointOf_mod i j)
  have h7 : ∀ k (e : Fin 16), (iblk m c 7 (pointOf i j) : Vec Ideal S1024x128 .bf16) (ix2 k (lane e)) = v (ix2 k e) := fun k e =>
    (read7 (V m c main_v1) _ k (lane e)).trans ((congrFun ((region7 m c).trans (congrArg padded H.h7)) _).trans (padded_apply v k e))
  have h8 : ∀ k (e : Fin 16), (iblk m c 8 (pointOf i j) : Vec Ideal S1024x128 .bf16) (ix2 k (lane e)) = v (ix2 k e) - v (ix2 k e) := fun k e =>
    (read8 (V m c main_v4) _ k (lane e)).trans ((congrFun ((region8 m c).trans (congrArg (fun z => subf (padded z) (padded z)) H.h7)) _).trans
      (congrArg₂ (fun p q : EReal => p - q) (padded_apply v k e) (padded_apply v k e)))
  refine (out11_apply _ _ _ _ _ _ _ _ _ _ e r (routeRow o g h a b w n v i (rowOf j r)) fun hc q => ?_).trans ?_
  · rw [hj] at hc
    rw [H.norm i j r]
    simp only [h7, h8]
    exact split_sum (hn hc) fun k => hv k q
  · rw [hj]

end Cert.Kernel3Ideal.Merge
end
-- ==== Proof.RefMerge.lean ====
/- The merging reference at an index, over the extended reals. -/
module

public import proofs.«01_k».proof.Proof.Gen.Reference3Ideal.Run
public import proofs.«01_k».proof.Proof.MergeResult

@[expose] public section
set_option maxRecDepth 16384
noncomputable section
namespace Cert.Reference3Ideal.Merge

open Cert.Reference3Ideal Cert.Reference3Ideal.Gen
open Idealize.ShloMosaic Idealize.ShloMosaic.TcCoe Idealize.ShloMosaic.Tactic
open Idealize.SL
open Cert.MergeRow
open Cert.Kernel3Ideal.Merge (resRow normRow routeRow rowOf flatRow)

/-- The logistic of the gates' first half, and of their second. -/
def gate0 (g : FVec Ideal S12x8448x2048 .f32) : FVec Ideal S12x8448x1024 .f32 :=
  Host.divf (broadcastInDim S12x8448x1024 ![] bcast_S_S12x8448x1024 (constant S_ .f32 0x3F800000#32)) (addf (broadcastInDim S12x8448x1024 ![] bcast_S_S12x8448x1024 (constant S_ .f32 0x3F800000#32))
    (Host.exp (Host.negf (extractStridedSlice S12x8448x1024 ![0, 0, 0] g slices_S12x8448x2048_S12x8448x1024_0_0_0))))
def gate1 (g : FVec Ideal S12x8448x2048 .f32) : FVec Ideal S12x8448x1024 .f32 :=
  Host.divf (broadcastInDim S12x8448x1024 ![] bcast_S_S12x8448x1024 (constant S_ .f32 0x3F800000#32)) (addf (broadcastInDim S12x8448x1024 ![] bcast_S_S12x8448x1024 (constant S_ .f32 0x3F800000#32))
    (Host.exp (Host.negf (extractStridedSlice S12x8448x1024 ![0, 0, 1024] g slices_S12x8448x2048_S12x8448x1024_0_0_1024))))
/-- The halves' products. -/
def half0 (o : FVec Ideal S12x8448x1024 .f32) (a : FVec Ideal S512x1024 .f32) : FVec Ideal S12x8448x1024 .f32 :=
  Host.dotGeneral dot_S12x8448x512_S512x1024_S12x8448x1024_2_0_01_1_n_n none (extractStridedSlice S12x8448x512 ![0, 0, 0] o slices_S12x8448x1024_S12x8448x512_0_0_0) a
def half1 (o : FVec Ideal S12x8448x1024 .f32) (a : FVec Ideal S512x1024 .f32) : FVec Ideal S12x8448x1024 .f32 :=
  Host.dotGeneral dot_S12x8448x512_S512x1024_S12x8448x1024_2_0_01_1_n_n none (extractStridedSlice S12x8448x512 ![0, 0, 512] o slices_S12x8448x1024_S12x8448x512_0_0_512) a
/-- The residual. -/
def added (h y : FVec Ideal S12x8448x1024 .f32) (w : FVec Ideal S1024x1024 .f32) : FVec Ideal S12x8448x1024 .f32 :=
  addf h (Host.dotGeneral dot_S12x8448x1024_S1024x1024_S12x8448x1024_2_0_01_1_n_n none y w)
/-- The norm. -/
def norm (x : FVec Ideal S12x8448x1024 .f32) (n : FVec Ideal S1024 .f32) : FVec Ideal S12x8448x1024 .f32 :=
  mulf (mulf x (broadcastInDim S12x8448x1024 ![0, 1, 2] bcast_S12x8448x1_S12x8448x1024_0_1_2 (Host.rsqrt (addf (Host.divf (broadcastInDim S12x8448x1 ![0, 1] bcast_S12x8448_S12x8448x1_0_1
      (Host.reduceAdd (mulf x x) (constant S_ .f32 0x00000000#32) reducesTo_S12x8448x1024_S12x8448_d2 h_S_)) (broadcastInDim S12x8448x1 ![] bcast_S_S12x8448x1 (constant S_ .f32 0x44800000#32)))
      (broadcastInDim S12x8448x1 ![] bcast_S_S12x8448x1 (constant S_ .f32 0x358637BD#32))))))
    (broadcastInDim S12x8448x1024 ![0, 1, 2] bcast_S1x1x1024_S12x8448x1024_0_1_2 (broadcastInDim S1x1x1024 ![2] bcast_S1024_S1x1x1024_2 n))
/-- The router's products. -/
def logits (x : FVec Ideal S12x8448x1024 .f32) (v : FVec Ideal S1024x16 .f32) : FVec Ideal S12x8448x16 .f32 :=
  Host.dotGeneral dot_S12x8448x1024_S1024x16_S12x8448x16_2_0_01_1_n_n none x v
/-- The rows' maxima. -/
def maxima (s : FVec Ideal S12x8448x16 .f32) : FVec Ideal S12x8448 .f32 :=
  maximumf (broadcastInDim S12x8448 ![] bcast_S_S12x8448 (constant S_ .f32 0xFF800000#32)) (Host.reduce FloatOps.maximumf s (constant S_ .f32 0xFF800000#32) reducesTo_S12x8448x16_S12x8448_d2 h_S_)
def exps (s : FVec Ideal S12x8448x16 .f32) (μ : FVec Ideal S12x8448 .f32) : FVec Ideal S12x8448x16 .f32 :=
  Host.exp (subf s (broadcastInDim S12x8448x16 ![0, 1, 2] bcast_S12x8448x1_S12x8448x16_0_1_2 (broadcastInDim S12x8448x1 ![0, 1] bcast_S12x8448_S12x8448x1_0_1 μ)))
def weights (e : FVec Ideal S12x8448x16 .f32) : FVec Ideal S12x8448x16 .f32 :=
  Host.divf e (broadcastInDim S12x8448x16 ![0, 1, 2] bcast_S12x8448x1_S12x8448x16_0_1_2 (broadcastInDim S12x8448x1 ![0, 1] bcast_S12x8448_S12x8448x1_0_1
    (Host.reduceAdd e (constant S_ .f32 0x00000000#32) reducesTo_S12x8448x16_S12x8448_d2 h_S_)))
/-- The rows past the sequence's end at `−1`. -/
def kept (p : FVec Ideal S12x8448x16 .f32) : FVec Ideal S12x8448x16 .f32 :=
  select (broadcastInDim S12x8448x16 ![0, 1, 2] bcast_S1x8448x1_S12x8448x16_0_1_2 (cmpi .slt (broadcastInDim S1x8448x1 ![1] bcast_S8448_S1x8448x1_1 (iotaInDim S8448 32 0))
    (broadcastInDim S1x8448x1 ![] bcast_S_S1x8448x1 (constantI S_ 32 8208#32)))) p (broadcastInDim S12x8448x16 ![] bcast_S_S12x8448x16 (id (constant S_ .f32 0xBF800000#32)))
/-- All rows as columns. -/
def columns (p : FVec Ideal S12x8448x16 .f32) : FVec Ideal S16x101376 .f32 :=
  transpose S16x101376 [1, 0] (shapeCast S101376x16 p shapeCasts_S12x8448x16_S101376x16) transposes_S101376x16_S16x101376_1_0

theorem gate0_apply (g : FVec Ideal S12x8448x2048 .f32) (i : Fin 12) (p : Fin 8448) (k : Fin 1024) : gate0 g (ix3 i p k) = Ideal.logistic (g (ix3 i p ⟨k.val, by omega⟩)) := by
  unfold gate0 Ideal.logistic
  pointwise
theorem gate1_apply (g : FVec Ideal S12x8448x2048 .f32) (i : Fin 12) (p : Fin 8448) (k : Fin 1024) : gate1 g (ix3 i p k) = Ideal.logistic (g (ix3 i p ⟨1024 + k.val, by omega⟩)) := by
  unfold gate1 Ideal.logistic
  pointwise
theorem half0_apply (o : FVec Ideal S12x8448x1024 .f32) (a : FVec Ideal S512x1024 .f32) (i : Fin 12) (p : Fin 8448) (k : Fin 1024) :
    half0 o a (ix3 i p k) = ∑ f : Fin 512, o (ix3 i p ⟨f.val, by omega⟩) * a (ix2 f k) := by
  unfold half0
  pointwise
theorem half1_apply (o : FVec Ideal S12x8448x1024 .f32) (a : FVec Ideal S512x1024 .f32) (i : Fin 12) (p : Fin 8448) (k : Fin 1024) :
    half1 o a (ix3 i p k) = ∑ f : Fin 512, o (ix3 i p ⟨512 + f.val, by omega⟩) * a (ix2 f k) := by
  unfold half1
  pointwise
theorem added_apply (h y : FVec Ideal S12x8448x1024 .f32) (w : FVec Ideal S1024x1024 .f32) (i : Fin 12) (p : Fin 8448) (d : Fin 1024) :
    added h y w (ix3 i p d) = h (ix3 i p d) + ∑ k : Fin 1024, y (ix3 i p k) * w (ix2 k d) := by
  unfold added
  pointwise
theorem norm_apply (x : FVec Ideal S12x8448x1024 .f32) (n : FVec Ideal S1024 .f32) (i : Fin 12) (p : Fin 8448) (d : Fin 1024) :
    norm x n (ix3 i p d) = normed (fun k => x (ix3 i p k)) (fun k => n (ix1 k)) d := by
  unfold norm normed
  pointwise
theorem logits_apply (x : FVec Ideal S12x8448x1024 .f32) (v : FVec Ideal S1024x16 .f32) (i : Fin 12) (p : Fin 8448) (e : Fin 16) :
    logits x v (ix3 i p e) = ∑ k : Fin 1024, x (ix3 i p k) * v (ix2 k e) := by
  unfold logits
  pointwise
theorem bits_neg_inf : Ideal.ofBits FTy.f32 0xFF800000#32 = (⊥ : EReal) := by simp [Ideal.ofBits, Ideal.ieee]
theorem maxima_apply (s : FVec Ideal S12x8448x16 .f32) (i : Fin 12) (p : Fin 8448) : maxima s (ix2 i p) = Finset.univ.sup fun e : Fin 16 => s (ix3 i p e) := by
  have hr : S12x8448x16.Reduces [2] S12x8448 := by decide
  have e : Host.reduce (max : EReal → EReal → EReal) s (constant (F := Ideal) S_ .f32 0xFF800000#32) reducesTo_S12x8448x16_S12x8448_d2 h_S_ (ix2 i p)
      = (Finset.univ : Finset (Fin 16)).fold max ⊥ (s ∘ hr.lift (ix2 i p)) := by
    rw [Host.reduce_eq_fold_single max s _ reducesTo_S12x8448x16_S12x8448_d2 hr h_S_ (ix2 i p)]
    exact congrArg (fun z : EReal => (Finset.univ : Finset (Fin 16)).fold max z (s ∘ hr.lift (ix2 i p))) bits_neg_inf
  have hl : ∀ j : Fin 16, hr.lift (ix2 i p) j = ix3 i p j := fun j => by
    funext q
    match q with
    | ⟨0, _⟩ => rfl
    | ⟨1, _⟩ => rfl
    | ⟨2, _⟩ => rfl
  show max (Ideal.ofBits FTy.f32 0xFF800000#32 : EReal) (Host.reduce (max : EReal → EReal → EReal) s (constant (F := Ideal) S_ .f32 0xFF800000#32) reducesTo_S12x8448x16_S12x8448_d2 h_S_ (ix2 i p)) = _
  rw [e, bits_neg_inf, max_eq_right bot_le, show s ∘ hr.lift (ix2 i p) = fun j => s (ix3 i p j) from funext fun j => congrArg s (hl j)]
  rfl
theorem exps_apply (s : FVec Ideal S12x8448x16 .f32) (μ : FVec Ideal S12x8448 .f32) (i : Fin 12) (p : Fin 8448) (e : Fin 16) :
    exps s μ (ix3 i p e) = Ideal.exp (s (ix3 i p e) - μ (ix2 i p)) := by
  unfold exps
  pointwise
theorem weights_apply (s : FVec Ideal S12x8448x16 .f32) (i : Fin 12) (p : Fin 8448) (e : Fin 16) :
    weights s (ix3 i p e) = Ideal.div (s (ix3 i p e)) (∑ j : Fin 16, s (ix3 i p j)) := by
  unfold weights
  pointwise
theorem word (n : ℕ) (hn : n < 8448) : (IntOp.cmpi .slt (BitVec.ofNat 32 n) 8208#32 = 1) ↔ n < 8208 := by
  have e : (BitVec.ofNat 32 n).toInt = (n : ℤ) := by
    rw [BitVec.toInt_eq_toNat_of_lt] <;> simp <;> omega
  have e' : (8208#32 : BitVec 32).toInt = 8208 := by decide
  by_cases hc : n < 8208 <;> simp [IntOp.cmpi, BitVec.slt, e, e', hc]
theorem kept_apply (s : FVec Ideal S12x8448x16 .f32) (i : Fin 12) (p : Fin 8448) (e : Fin 16) :
    kept s (ix3 i p e) = if p.val < 8208 then s (ix3 i p e) else Ideal.ofBits FTy.f32 0xBF800000#32 := by
  unfold kept
  pointwise
  unfold Scalar.select
  simp only [word p.val p.isLt]
  rfl
theorem columns_apply (s : FVec Ideal S12x8448x16 .f32) (i : Fin 12) (p : Fin 8448) (e : Fin 16) :
    columns s (ix2 e (flatRow i p)) = s (ix3 i p e) := by
  have h1 : (flatRow i p).val / 8448 = i.val := by show (8448 * i.val + p.val) / 8448 = _; omega
  have h2 : (flatRow i p).val % 8448 = p.val := by show (8448 * i.val + p.val) % 8448 = _; omega
  unfold columns
  pointwise
  simp only [h1, h2]

end Cert.Reference3Ideal.Merge
end
-- ==== Proof.MergeFinite.lean ====
/- What the merging call's precondition says: its rows within the sequence and its weights are reals; so are the norms. -/
module

public import proofs.«01_k».proof.Pre_finite_rows
public import proofs.«01_k».proof.Proof.Finite
public import proofs.«01_k».proof.Proof.MergeResult

@[expose] public section
noncomputable section
namespace Cert.Pre_finite_rows

open Idealize.ShloMosaic Idealize.ShloMosaic.Tactic
open Cert.MergeRow

instance facts : Facts where
  slices_S12x8448x1024_S12x8208x1024_0_0_0 := by decide
  bcast_S_S12x8208x1024 := by decide
  reducesTo_S12x8208x1024_S_d0_1_2 := by decide
  h_S_ := by decide
  bcast_S_S512x1024 := by decide
  reducesTo_S512x1024_S_d0_1 := by decide
  bcast_S_S1024x1024 := by decide
  reducesTo_S1024x1024_S_d0_1 := by decide
  bcast_S_S1024 := by decide
  reducesTo_S1024_S_d0 := by decide
  bcast_S_S1024x16 := by decide
  reducesTo_S1024x16_S_d0_1 := by decide

open Facts
open Cert.KernelIdeal.Attn (keyRow)
open Cert.Pre_finite_scores (all_real bits_inf)

variable (o : FVec Ideal S12x8448x1024 .f32) (g : FVec Ideal S12x8448x2048 .f32) (h : FVec Ideal S12x8448x1024 .f32) (a b : FVec Ideal S512x1024 .f32)
  (w : FVec Ideal S1024x1024 .f32) (n : FVec Ideal S1024 .f32) (v : FVec Ideal S1024x16 .f32)

theorem slice_rows (x : FVec Ideal S12x8448x1024 .f32) (i : Fin 12) (p : Fin 8208) (k : Fin 1024) :
    extractStridedSlice S12x8208x1024 ![0, 0, 0] x slices_S12x8448x1024_S12x8208x1024_0_0_0 (ix3 i p k) = x (ix3 i (keyRow p) k) := by
  unfold keyRow
  pointwise

/-- The precondition, read. -/
theorem reals (hpre : fn (F := Ideal) o g h a b w n v = fun _ => 1#1) :
    (∀ i p k, IsReal (o (ix3 i (keyRow p) k))) ∧ (∀ i p k, IsReal (h (ix3 i (keyRow p) k))) ∧ (∀ i, IsReal (a i)) ∧ (∀ i, IsReal (b i)) ∧ (∀ i, IsReal (w i))
      ∧ (∀ i, IsReal (n i)) ∧ ∀ i, IsReal (v i) := by
  have e := congrFun hpre (fun a => a.elim0)
  simp only [fn, fn_part1, fn_part2, andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  refine ⟨fun i p k => ?_, fun i p k => ?_, all_real a _ (fun _ => bits_inf) _ _ _ _ e3, all_real b _ (fun _ => bits_inf) _ _ _ _ e4,
    all_real w _ (fun _ => bits_inf) _ _ _ _ e5, all_real n _ (fun _ => bits_inf) _ _ _ _ e6, all_real v _ (fun _ => bits_inf) _ _ _ _ e7⟩
  · rw [← slice_rows o i p k]; exact all_real _ _ (fun _ => bits_inf) _ _ _ _ e0 _
  · rw [← slice_rows h i p k]; exact all_real _ _ (fun _ => bits_inf) _ _ _ _ e2 _

/-- Under the precondition the norms of the rows within the sequence are reals. -/
theorem norm_real (hpre : fn (F := Ideal) o g h a b w n v = fun _ => 1#1) (i : Fin 12) (p : Fin 8448) (hp : p.val < 8208) (k : Fin 1024) :
    IsReal (Cert.Kernel3Ideal.Merge.normRow o g h a b w n i p k) := by
  obtain ⟨h0, h2, h3, h4, h5, h6, -⟩ := reals o g h a b w n v hpre
  have hk : p = keyRow ⟨p.val, hp⟩ := rfl
  rw [hk]
  exact normed_real (fun k => residual_real (fun k => h0 i _ k) (fun k => logistic_real _) (fun k => h2 i _ k) (fun f k => h3 _) (fun f k => h4 _) (fun k d => h5 _) k) (fun k => h6 _) k

end Cert.Pre_finite_rows
end
-- ==== Proof.MergeEqual.lean ====
/- The merging call's three arrays are the reference's. -/
module

public import proofs.«01_k».proof.Proof.RefMerge
public import proofs.«01_k».proof.Proof.MergeFinite

@[expose] public section
set_option maxRecDepth 16384
noncomputable section
namespace Cert.Reference3Ideal.Merge

open Cert.Reference3Ideal Cert.Reference3Ideal.Gen
open Idealize.ShloMosaic Idealize.ShloMosaic.TcCoe Idealize.ShloMosaic.Tactic
open Idealize.SL
open Cert.MergeRow
open Cert.Kernel3Ideal.Merge (resRow normRow routeRow rowOf flatRow)

section
variable (o : FVec Ideal S12x8448x1024 .f32) (g : FVec Ideal S12x8448x2048 .f32) (h : FVec Ideal S12x8448x1024 .f32) (a b : FVec Ideal S512x1024 .f32)
  (w : FVec Ideal S1024x1024 .f32) (n : FVec Ideal S1024 .f32) (v : FVec Ideal S1024x16 .f32)

/-- The reference's three results, as functions of the arguments. -/
def first : FVec Ideal S12x8448x1024 .f32 := added h (addf (mulf (gate0 g) (half0 o a)) (mulf (gate1 g) (half1 o b))) w
def second : FVec Ideal S12x8448x1024 .bf16 := truncf .bf16 (norm (first o g h a b w) n) bitsLt_bf16_f32
def scores : FVec Ideal S12x8448x16 .f32 := logits (norm (first o g h a b w) n) v
def third : FVec Ideal S16x101376 .f32 :=
  columns (kept (weights (exps (scores o g h a b w n v) (maxima (scores o g h a b w n v)))))

theorem first_apply (i : Fin 12) (p : Fin 8448) (d : Fin 1024) : first o g h a b w (ix3 i p d) = resRow o g h a b w i p d := by
  unfold first
  rw [added_apply]
  refine congrArg (h (ix3 i p d) + ·) (Finset.sum_congr rfl fun k _ => congrArg (· * w (ix2 k d)) ?_)
  show gate0 g (ix3 i p k) * half0 o a (ix3 i p k) + gate1 g (ix3 i p k) * half1 o b (ix3 i p k) = _
  rw [gate0_apply, gate1_apply, half0_apply, half1_apply]

theorem norm_eq (i : Fin 12) (p : Fin 8448) (d : Fin 1024) : norm (first o g h a b w) n (ix3 i p d) = normRow o g h a b w n i p d := by
  rw [norm_apply]
  simp only [first_apply]
  rfl

theorem second_apply (i : Fin 12) (p : Fin 8448) (d : Fin 1024) : second o g h a b w n (ix3 i p d) = normRow o g h a b w n i p d :=
  norm_eq o g h a b w n i p d

theorem scores_apply (i : Fin 12) (p : Fin 8448) (e : Fin 16) : scores o g h a b w n v (ix3 i p e) = routeRow o g h a b w n v i p e := by
  unfold scores
  rw [logits_apply]
  simp only [norm_eq]
  rfl

theorem third_apply (i : Fin 12) (p : Fin 8448) (e : Fin 16) :
    third o g h a b w n v (ix2 e (flatRow i p)) = if p.val < 8208 then share (routeRow o g h a b w n v i p) e else Ideal.ofBits FTy.f32 0xBF800000#32 := by
  unfold third
  rw [columns_apply, kept_apply, weights_apply]
  simp only [exps_apply, maxima_apply, scores_apply]
  rfl
end

theorem results_eq (m : (ℓ : Loc nD τ sig) → Buf (Elt Ideal) ℓ) (c : Dev nD) :
    Value.res_out2 m c = third (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) := by
  unfold Value.res_out2 Value.res_main_v55
  rfl
theorem results_eq1 (m : (ℓ : Loc nD τ sig) → Buf (Elt Ideal) ℓ) (c : Dev nD) :
    Value.res_out1 m c = second (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_out1 Value.res_main_v53
  rfl

/-! ## The equations -/

variable {m : (ℓ : Loc Cert.Kernel3Ideal.nD Cert.Kernel3Ideal.τ Cert.Kernel3Ideal.sig) → Buf (Elt Ideal) ℓ} {c : Dev Cert.Kernel3Ideal.nD}
  {o : FVec Ideal S12x8448x1024 .f32} {g : FVec Ideal S12x8448x2048 .f32} {h : FVec Ideal S12x8448x1024 .f32} {a b : FVec Ideal S512x1024 .f32}
  {w : FVec Ideal S1024x1024 .f32} {n : FVec Ideal S1024 .f32} {v : FVec Ideal S1024x16 .f32}

theorem row_split (p : Fin 8448) : ∃ (j : Fin 11) (r : Fin 768), p = rowOf j r :=
  ⟨⟨p.val / 768, by omega⟩, ⟨p.val % 768, by omega⟩, Fin.ext (show p.val = 768 * (p.val / 768) + p.val % 768 by omega)⟩
theorem flat_split (p : Fin 101376) : ∃ (i : Fin 12) (q : Fin 8448), p = flatRow i q :=
  ⟨⟨p.val / 8448, by omega⟩, ⟨p.val % 8448, by omega⟩, Fin.ext (show p.val = 8448 * (p.val / 8448) + p.val % 8448 by omega)⟩

theorem first_eq (H : Cert.Kernel3Ideal.Merge.Args m c o g h a b w n v) :
    first o g h a b w = ((Cert.Kernel3Ideal.Gen.dats m 0 c).arrAt 9 Cert.Kernel3Ideal.cfg0.N : Vec Ideal S12x8448x1024 .f32) := by
  funext q
  obtain ⟨i, p, d, rfl⟩ : ∃ (i : Fin 12) (p : Fin 8448) (d : Fin 1024), q = ix3 i p d := ⟨q 0, q 1, q 2, (ix3_eta q).symm⟩
  obtain ⟨j, r, rfl⟩ := row_split p
  exact (first_apply o g h a b w i _ d).trans (H.result9 i j r d).symm

theorem second_eq (H : Cert.Kernel3Ideal.Merge.Args m c o g h a b w n v) :
    second o g h a b w n = ((Cert.Kernel3Ideal.Gen.dats m 0 c).arrAt 10 Cert.Kernel3Ideal.cfg0.N : Vec Ideal S12x8448x1024 .bf16) := by
  funext q
  obtain ⟨i, p, d, rfl⟩ : ∃ (i : Fin 12) (p : Fin 8448) (d : Fin 1024), q = ix3 i p d := ⟨q 0, q 1, q 2, (ix3_eta q).symm⟩
  obtain ⟨j, r, rfl⟩ := row_split p
  exact (second_apply o g h a b w n i _ d).trans (H.result10 i j r d).symm

theorem third_eq (H : Cert.Kernel3Ideal.Merge.Args m c o g h a b w n v) (hpre : Cert.Pre_finite_rows.fn (F := Ideal) o g h a b w n v = fun _ => 1#1) :
    third o g h a b w n v = ((Cert.Kernel3Ideal.Gen.dats m 0 c).arrAt 11 Cert.Kernel3Ideal.cfg0.N : Vec Ideal S16x101376 .f32) := by
  funext q
  obtain ⟨e, p, rfl⟩ : ∃ (e : Fin 16) (p : Fin 101376), q = ix2 e p := ⟨q 0, q 1, (ix2_eta q).symm⟩
  obtain ⟨i, p, rfl⟩ := flat_split p
  obtain ⟨j, r, rfl⟩ := row_split p
  obtain ⟨-, -, -, -, -, -, h7⟩ := Cert.Pre_finite_rows.reals o g h a b w n v hpre
  refine (third_apply o g h a b w n v i _ e).trans (H.result11 i j r e (fun hc k => ?_) (fun k e => h7 _)).symm
  exact Cert.Pre_finite_rows.norm_real o g h a b w n v hpre i _ hc k

end Cert.Reference3Ideal.Merge
end
-- ==== Proof.ProjectBlock.lean ====
/- The projection call's block at an index: the gates' rows, and the values' twelve slabs. -/
module

public import proofs.«01_k».proof.Proof.Gen.Kernel4Ideal.Skeleton
public import proofs.«01_k».proof.Proof.MergeRow
public import Idealize.ShloMosaic.Lib.Pointwise

@[expose] public section
set_option maxRecDepth 16384
noncomputable section
namespace Cert.Kernel4Ideal.Project

open Cert.Kernel4Ideal Cert.Kernel4Ideal.Gen
open Idealize.ShloMosaic Idealize.ShloMosaic.TcCoe Idealize.ShloMosaic.Tactic
open Idealize.SL
open Cert.MergeRow (normed)

/-- One entry of a latent row's norm: the entry over the root of the mean square, times the gain. -/
def latentNormed (x n : Fin 256 → EReal) (d : Fin 256) : EReal :=
  x d * Ideal.rsqrt (Ideal.div (∑ k : Fin 256, x k * x k) (Ideal.ofBits FTy.f32 0x43800000#32) + Ideal.ofBits FTy.f32 0x358637BD#32) * n d

/-- A head's values in the lanes below 64 and ones above, and the other way round. -/
def lowOf (f : Fin 64 → EReal) (l : Fin 128) : EReal := if hl : l.val < 64 then f ⟨l.val, hl⟩ else 1
def highOf (f : Fin 64 → EReal) (l : Fin 128) : EReal := if hl : l.val < 64 then 1 else f ⟨l.val - 64, by omega⟩

/-- Slab `s` of a row's values in lane `l`: the grouped heads' four, each group twice, and the latent heads' eight. -/
def slabOf (f : Fin 2 → Fin 64 → EReal) (g : Fin 8 → Fin 64 → EReal) (l : Fin 128) (s : Fin 12) : EReal :=
  if hs : s.val < 4 then if s.val % 2 = 0 then lowOf (f ⟨s.val / 2, by omega⟩) l else highOf (f ⟨s.val / 2, by omega⟩) l
  else if s.val % 2 = 0 then lowOf (g ⟨s.val - 4, by omega⟩) l else highOf (g ⟨s.val - 4, by omega⟩) l

/-- Whether a lane is below 64, as the word that the comparison gives. -/
theorem lane_word : ∀ l : Fin 128, IntOp.cmpi CmpIPredicate.slt (BitVec.ofNat 32 l.val) 64#32 = if l.val < 64 then 1#1 else 0#1 := by decide

theorem mask_apply (r : Fin 768) (l : Fin 128) : (k0_pay4 : IVec S768x128 1) (ix2 r l) = if l.val < 64 then 1#1 else 0#1 := by
  rw [← lane_word]
  unfold k0_pay4
  pointwise

theorem norm_apply (x : FVec Ideal S1x768x1024 .f32) (n : FVec Ideal S1x1024 .f32) (r : Fin 768) (d : Fin 1024) :
    (k0_pay1 (F := Ideal) x n) (ix2 r d) = normed (fun k => x (ix3 0 r k)) (fun k => n (ix2 0 k)) d := by
  unfold k0_pay1 normed
  pointwise

theorem proj_apply (x : FVec Ideal S1x768x1024 .f32) (n : FVec Ideal S1x1024 .f32) (w : FVec Ideal S1024x2048 .bf16) (r : Fin 768) (d : Fin 2048) :
    (k0_pay2 (F := Ideal) x n w) (ix2 r d) = ∑ k, normed (fun k => x (ix3 0 r k)) (fun k => n (ix2 0 k)) k * w (ix2 k d) := by
  simp only [← norm_apply]
  unfold k0_pay2
  generalize k0_pay1 (F := Ideal) x n = X
  pointwise

theorem gate_apply (x : FVec Ideal S1x768x1024 .f32) (n : FVec Ideal S1x1024 .f32) (w : FVec Ideal S1024x2048 .bf16) (r : Fin 768) (d : Fin 2048) :
    (k0_pay3 (F := Ideal) x n w) (ix3 0 r d) = Ideal.logistic (∑ k, normed (fun k => x (ix3 0 r k)) (fun k => n (ix2 0 k)) k * w (ix2 k d)) := by
  simp only [← norm_apply]
  unfold k0_pay3
  generalize k0_pay1 (F := Ideal) x n = X
  pointwise

theorem latent_apply (X : FVec Ideal S768x2048 .f32) (n : FVec Ideal S1x256 .f32) (r : Fin 768) (d : Fin 256) :
    k0_pay77 X n (ix2 r d) = latentNormed (fun k => X (ix2 r ⟨1792 + k.val, by omega⟩)) (fun k => n (ix2 0 k)) d := by
  unfold k0_pay77 latentNormed
  pointwise

theorem up_apply (Y : FVec Ideal S768x256 .bf16) (w : FVec Ideal S256x512 .bf16) (r : Fin 768) (d : Fin 512) :
    k0_pay114 Y w (ix2 r d) = ∑ k, Y (ix2 r k) * w (ix2 k d) := by
  unfold k0_pay114
  pointwise

section
variable (X : FVec Ideal S768x2048 .f32) (Y : FVec Ideal S768x256 .bf16) (w : FVec Ideal S256x512 .bf16) (r : Fin 768) (l : Fin 128)

/-- The grouped heads' values in the block, and the latent heads'. -/
def grouped (g : Fin 2) (d : Fin 64) : EReal := X (ix2 r ⟨1152 + 64 * g.val + d.val, by omega⟩)
def lifted (h : Fin 8) (d : Fin 64) : EReal := k0_pay114 Y w (ix2 r ⟨64 * h.val + d.val, by omega⟩)

theorem slab0 : (k0_pay68 (k0_pay65 X k0_pay4) : FVec Ideal S1x1x768x128 .bf16) (ix4 0 0 r l) = lowOf (grouped X r 0) l := by
  unfold k0_pay68 k0_pay65 k0_pay63 lowOf grouped
  have hm := mask_apply r l
  generalize (k0_pay4 : IVec S768x128 1) = M at *
  pointwise
  rw [hm]
  by_cases hl : l.val < 64
  · rw [if_pos hl, dif_pos hl]
    exact congrArg (fun k : Fin 2048 => X (ix2 r k)) (Fin.ext (show 1152 + l.val = 1152 + 64 * 0 + l.val by omega))
  · rw [if_neg hl, dif_neg hl]; rfl
theorem slab1 : (k0_pay69 (k0_pay67 X k0_pay4) : FVec Ideal S1x1x768x128 .bf16) (ix4 0 0 r l) = highOf (grouped X r 0) l := by
  unfold k0_pay69 k0_pay67 k0_pay64 k0_pay63 highOf grouped
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 2048 => X (ix2 r k)) (Fin.ext (show 1152 + (l.val + 128 - 64) % 128 = 1152 + 64 * 0 + (l.val - 64) by omega))
theorem slab2 : (k0_pay70 k0_pay4 (k0_pay64 X) : FVec Ideal S1x1x768x128 .bf16) (ix4 0 0 r l) = lowOf (grouped X r 1) l := by
  unfold k0_pay70 k0_pay64 k0_pay63 lowOf grouped
  have hm := mask_apply r l
  generalize (k0_pay4 : IVec S768x128 1) = M at *
  pointwise
  rw [hm]
  by_cases hl : l.val < 64
  · rw [if_pos hl, dif_pos hl]
    exact congrArg (fun k : Fin 2048 => X (ix2 r k)) (Fin.ext (show 1152 + (l.val + 128 - 64) % 128 = 1152 + 64 * 1 + l.val by omega))
  · rw [if_neg hl, dif_neg hl]; rfl
theorem slab3 : (k0_pay71 (k0_pay66 X k0_pay4) : FVec Ideal S1x1x768x128 .bf16) (ix4 0 0 r l) = highOf (grouped X r 1) l := by
  unfold k0_pay71 k0_pay66 k0_pay63 highOf grouped
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 2048 => X (ix2 r k)) (Fin.ext (show 1152 + l.val = 1152 + 64 * 1 + (l.val - 64) by omega))
theorem slab4 : (k0_pay116 k0_pay4 Y w : FVec Ideal S1x1x768x128 .bf16) (ix4 0 0 r l) = lowOf (lifted Y w r 0) l := by
  unfold lifted
  unfold k0_pay116 k0_pay115 lowOf
  generalize k0_pay114 Y w = Z
  have hm := mask_apply r l
  generalize (k0_pay4 : IVec S768x128 1) = M at *
  pointwise
  rw [hm]
  by_cases hl : l.val < 64
  · rw [if_pos hl, dif_pos hl]
    exact congrArg (fun k : Fin 512 => Z (ix2 r k)) (Fin.ext (by simp))
  · rw [if_neg hl, dif_neg hl]; rfl
theorem slab5 : (k0_pay117 k0_pay4 Y w : FVec Ideal S1x1x768x128 .bf16) (ix4 0 0 r l) = highOf (lifted Y w r 1) l := by
  unfold lifted
  unfold k0_pay117 k0_pay115 highOf
  generalize k0_pay114 Y w = Z
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 512 => Z (ix2 r k)) (Fin.ext (show l.val = 64 * 1 + (l.val - 64) by omega))
theorem slab6 : (k0_pay120 k0_pay4 Y w : FVec Ideal S1x1x768x128 .bf16) (ix4 0 0 r l) = lowOf (lifted Y w r 2) l := by
  unfold lifted
  unfold k0_pay120 k0_pay118 lowOf
  generalize k0_pay114 Y w = Z
  have hm := mask_apply r l
  generalize (k0_pay4 : IVec S768x128 1) = M at *
  pointwise
  rw [hm]
  by_cases hl : l.val < 64
  · rw [if_pos hl, dif_pos hl]
    exact congrArg (fun k : Fin 512 => Z (ix2 r k)) (Fin.ext (show 128 + l.val = 64 * 2 + l.val by omega))
  · rw [if_neg hl, dif_neg hl]; rfl
theorem slab7 : (k0_pay121 (k0_pay119 k0_pay4 Y w) : FVec Ideal S1x1x768x128 .bf16) (ix4 0 0 r l) = highOf (lifted Y w r 3) l := by
  unfold lifted
  unfold k0_pay121 k0_pay119 k0_pay118 highOf
  generalize k0_pay114 Y w = Z
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 512 => Z (ix2 r k)) (Fin.ext (show 128 + l.val = 64 * 3 + (l.val - 64) by omega))
theorem slab8 : (k0_pay123 k0_pay4 (k0_pay114 Y w) : FVec Ideal S1x1x768x128 .bf16) (ix4 0 0 r l) = lowOf (lifted Y w r 4) l := by
  unfold lifted
  unfold k0_pay123 k0_pay122 lowOf
  generalize k0_pay114 Y w = Z
  have hm := mask_apply r l
  generalize (k0_pay4 : IVec S768x128 1) = M at *
  pointwise
  rw [hm]
  by_cases hl : l.val < 64
  · rw [if_pos hl, dif_pos hl]
    exact congrArg (fun k : Fin 512 => Z (ix2 r k)) (Fin.ext (show 256 + l.val = 64 * 4 + l.val by omega))
  · rw [if_neg hl, dif_neg hl]; rfl
theorem slab9 : (k0_pay124 k0_pay4 (k0_pay114 Y w) : FVec Ideal S1x1x768x128 .bf16) (ix4 0 0 r l) = highOf (lifted Y w r 5) l := by
  unfold lifted
  unfold k0_pay124 k0_pay122 highOf
  generalize k0_pay114 Y w = Z
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 512 => Z (ix2 r k)) (Fin.ext (show 256 + l.val = 64 * 5 + (l.val - 64) by omega))
theorem slab10 : (k0_pay126 k0_pay4 (k0_pay114 Y w) : FVec Ideal S1x1x768x128 .bf16) (ix4 0 0 r l) = lowOf (lifted Y w r 6) l := by
  unfold lifted
  unfold k0_pay126 k0_pay125 lowOf
  generalize k0_pay114 Y w = Z
  have hm := mask_apply r l
  generalize (k0_pay4 : IVec S768x128 1) = M at *
  pointwise
  rw [hm]
  by_cases hl : l.val < 64
  · rw [if_pos hl, dif_pos hl]
    exact congrArg (fun k : Fin 512 => Z (ix2 r k)) (Fin.ext (show 384 + l.val = 64 * 6 + l.val by omega))
  · rw [if_neg hl, dif_neg hl]; rfl
theorem slab11 : (k0_pay127 k0_pay4 (k0_pay114 Y w) : FVec Ideal S1x1x768x128 .bf16) (ix4 0 0 r l) = highOf (lifted Y w r 7) l := by
  unfold lifted
  unfold k0_pay127 k0_pay125 highOf
  generalize k0_pay114 Y w = Z
  have hm := mask_apply r l
  generalize (k0_pay4 : IVec S768x128 1) = M at *
  pointwise
  rw [hm]
  by_cases hl : l.val < 64
  · rw [if_pos hl, dif_pos hl]; rfl
  · rw [if_neg hl, dif_neg hl]
    exact congrArg (fun k : Fin 512 => Z (ix2 r k)) (Fin.ext (show 384 + l.val = 64 * 7 + (l.val - 64) by omega))
end

end Cert.Kernel4Ideal.Project
end
-- ==== Proof.ProjectOut.lean ====
/- What the projection call's block leaves of the values and of the gates, entry by entry. -/
module

public import proofs.«01_k».proof.Proof.Gen.Kernel4Ideal.Value
public import proofs.«01_k».proof.Proof.ProjectBlock
public import Idealize.ShloMosaic.Lib.Pipeline.ValueKit

@[expose] public section
set_option maxRecDepth 16384
noncomputable section
namespace Cert.Kernel4Ideal.Project

open Cert.Kernel4Ideal Cert.Kernel4Ideal.Gen
open Idealize.ShloMosaic Idealize.ShloMosaic.TcCoe Idealize.ShloMosaic.Tactic
open Idealize.SL
open Cert.MergeRow (normed)

/-- One slab's store, at an index of the block: its slab is the index's, so its value there is `f`'s. -/
theorem slab_store (k s : Fin 12) (r : Fin 768) (l : Fin 128) (w : Shape.Idx S1x1x768x128 → EReal) (f : Fin 12 → EReal)
    (hw : w (ix4 0 0 r l) = f k) : View.TileAt (Val := Elt Ideal) (S := S1x12x768x128) (e := .bf16) (ix4 0 s r l) ![0, k.val, 0, 0] S1x1x768x128.size w (f s) := by
  intro x hx
  obtain ⟨a, b, r', l', rfl⟩ : ∃ (a : Fin 1) (b : Fin 1) (r' : Fin 768) (l' : Fin 128), x = ix4 a b r' l' := ⟨x 0, x 1, x 2, x 3, (ix4_eta x).symm⟩
  have h1 : s.val = k.val + b.val := hx 1
  have h2 : r.val = 0 + r'.val := hx 2
  have h3 : l.val = 0 + l'.val := hx 3
  have ea : a = 0 := Subsingleton.elim _ _
  have eb : b = 0 := Subsingleton.elim _ _
  have er : r' = r := Fin.ext (by omega)
  have el : l' = l := Fin.ext (by omega)
  have es : s = k := Fin.ext (by rw [h1, eb]; rfl)
  rw [ea, eb, er, el, es]
  exact hw

section
variable (x0 : Vec Ideal S1x768x1024 .f32) (x1 : Vec Ideal S1x1024 .f32) (x2 : Vec Ideal S1024x2048 .bf16) (x3 : Vec Ideal S1024x2048 .bf16) (x4 : Vec Ideal S384x1024 .bf16)
  (x5 : Vec Ideal S256x1024 .bf16) (x6 : Vec Ideal S256x512 .bf16) (x7 : Vec Ideal S1x128 .f32) (x8 : Vec Ideal S1x128 .f32) (x9 : Vec Ideal S1x384 .f32) (x10 : Vec Ideal S1x256 .f32)
  (x11 : Vec Ideal S768x128 .f32) (x12 : Vec Ideal S768x128 .f32) (x13 : Vec Ideal S768x128 .f32) (x14 : Vec Ideal S768x128 .f32)

theorem out18_apply (r : Fin 768) (d : Fin 2048) : out0_18 x0 x1 x2 x3 x4 x5 x6 x7 x8 x9 x10 x11 x12 x13 x14 (ix3 0 r d)
    = Ideal.logistic (∑ k, normed (fun k => x0 (ix3 0 r k)) (fun k => x1 (ix2 0 k)) k * x3 (ix2 k d)) := by
  rw [← gate_apply]
  unfold out0_18
  rw [View.canon_unit_zero (by decide)]
  iterate 3 rw [View.ld_unit_zero (by decide)]

theorem out17_apply (s : Fin 12) (r : Fin 768) (l : Fin 128) : out0_17 x0 x1 x2 x3 x4 x5 x6 x7 x8 x9 x10 x11 x12 x13 x14 (ix4 0 s r l)
    = slabOf (grouped (k0_pay2 x0 x1 x2) r) (lifted (k0_pay77 (k0_pay2 x0 x1 x2) x10) x6 r) l s := by
  unfold out0_17
  refine View.canon_eq_of_allAt _ _ _ (cover0_17 _ _ _ _ _ _ _ _ _ _ _ _ _) ?_
  unfold k0_pay130 k0_pay157 k0_pay154 k0_pay128
  rw [View.ld_unit_zero (by decide), View.ld_unit_zero (by decide), View.ld_unit_zero (by decide), View.ld_unit_zero (by decide), View.ld_unit_zero (by decide)]
  refine View.allAt_cons_unit _ _ _ _ _ (slab_store 11 s r l _ _ (slab11 _ x6 r l)) ?_
  refine View.allAt_cons_unit _ _ _ _ _ (slab_store 10 s r l _ _ (slab10 _ x6 r l)) ?_
  refine View.allAt_cons_unit _ _ _ _ _ (slab_store 9 s r l _ _ (slab9 _ x6 r l)) ?_
  refine View.allAt_cons_unit _ _ _ _ _ (slab_store 8 s r l _ _ (slab8 _ x6 r l)) ?_
  refine View.allAt_cons_unit _ _ _ _ _ (slab_store 7 s r l _ _ (slab7 _ x6 r l)) ?_
  refine View.allAt_cons_unit _ _ _ _ _ (slab_store 6 s r l _ _ (slab6 _ x6 r l)) ?_
  refine View.allAt_cons_unit _ _ _ _ _ (slab_store 5 s r l _ _ (slab5 _ x6 r l)) ?_
  refine View.allAt_cons_unit _ _ _ _ _ (slab_store 4 s r l _ _ (slab4 _ x6 r l)) ?_
  refine View.allAt_cons_unit _ _ _ _ _ (slab_store 3 s r l _ _ (slab3 _ r l)) ?_
  refine View.allAt_cons_unit _ _ _ _ _ (slab_store 2 s r l _ _ (slab2 _ r l)) ?_
  refine View.allAt_cons_unit _ _ _ _ _ (slab_store 1 s r l _ _ (slab1 _ r l)) ?_
  refine View.allAt_cons_unit _ _ _ _ _ (slab_store 0 s r l _ _ (slab0 _ r l)) ?_
  exact View.allAt_nil _ _
end

end Cert.Kernel4Ideal.Project
end
-- ==== Proof.ProjectHost.lean ====
/- The projection call's region: its arrays, from the arguments. -/
module

public import proofs.«01_k».proof.Proof.ProjectOut
public import Idealize.ShloMosaic.Lib.StableHlo.RunRead

@[expose] public section
set_option maxRecDepth 16384
noncomputable section
namespace Cert.Kernel4Ideal.Project

open Cert.Kernel4Ideal Cert.Kernel4Ideal.Gen
open Idealize.ShloMosaic Idealize.ShloMosaic.TcCoe Idealize.ShloMosaic.Tactic
open Idealize.SL

/-- The narrow weights side by side: the queries' `a` and the rotary key's `b`, and slices of the layer's weights. -/
def wide (a : FVec Ideal S1024x1024 .f32) (b : FVec Ideal S1024x128 .f32) (w : FVec Ideal S1024x3488 .f32) : FVec Ideal S1024x2048 .bf16 :=
  truncf .bf16 (concatenate S1024x2048 1 [⟨S1024x1024, a⟩, ⟨S1024x128, extractStridedSlice S1024x128 ![0, 512] w slices_S1024x3488_S1024x128_0_512⟩,
    ⟨S1024x128, extractStridedSlice S1024x128 ![0, 640] w slices_S1024x3488_S1024x128_0_640⟩, ⟨S1024x128, b⟩,
    ⟨S1024x384, extractStridedSlice S1024x384 ![0, 768] w slices_S1024x3488_S1024x384_0_768⟩,
    ⟨S1024x256, extractStridedSlice S1024x256 ![0, 1152] w slices_S1024x3488_S1024x256_0_1152⟩]
    concatenates_S1024x1024_S1024x128_S1024x128_S1024x128_S1024x384_S1024x256_S1024x2048_d1) bitsLt_bf16_f32

theorem wide_grouped (a : FVec Ideal S1024x1024 .f32) (b : FVec Ideal S1024x128 .f32) (w : FVec Ideal S1024x3488 .f32) (k : Fin 1024) (g : Fin 2) (d : Fin 64) :
    wide a b w (ix2 k ⟨1152 + 64 * g.val + d.val, by omega⟩) = w (ix2 k ⟨640 + 64 * g.val + d.val, by omega⟩) := by
  unfold wide
  pointwise
  rw [dif_neg (by omega), dif_neg (by omega), dif_pos (by omega)]
  exact congrArg (fun q : Fin 3488 => w (ix2 k q)) (Fin.ext (show 640 + (1152 + 64 * g.val + d.val - 1024 - 128) = 640 + 64 * g.val + d.val by omega))

theorem wide_latent (a : FVec Ideal S1024x1024 .f32) (b : FVec Ideal S1024x128 .f32) (w : FVec Ideal S1024x3488 .f32) (k : Fin 1024) (d : Fin 256) :
    wide a b w (ix2 k ⟨1792 + d.val, by omega⟩) = w (ix2 k ⟨1152 + d.val, by omega⟩) := by
  unfold wide
  pointwise
  rw [dif_neg (by omega), dif_neg (by omega), dif_neg (by omega), dif_neg (by omega), dif_neg (by omega)]
  exact congrArg (fun q : Fin 3488 => w (ix2 k q)) (Fin.ext (show 1152 + (1792 + d.val - 1024 - 128 - 128 - 128 - 384) = 1152 + d.val by omega))

/-- The gates' weights, and the latent values'. -/
def gateW (w : FVec Ideal S1024x3488 .f32) : FVec Ideal S1024x2048 .bf16 :=
  truncf .bf16 (extractStridedSlice S1024x2048 ![0, 1440] w slices_S1024x3488_S1024x2048_0_1440) bitsLt_bf16_f32
theorem gateW_apply (w : FVec Ideal S1024x3488 .f32) (k : Fin 1024) (d : Fin 2048) : gateW w (ix2 k d) = w (ix2 k ⟨1440 + d.val, by omega⟩) := by
  unfold gateW
  pointwise
def valueW (u : FVec Ideal S256x1024 .f32) : FVec Ideal S256x512 .bf16 :=
  truncf .bf16 (shapeCast S256x512 (extractStridedSlice S256x8x64 ![0, 0, 64] (shapeCast S256x8x128 u shapeCasts_S256x1024_S256x8x128) slices_S256x8x128_S256x8x64_0_0_64)
    shapeCasts_S256x8x64_S256x512) bitsLt_bf16_f32
theorem valueW_apply (u : FVec Ideal S256x1024 .f32) (k : Fin 256) (h : Fin 8) (d : Fin 64) :
    valueW u (ix2 k ⟨64 * h.val + d.val, by omega⟩) = u (ix2 k ⟨128 * h.val + 64 + d.val, by omega⟩) := by
  unfold valueW
  pointwise
  exact congrArg (fun q : Fin 1024 => u (ix2 k q)) (Fin.ext (show h.val * 128 + (64 + d.val) = 128 * h.val + 64 + d.val by omega))

/-- The gains, as one row each. -/
def gain (n : FVec Ideal S1024 .f32) : FVec Ideal S1x1024 .f32 := broadcastInDim S1x1024 ![1] bcast_S1024_S1x1024_1 n
theorem gain_apply (n : FVec Ideal S1024 .f32) (d : Fin 1024) : gain n (ix2 0 d) = n (ix1 d) := by
  unfold gain
  pointwise
def latentGain (n : FVec Ideal S256 .f32) : FVec Ideal S1x256 .f32 := broadcastInDim S1x256 ![1] bcast_S256_S1x256_1 n
theorem latentGain_apply (n : FVec Ideal S256 .f32) (d : Fin 256) : latentGain n (ix2 0 d) = n (ix1 d) := by
  unfold latentGain
  pointwise

variable (m : (ℓ : Loc nD τ sig) → Buf (Elt Ideal) ℓ)

theorem region1 (c : Dev nD) : V m c main_v33 = gain (m ((c : Thread nD τ).loc main_arg1)) := by
  simp only [V, List.flatten_cons, List.flatten_nil, List.append_nil]
  after_reads_simp
  rfl
theorem region3 (c : Dev nD) : V m c main_v32 = gateW (m ((c : Thread nD τ).loc main_arg2)) := by
  simp only [V, List.flatten_cons, List.flatten_nil, List.append_nil]
  after_reads_simp
  rfl
theorem region6 (c : Dev nD) : V m c main_v31 = valueW (m ((c : Thread nD τ).loc main_arg8)) := by
  simp only [V, List.flatten_cons, List.flatten_nil, List.append_nil]
  after_reads_simp
  rfl
theorem region10 (c : Dev nD) : V m c main_v43 = latentGain (m ((c : Thread nD τ).loc main_arg6)) := by
  simp only [V, List.flatten_cons, List.flatten_nil, List.append_nil]
  after_reads_simp
  rfl
/-- A concatenation of six, its parts replaced by equal ones. -/
theorem six_congr {α : Type} {S S1 S2 S3 S4 S5 S6 : Shape} {d : Fin S.rank} {a1 b1 : S1.Idx → α} {a2 b2 : S2.Idx → α} {a3 b3 : S3.Idx → α}
    {a4 b4 : S4.Idx → α} {a5 b5 : S5.Idx → α} {a6 b6 : S6.Idx → α} (h : Shape.Concatenates [S1, S2, S3, S4, S5, S6] S d)
    (h1 : a1 = b1) (h2 : a2 = b2) (h3 : a3 = b3) (h4 : a4 = b4) (h5 : a5 = b5) (h6 : a6 = b6) :
    concatenate S d [⟨S1, a1⟩, ⟨S2, a2⟩, ⟨S3, a3⟩, ⟨S4, a4⟩, ⟨S5, a5⟩, ⟨S6, a6⟩] h
      = concatenate S d [⟨S1, b1⟩, ⟨S2, b2⟩, ⟨S3, b3⟩, ⟨S4, b4⟩, ⟨S5, b5⟩, ⟨S6, b6⟩] h := by
  subst h1 h2 h3 h4 h5 h6; rfl

theorem region2 (c : Dev nD) : ∃ a b, V m c main_v19 = wide a b (m ((c : Thread nD τ).loc main_arg2)) := by
  refine ⟨V m c main_v16, V m c main_v17, ?_⟩
  simp only [V, List.flatten_cons, List.flatten_nil, List.append_nil]
  after_reads_simp
  unfold wide
  refine congrArg (fun z : FVec Ideal S1024x2048 .f32 => truncf .bf16 z bitsLt_bf16_f32) (six_congr _ ?_ ?_ ?_ ?_ ?_ ?_)
  · show StableHlo.upto _ _ _ (Proc.tc.devRef main_v16) = _
    after_reads_simp
  · show StableHlo.upto _ _ _ (Proc.tc.devRef main_v1) = _
    after_reads_simp
  · show StableHlo.upto _ _ _ (Proc.tc.devRef main_v2) = _
    after_reads_simp
  · show StableHlo.upto _ _ _ (Proc.tc.devRef main_v17) = _
    after_reads_simp
  · show StableHlo.upto _ _ _ (Proc.tc.devRef main_v3) = _
    after_reads_simp
  · show StableHlo.upto _ _ _ (Proc.tc.devRef main_v4) = _
    after_reads_simp

end Cert.Kernel4Ideal.Project
end
-- ==== Proof.ProjectResult.lean ====
/- The projection call's results at an index, from the arguments. -/
module

public import proofs.«01_k».proof.Proof.ProjectHost

@[expose] public section
set_option maxRecDepth 16384
noncomputable section
namespace Cert.Kernel4Ideal.Project

open Cert.Kernel4Ideal Cert.Kernel4Ideal.Gen
open Idealize.ShloMosaic Idealize.ShloMosaic.TcCoe Idealize.ShloMosaic.Tactic
open Idealize.SL
open Cert.MergeRow (normed)

/-! ## The windows -/

theorem block0 : ∀ t : Fin cfg0.N, win0_0.index t = ![t.val / 11, t.val % 11, 0] :=
  (by decide +kernel : ∀ t : Fin grid0.N, win0_0.index t = ![t.val / 11, t.val % 11, 0])
theorem block1 : ∀ t : Fin cfg0.N, win0_1.index t = ![0, 0] :=
  (by decide +kernel : ∀ t : Fin grid0.N, win0_1.index t = ![0, 0])
theorem block2 : ∀ t : Fin cfg0.N, win0_2.index t = ![0, 0] :=
  (by decide +kernel : ∀ t : Fin grid0.N, win0_2.index t = ![0, 0])
theorem block3 : ∀ t : Fin cfg0.N, win0_3.index t = ![0, 0] :=
  (by decide +kernel : ∀ t : Fin grid0.N, win0_3.index t = ![0, 0])
theorem block6 : ∀ t : Fin cfg0.N, win0_6.index t = ![0, 0] :=
  (by decide +kernel : ∀ t : Fin grid0.N, win0_6.index t = ![0, 0])
theorem block10 : ∀ t : Fin cfg0.N, win0_10.index t = ![0, 0] :=
  (by decide +kernel : ∀ t : Fin grid0.N, win0_10.index t = ![0, 0])
theorem block17 : ∀ t : Fin cfg0.N, win0_17.index t = ![t.val / 11, 0, t.val % 11, 0] :=
  (by decide +kernel : ∀ t : Fin grid0.N, win0_17.index t = ![t.val / 11, 0, t.val % 11, 0])
theorem block18 : ∀ t : Fin cfg0.N, win0_18.index t = ![t.val / 11, t.val % 11, 0] :=
  (by decide +kernel : ∀ t : Fin grid0.N, win0_18.index t = ![t.val / 11, t.val % 11, 0])
theorem flush17 : ∀ t : Fin cfg0.N, (cfg0.win 17).flush t = true :=
  (by decide +kernel : ∀ t : Fin grid0.N, win0_17.flush t = true)
theorem flush18 : ∀ t : Fin cfg0.N, (cfg0.win 18).flush t = true :=
  (by decide +kernel : ∀ t : Fin grid0.N, win0_18.flush t = true)

/-- The grid point of a batch element and a tile of its rows. -/
def pointOf (b : Fin 12) (j : Fin 11) : Fin cfg0.N :=
  ⟨11 * b.val + j.val, by show _ < grid0.N; have := b.isLt; have := j.isLt; have : grid0.N = 132 := by decide
                          omega⟩
theorem pointOf_div (b : Fin 12) (j : Fin 11) : (pointOf b j).val / 11 = b.val := by show (11 * b.val + j.val) / 11 = _; omega
theorem pointOf_mod (b : Fin 12) (j : Fin 11) : (pointOf b j).val % 11 = j.val := by show (11 * b.val + j.val) % 11 = _; omega

/-- Row `r` of tile `j` among a batch element's rows. -/
def rowOf (j : Fin 11) (r : Fin 768) : Fin 8448 := ⟨768 * j.val + r.val, by omega⟩
theorem row_split (p : Fin 8448) : ∃ (j : Fin 11) (r : Fin 768), p = rowOf j r :=
  ⟨⟨p.val / 768, by omega⟩, ⟨p.val % 768, by omega⟩, Fin.ext (show p.val = 768 * (p.val / 768) + p.val % 768 by omega)⟩

theorem read0 (A : Vec Ideal S12x8448x1024 .f32) (b : Fin 12) (j : Fin 11) (r : Fin 768) (k : Fin 1024) :
    (((cfg0.win 0).blk (pointOf b j)).view.read (Elt Ideal) A : Vec Ideal S1x768x1024 .f32) (ix3 0 r k) = A (ix3 b (rowOf j r) k) := by
  have e1 := pointOf_div b j
  have e2 := pointOf_mod b j
  blk_simp []
  refine congrArg A ?_
  blk_ext [block0, e1, e2, rowOf]
theorem read1 (A : Vec Ideal S1x1024 .f32) (t : Fin cfg0.N) (k : Fin 1) (d : Fin 1024) :
    (((cfg0.win 1).blk t).view.read (Elt Ideal) A : Vec Ideal S1x1024 .f32) (ix2 k d) = A (ix2 k d) := by
  blk_simp []
  refine congrArg A ?_
  blk_ext [block1]
theorem read2 (A : Vec Ideal S1024x2048 .bf16) (t : Fin cfg0.N) (k : Fin 1024) (d : Fin 2048) :
    (((cfg0.win 2).blk t).view.read (Elt Ideal) A : Vec Ideal S1024x2048 .bf16) (ix2 k d) = A (ix2 k d) := by
  blk_simp []
  refine congrArg A ?_
  blk_ext [block2]
theorem read3 (A : Vec Ideal S1024x2048 .bf16) (t : Fin cfg0.N) (k : Fin 1024) (d : Fin 2048) :
    (((cfg0.win 3).blk t).view.read (Elt Ideal) A : Vec Ideal S1024x2048 .bf16) (ix2 k d) = A (ix2 k d) := by
  blk_simp []
  refine congrArg A ?_
  blk_ext [block3]
theorem read6 (A : Vec Ideal S256x512 .bf16) (t : Fin cfg0.N) (k : Fin 256) (d : Fin 512) :
    (((cfg0.win 6).blk t).view.read (Elt Ideal) A : Vec Ideal S256x512 .bf16) (ix2 k d) = A (ix2 k d) := by
  blk_simp []
  refine congrArg A ?_
  blk_ext [block6]
theorem read10 (A : Vec Ideal S1x256 .f32) (t : Fin cfg0.N) (k : Fin 1) (d : Fin 256) :
    (((cfg0.win 10).blk t).view.read (Elt Ideal) A : Vec Ideal S1x256 .f32) (ix2 k d) = A (ix2 k d) := by
  blk_simp []
  refine congrArg A ?_
  blk_ext [block10]
theorem read17 (A : Vec Ideal S12x12x8448x128 .bf16) (b : Fin 12) (j : Fin 11) (s : Fin 12) (r : Fin 768) (l : Fin 128) :
    (((cfg0.win 17).blk (pointOf b j)).view.read (Elt Ideal) A : Vec Ideal S1x12x768x128 .bf16) (ix4 0 s r l) = A (ix4 b s (rowOf j r) l) := by
  have e1 := pointOf_div b j
  have e2 := pointOf_mod b j
  blk_simp []
  refine congrArg A ?_
  blk_ext [block17, e1, e2, rowOf]
theorem read18 (A : Vec Ideal S12x8448x2048 .bf16) (b : Fin 12) (j : Fin 11) (r : Fin 768) (k : Fin 2048) :
    (((cfg0.win 18).blk (pointOf b j)).view.read (Elt Ideal) A : Vec Ideal S1x768x2048 .bf16) (ix3 0 r k) = A (ix3 b (rowOf j r) k) := by
  have e1 := pointOf_div b j
  have e2 := pointOf_mod b j
  blk_simp []
  refine congrArg A ?_
  blk_ext [block18, e1, e2, rowOf]

/-! ## The rows, from the arguments -/

section
variable (h : FVec Ideal S12x8448x1024 .f32) (n : FVec Ideal S1024 .f32) (w : FVec Ideal S1024x3488 .f32) (q : FVec Ideal S256 .f32) (u : FVec Ideal S256x1024 .f32)

/-- A row's projection to one column of the layer's weights. -/
def projRow (i : Fin 12) (p : Fin 8448) (j : Fin 3488) : EReal :=
  ∑ k : Fin 1024, normed (fun k => h (ix3 i p k)) (fun k => n (ix1 k)) k * w (ix2 k j)
/-- A row's grouped values. -/
def groupedRow (i : Fin 12) (p : Fin 8448) (g : Fin 2) (d : Fin 64) : EReal := projRow h n w i p ⟨640 + 64 * g.val + d.val, by omega⟩
/-- A row's latent, normed, and lifted to one head's values. -/
def latentRow (i : Fin 12) (p : Fin 8448) : Fin 256 → EReal :=
  latentNormed (fun k => projRow h n w i p ⟨1152 + k.val, by omega⟩) (fun k => q (ix1 k))
def liftedRow (i : Fin 12) (p : Fin 8448) (e : Fin 8) (d : Fin 64) : EReal :=
  ∑ k : Fin 256, latentRow h n w q i p k * u (ix2 k ⟨128 * e.val + 64 + d.val, by omega⟩)
end

/-! ## The results -/

variable (m : (ℓ : Loc nD τ sig) → Buf (Elt Ideal) ℓ) (c : Dev nD)
  (h : FVec Ideal S12x8448x1024 .f32) (n : FVec Ideal S1024 .f32) (w : FVec Ideal S1024x3488 .f32) (q : FVec Ideal S256 .f32) (u : FVec Ideal S256x1024 .f32)

/-- The arguments that the two results need are these arrays. -/
structure Args : Prop where
  h0 : m ((c : Thread nD τ).loc main_arg0) = h
  h1 : m ((c : Thread nD τ).loc main_arg1) = n
  h2 : m ((c : Thread nD τ).loc main_arg2) = w
  h6 : m ((c : Thread nD τ).loc main_arg6) = q
  h8 : m ((c : Thread nD τ).loc main_arg8) = u

variable {m c h n w q u}

theorem Args.row (H : Args m c h n w q u) (i : Fin 12) (j : Fin 11) (r : Fin 768) :
    normed (fun k => (iblk m c 0 (pointOf i j) : Vec Ideal S1x768x1024 .f32) (ix3 0 r k)) (fun k => (iblk m c 1 (pointOf i j) : Vec Ideal S1x1024 .f32) (ix2 0 k))
      = normed (fun k => h (ix3 i (rowOf j r) k)) (fun k => n (ix1 k)) := by
  have h0 : ∀ k, (iblk m c 0 (pointOf i j) : Vec Ideal S1x768x1024 .f32) (ix3 0 r k) = h (ix3 i (rowOf j r) k) := fun k =>
    (read0 (V m c main_arg0) i j r k).trans (congrFun ((V_main_arg0 m c).trans H.h0) _)
  have h1 : ∀ d, (iblk m c 1 (pointOf i j) : Vec Ideal S1x1024 .f32) (ix2 0 d) = n (ix1 d) := fun d =>
    (read1 (V m c main_v33) _ 0 d).trans ((congrFun ((region1 m c).trans (congrArg gain H.h1)) _).trans (gain_apply n d))
  simp only [h0, h1]

/-- The gates' entry. -/
theorem Args.result18 (H : Args m c h n w q u) (i : Fin 12) (j : Fin 11) (r : Fin 768) (d : Fin 2048) :
    ((dats m 0 c).arrAt 18 cfg0.N : Vec Ideal S12x8448x2048 .bf16) (ix3 i (rowOf j r) d)
      = Ideal.logistic (projRow h n w i (rowOf j r) ⟨1440 + d.val, by omega⟩) := by
  have e := congrFun ((Value.blocks18 m c (pointOf i j) (flush18 _)).trans (Value.flushed18 m c (pointOf i j))) (ix3 0 r d)
  refine (read18 _ i j r d).symm.trans (e.trans ?_)
  refine (out18_apply _ _ _ _ _ _ _ _ _ _ _ _ _ _ _ r d).trans ?_
  have h3 : ∀ k, (iblk m c 3 (pointOf i j) : Vec Ideal S1024x2048 .bf16) (ix2 k d) = w (ix2 k ⟨1440 + d.val, by omega⟩) := fun k =>
    (read3 (V m c main_v32) _ k d).trans ((congrFun ((region3 m c).trans (congrArg gateW H.h2)) _).trans (gateW_apply w k d))
  rw [H.row i j r]
  simp only [h3]
  rfl

/-- The values' entry. -/
theorem Args.result17 (H : Args m c h n w q u) (i : Fin 12) (j : Fin 11) (s : Fin 12) (r : Fin 768) (l : Fin 128) :
    ((dats m 0 c).arrAt 17 cfg0.N : Vec Ideal S12x12x8448x128 .bf16) (ix4 i s (rowOf j r) l)
      = slabOf (groupedRow h n w i (rowOf j r)) (liftedRow h n w q u i (rowOf j r)) l s := by
  have e := congrFun ((Value.blocks17 m c (pointOf i j) (flush17 _)).trans (Value.flushed17 m c (pointOf i j))) (ix4 0 s r l)
  refine (read17 _ i j s r l).symm.trans (e.trans ?_)
  refine (out17_apply _ _ _ _ _ _ _ _ _ _ _ _ _ _ _ s r l).trans ?_
  obtain ⟨a, b, hw⟩ := region2 m c
  have h2 : ∀ k d, (iblk m c 2 (pointOf i j) : Vec Ideal S1024x2048 .bf16) (ix2 k d) = wide a b w (ix2 k d) := fun k d =>
    (read2 (V m c main_v19) _ k d).trans (congrFun (hw.trans (congrArg (wide a b) H.h2)) _)
  have h6 : ∀ k d, (iblk m c 6 (pointOf i j) : Vec Ideal S256x512 .bf16) (ix2 k d) = valueW u (ix2 k d) := fun k d =>
    (read6 (V m c main_v31) _ k d).trans (congrFun ((region6 m c).trans (congrArg valueW H.h8)) _)
  have h10 : ∀ d, (iblk m c 10 (pointOf i j) : Vec Ideal S1x256 .f32) (ix2 0 d) = q (ix1 d) := fun d =>
    (read10 (V m c main_v43) _ 0 d).trans ((congrFun ((region10 m c).trans (congrArg latentGain H.h6)) _).trans (latentGain_apply q d))
  have hp : ∀ d, k0_pay2 (F := Ideal) (iblk m c 0 (pointOf i j)) (iblk m c 1 (pointOf i j)) (iblk m c 2 (pointOf i j)) (ix2 r d)
      = ∑ k : Fin 1024, normed (fun k => h (ix3 i (rowOf j r) k)) (fun k => n (ix1 k)) k * wide a b w (ix2 k d) := fun d => by
    refine (proj_apply _ _ _ r d).trans ?_
    rw [H.row i j r]
    simp only [h2]
  have hg : grouped (k0_pay2 (F := Ideal) (iblk m c 0 (pointOf i j)) (iblk m c 1 (pointOf i j)) (iblk m c 2 (pointOf i j))) r = groupedRow h n w i (rowOf j r) := by
    funext g d
    refine (hp _).trans ?_
    unfold groupedRow projRow
    refine Finset.sum_congr rfl fun k _ => ?_
    rw [wide_grouped]
  have hl : ∀ k, k0_pay77 (F := Ideal) (k0_pay2 (F := Ideal) (iblk m c 0 (pointOf i j)) (iblk m c 1 (pointOf i j)) (iblk m c 2 (pointOf i j))) (iblk m c 10 (pointOf i j)) (ix2 r k)
      = latentRow h n w q i (rowOf j r) k := fun k => by
    refine (latent_apply _ _ r k).trans ?_
    unfold latentRow projRow
    simp only [hp, h10, wide_latent]
  rw [hg]
  refine congrArg (fun z => slabOf (groupedRow h n w i (rowOf j r)) z l s) ?_
  funext f d
  refine (up_apply _ _ r _).trans ?_
  unfold liftedRow
  refine Finset.sum_congr rfl fun k _ => ?_
  rw [hl, h6, valueW_apply]

end Cert.Kernel4Ideal.Project
end
-- ==== Proof.ProjectEqual.lean ====
/- The projection reference's values and gates, and their equality with the call's. -/
module

public import proofs.«01_k».proof.Proof.Gen.Reference4Ideal.Run
public import proofs.«01_k».proof.Proof.HostReads
public import proofs.«01_k».proof.Proof.ProjectResult

@[expose] public section
set_option maxRecDepth 16384
noncomputable section
namespace Cert.Reference4Ideal.Project

open Cert.Reference4Ideal Cert.Reference4Ideal.Gen
open Idealize.ShloMosaic Idealize.ShloMosaic.TcCoe Idealize.ShloMosaic.Tactic
open Idealize.SL
open Cert.MergeRow (normed)
open Cert.Kernel4Ideal.Project (latentNormed slabOf lowOf highOf projRow groupedRow latentRow liftedRow rowOf row_split)
open Cert.KernelIdeal.Attn (valueSlabs valueSlabs_grouped valueSlabs_latent valuesG_apply valuesM_apply)

/-- A row's norm. -/
def norm (x : FVec Ideal S12x8448x1024 .f32) (n : FVec Ideal S1024 .f32) : FVec Ideal S12x8448x1024 .f32 :=
  mulf (mulf x (broadcastInDim S12x8448x1024 ![0, 1, 2] bcast_S12x8448x1_S12x8448x1024_0_1_2 (Host.rsqrt (addf (Host.divf (broadcastInDim S12x8448x1 ![0, 1] bcast_S12x8448_S12x8448x1_0_1
      (Host.reduceAdd (mulf x x) (constant S_ .f32 0x00000000#32) reducesTo_S12x8448x1024_S12x8448_d2 h_S_)) (broadcastInDim S12x8448x1 ![] bcast_S_S12x8448x1 (constant S_ .f32 0x44800000#32)))
      (broadcastInDim S12x8448x1 ![] bcast_S_S12x8448x1 (constant S_ .f32 0x358637BD#32))))))
    (broadcastInDim S12x8448x1024 ![0, 1, 2] bcast_S1x1x1024_S12x8448x1024_0_1_2 (broadcastInDim S1x1x1024 ![2] bcast_S1024_S1x1x1024_2 n))
/-- All the projections of the rows. -/
def proj (x : FVec Ideal S12x8448x1024 .f32) (n : FVec Ideal S1024 .f32) (w : FVec Ideal S1024x3488 .f32) : FVec Ideal S12x8448x3488 .f32 :=
  Host.dotGeneral dot_S12x8448x1024_S1024x3488_S12x8448x3488_2_0_01_1_n_n none (norm x n) w
/-- The gates. -/
def gates (x : FVec Ideal S12x8448x3488 .f32) : FVec Ideal S12x8448x2048 .bf16 :=
  truncf .bf16 (Host.divf (broadcastInDim S12x8448x2048 ![] bcast_S_S12x8448x2048 (constant S_ .f32 0x3F800000#32)) (addf (broadcastInDim S12x8448x2048 ![] bcast_S_S12x8448x2048 (constant S_ .f32 0x3F800000#32))
    (Host.exp (Host.negf (extractStridedSlice S12x8448x2048 ![0, 0, 1440] x slices_S12x8448x3488_S12x8448x2048_0_0_1440))))) bitsLt_bf16_f32
/-- The grouped heads' values. -/
def valuesG (x : FVec Ideal S12x8448x3488 .f32) : FVec Ideal S12x8448x2x64 .f32 :=
  shapeCast S12x8448x2x64 (extractStridedSlice S12x8448x128 ![0, 0, 640] x slices_S12x8448x3488_S12x8448x128_0_0_640) shapeCasts_S12x8448x128_S12x8448x2x64
/-- The latent, and its norm. -/
def latent (x : FVec Ideal S12x8448x3488 .f32) : FVec Ideal S12x8448x256 .f32 :=
  extractStridedSlice S12x8448x256 ![0, 0, 1152] x slices_S12x8448x3488_S12x8448x256_0_0_1152
def latentNorm (x : FVec Ideal S12x8448x256 .f32) (n : FVec Ideal S256 .f32) : FVec Ideal S12x8448x256 .f32 :=
  mulf (mulf x (broadcastInDim S12x8448x256 ![0, 1, 2] bcast_S12x8448x1_S12x8448x256_0_1_2 (Host.rsqrt (addf (Host.divf (broadcastInDim S12x8448x1 ![0, 1] bcast_S12x8448_S12x8448x1_0_1
      (Host.reduceAdd (mulf x x) (constant S_ .f32 0x00000000#32) reducesTo_S12x8448x256_S12x8448_d2 h_S_)) (broadcastInDim S12x8448x1 ![] bcast_S_S12x8448x1 (constant S_ .f32 0x43800000#32)))
      (broadcastInDim S12x8448x1 ![] bcast_S_S12x8448x1 (constant S_ .f32 0x358637BD#32))))))
    (broadcastInDim S12x8448x256 ![0, 1, 2] bcast_S1x1x256_S12x8448x256_0_1_2 (broadcastInDim S1x1x256 ![2] bcast_S256_S1x1x256_2 n))
/-- The latent heads' values. -/
def valuesM (y : FVec Ideal S12x8448x256 .f32) (u : FVec Ideal S256x1024 .f32) : FVec Ideal S12x8448x8x64 .f32 :=
  extractStridedSlice S12x8448x8x64 ![0, 0, 0, 64] (shapeCast S12x8448x8x128 (Host.dotGeneral dot_S12x8448x256_S256x1024_S12x8448x1024_2_0_01_1_n_n none y u)
    shapeCasts_S12x8448x1024_S12x8448x8x128) slices_S12x8448x8x128_S12x8448x8x64_0_0_0_64

theorem norm_apply (x : FVec Ideal S12x8448x1024 .f32) (n : FVec Ideal S1024 .f32) (i : Fin 12) (p : Fin 8448) (d : Fin 1024) :
    norm x n (ix3 i p d) = normed (fun k => x (ix3 i p k)) (fun k => n (ix1 k)) d := by
  unfold norm normed
  pointwise
theorem proj_apply (x : FVec Ideal S12x8448x1024 .f32) (n : FVec Ideal S1024 .f32) (w : FVec Ideal S1024x3488 .f32) (i : Fin 12) (p : Fin 8448) (d : Fin 3488) :
    proj x n w (ix3 i p d) = projRow x n w i p d := by
  unfold projRow
  simp only [← norm_apply]
  unfold proj
  generalize norm x n = X
  pointwise
theorem gates_apply (x : FVec Ideal S12x8448x3488 .f32) (i : Fin 12) (p : Fin 8448) (d : Fin 2048) :
    gates x (ix3 i p d) = Ideal.logistic (x (ix3 i p ⟨1440 + d.val, by omega⟩)) := by
  unfold gates Ideal.logistic
  pointwise
theorem valuesG_at (x : FVec Ideal S12x8448x3488 .f32) (i : Fin 12) (p : Fin 8448) (g : Fin 2) (d : Fin 64) :
    valuesG x (ix4 i p g d) = x (ix3 i p ⟨640 + 64 * g.val + d.val, by omega⟩) := by
  unfold valuesG
  pointwise
  exact congrArg (fun q : Fin 3488 => x (ix3 i p q)) (Fin.ext (show 640 + (g.val * 64 + d.val) = 640 + 64 * g.val + d.val by omega))
theorem latent_apply (x : FVec Ideal S12x8448x3488 .f32) (i : Fin 12) (p : Fin 8448) (d : Fin 256) :
    latent x (ix3 i p d) = x (ix3 i p ⟨1152 + d.val, by omega⟩) := by
  unfold latent
  pointwise
theorem latentNorm_apply (x : FVec Ideal S12x8448x256 .f32) (n : FVec Ideal S256 .f32) (i : Fin 12) (p : Fin 8448) (d : Fin 256) :
    latentNorm x n (ix3 i p d) = latentNormed (fun k => x (ix3 i p k)) (fun k => n (ix1 k)) d := by
  unfold latentNorm latentNormed
  pointwise
theorem valuesM_at (y : FVec Ideal S12x8448x256 .f32) (u : FVec Ideal S256x1024 .f32) (i : Fin 12) (p : Fin 8448) (e : Fin 8) (d : Fin 64) :
    valuesM y u (ix4 i p e d) = ∑ k : Fin 256, y (ix3 i p k) * u (ix2 k ⟨128 * e.val + 64 + d.val, by omega⟩) := by
  unfold valuesM
  pointwise
  refine Finset.sum_congr rfl fun k _ => congrArg (fun q : Fin 1024 => y (ix3 i p k) * u (ix2 k q)) (Fin.ext (show e.val * 128 + (64 + d.val) = 128 * e.val + 64 + d.val by omega))

section
variable (h : FVec Ideal S12x8448x1024 .f32) (n : FVec Ideal S1024 .f32) (w : FVec Ideal S1024x3488 .f32) (q : FVec Ideal S256 .f32) (u : FVec Ideal S256x1024 .f32)

/-- The reference's two results, as functions of the arguments. -/
def first : FVec Ideal S12x12x8448x128 .bf16 := valueSlabs (valuesG (proj h n w)) (valuesM (latentNorm (latent (proj h n w)) q) u)
def second : FVec Ideal S12x8448x2048 .bf16 := gates (proj h n w)

theorem second_apply (i : Fin 12) (p : Fin 8448) (d : Fin 2048) :
    second h n w (ix3 i p d) = Ideal.logistic (projRow h n w i p ⟨1440 + d.val, by omega⟩) := by
  unfold second
  rw [gates_apply, proj_apply]

theorem grouped_eq (i : Fin 12) (p : Fin 8448) (g : Fin 2) (d : Fin 64) : valuesG (proj h n w) (ix4 i p g d) = groupedRow h n w i p g d := by
  rw [valuesG_at, proj_apply]
  rfl
theorem lifted_eq (i : Fin 12) (p : Fin 8448) (e : Fin 8) (d : Fin 64) :
    valuesM (latentNorm (latent (proj h n w)) q) u (ix4 i p e d) = liftedRow h n w q u i p e d := by
  rw [valuesM_at]
  simp only [latentNorm_apply, latent_apply, proj_apply]
  rfl

theorem first_apply (i : Fin 12) (s : Fin 12) (p : Fin 8448) (l : Fin 128) :
    first h n w q u (ix4 i s p l) = slabOf (groupedRow h n w i p) (liftedRow h n w q u i p) l s := by
  unfold first slabOf lowOf highOf
  by_cases hs : s.val < 4
  · rw [dif_pos hs]
    refine (valueSlabs_grouped _ _ i ⟨s.val, hs⟩ p l).trans ((valuesG_apply _ i ⟨s.val, hs⟩ p l).trans ?_)
    simp only [← grouped_eq]
  · rw [dif_neg hs]
    have e : s = ⟨4 + (s.val - 4), by omega⟩ := Fin.ext (by simp only; omega)
    have em : (s.val - 4) % 2 = s.val % 2 := by omega
    refine (congrArg (fun z => valueSlabs _ _ (ix4 i z p l)) e).trans ((valueSlabs_latent _ _ i ⟨s.val - 4, by omega⟩ p l).trans ((valuesM_apply _ i ⟨s.val - 4, by omega⟩ p l).trans ?_))
    simp only [← lifted_eq, em]
end

theorem results_eq (m : (ℓ : Loc nD τ sig) → Buf (Elt Ideal) ℓ) (c : Dev nD) :
    Value.res_out0 m c = first (m ((c.tc : Thread nD τ).loc main_arg0)) (m ((c.tc : Thread nD τ).loc main_arg1)) (m ((c.tc : Thread nD τ).loc main_arg2))
      (m ((c.tc : Thread nD τ).loc main_arg6)) (m ((c.tc : Thread nD τ).loc main_arg8)) := by
  unfold Value.res_out0 Value.res_main_v61
  rfl

/-! ## The equations -/

variable {m : (ℓ : Loc Cert.Kernel4Ideal.nD Cert.Kernel4Ideal.τ Cert.Kernel4Ideal.sig) → Buf (Elt Ideal) ℓ} {c : Dev Cert.Kernel4Ideal.nD}
  {h : FVec Ideal S12x8448x1024 .f32} {n : FVec Ideal S1024 .f32} {w : FVec Ideal S1024x3488 .f32} {q : FVec Ideal S256 .f32} {u : FVec Ideal S256x1024 .f32}

theorem first_eq (H : Cert.Kernel4Ideal.Project.Args m c h n w q u) :
    first h n w q u = ((Cert.Kernel4Ideal.Gen.dats m 0 c).arrAt 17 Cert.Kernel4Ideal.cfg0.N : Vec Ideal S12x12x8448x128 .bf16) := by
  funext z
  obtain ⟨i, s, p, l, rfl⟩ : ∃ (i : Fin 12) (s : Fin 12) (p : Fin 8448) (l : Fin 128), z = ix4 i s p l := ⟨z 0, z 1, z 2, z 3, (ix4_eta z).symm⟩
  obtain ⟨j, r, rfl⟩ := row_split p
  exact (first_apply h n w q u i s _ l).trans (H.result17 i j s r l).symm

theorem second_eq (H : Cert.Kernel4Ideal.Project.Args m c h n w q u) :
    second h n w = ((Cert.Kernel4Ideal.Gen.dats m 0 c).arrAt 18 Cert.Kernel4Ideal.cfg0.N : Vec Ideal S12x8448x2048 .bf16) := by
  funext z
  obtain ⟨i, p, d, rfl⟩ : ∃ (i : Fin 12) (p : Fin 8448) (d : Fin 2048), z = ix3 i p d := ⟨z 0, z 1, z 2, (ix3_eta z).symm⟩
  obtain ⟨j, r, rfl⟩ := row_split p
  exact (second_apply h n w i _ d).trans (H.result18 i j r d).symm

end Cert.Reference4Ideal.Project
end
-- ==== Proof.lean ====
/- The certificate: the frames of the attention call and of its ideal reading come from the hand-written runs
   (`Proof/KernelFrame.lean`, `Proof/IdealFrame.lean`), the reference's from its generated run; the value is `Proof/Value.lean`'s.
   The frames of the experts' call, of the merging call and of the projection call are generated, and `Proof/RefExperts.lean`,
   `Proof/MergeEqual.lean` and `Proof/ProjectEqual.lean` give their values. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.IdealFrame
public import proofs.«01_k».proof.Proof.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.RefExperts
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MergeEqual
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.ProjectEqual
public import Idealize.ShloMosaic.Adequacy
public import Idealize.ShloMosaic.Init

@[expose] public section

noncomputable section

namespace Cert.Proof

open Idealize.ShloMosaic Idealize.SL.Sem Cert.Kernel

/-- The kernel terminates, keeps its arguments, and leaves every counter at zero. -/
theorem frame_kernel : Cert.quiescent_Kernel := fun m ρ _ => Cert.Kernel.Attn.frame m ρ

/-- The same of its ideal reading. -/
theorem frame_ideal : Cert.quiescent_KernelIdeal := fun m ρ _ => Cert.KernelIdeal.Attn.frame m ρ

/-- The reference terminates and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask `-1e30` of the kernel is named minus infinity, and nothing else is changed. -/
theorem preserves : Cert.preserves_Kernel_KernelIdeal :=
  IdealRules.named_const.statement Cert.KernelIdeal.κ "mask" .f32 0xF149F2CA#32 ⊥ rfl

set_option maxRecDepth 16384 in
/-- The attention's result is the reference's, where the queries and the keys attended to are reals. -/
theorem algebraic : Cert.algebraic_KernelIdeal_ReferenceIdeal_pre_finite_scores := by
  intro m g m' g' hpre hargs
  refine ⟨fun c => (Cert.KernelIdeal.Attn.dats m 0 c).arrAt 5 Cert.KernelIdeal.cfg0.N, Cert.KernelIdeal.Attn.run_blocks m g, ?_⟩
  refine (θ_run Cert.ReferenceIdeal.defs _ _).mono (fun r h c => ?_) (Cert.ReferenceIdeal.Value.run (F := Ideal) m' g')
  obtain ⟨hv, hrest⟩ := h c
  refine ⟨hv.trans ?_, hrest⟩
  obtain ⟨a0, a1, a2, a3, a4, a5, a6⟩ := hargs c
  refine (Cert.ReferenceIdeal.Attn.result_eq m' c).trans ?_
  rw [a0, a1, a2, a3, a4, a5, a6]
  exact (Cert.KernelIdeal.Attn.result_joined m _ _ _ _ _ _ _ c (Cert.KernelIdeal.Attn.region_queries m c) (Cert.KernelIdeal.Attn.region_keys m c)
    (Cert.KernelIdeal.Attn.region_values m c) (hpre c)).symm

/-- The experts' call terminates, keeps its arguments, and leaves every counter at zero. -/
theorem frame_experts : Cert.quiescent_Kernel2 := fun m ρ _ => Cert.Kernel2.Gen.frame m ρ

/-- The same of its ideal reading. -/
theorem frame_experts_ideal : Cert.quiescent_Kernel2Ideal := fun m ρ _ => Cert.Kernel2Ideal.Gen.frame m ρ

/-- The experts' reference terminates and keeps its arguments; it has no counters. -/
theorem frame_experts_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The experts' result is the reference's, for all arguments. -/
theorem algebraic_experts : Cert.algebraic_Kernel2Ideal_Reference2Ideal := by
  intro m g m' g' _ hargs
  refine ⟨fun c => (Cert.Kernel2Ideal.Gen.dats m 0 c).arrAt 4 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨hv, hrest⟩ := h c
  obtain ⟨a0, a1, a2, a3⟩ := hargs c
  exact ⟨hv.trans (Cert.Reference2Ideal.Experts.result_eq m c _ _ _ _ a0.symm a1.symm a2.symm a3.symm), hrest⟩

/-- The merging call terminates, keeps its arguments, and leaves every counter at zero. -/
theorem frame_merge : Cert.quiescent_Kernel3 := fun m ρ _ => Cert.Kernel3.Gen.frame m ρ

/-- The same of its ideal reading. -/
theorem frame_merge_ideal : Cert.quiescent_Kernel3Ideal := fun m ρ _ => Cert.Kernel3Ideal.Gen.frame m ρ

/-- The merging reference terminates and keeps its arguments; it has no counters. -/
theorem frame_merge_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The same mask, of the merging call. -/
theorem preserves_merge : Cert.preserves_Kernel3_Kernel3Ideal :=
  IdealRules.named_const.statement Cert.Kernel3Ideal.κ "mask" .f32 0xF149F2CA#32 ⊥ rfl

set_option maxRecDepth 16384 in
/-- The merging call's three results are the reference's, where the rows within the sequence and the weights are reals. -/
theorem algebraic_merge : Cert.algebraic_Kernel3Ideal_Reference3Ideal_pre_finite_rows := by
  intro m g m' g' hpre hargs
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨hv, hw, hx, hrest⟩ := h c
  obtain ⟨a0, a1, a2, a3, a4, a5, a6, a7⟩ := hargs c
  have H : Cert.Kernel3Ideal.Merge.Args m c _ _ _ _ _ _ _ _ := ⟨a0.symm, a1.symm, a2.symm, a3.symm, a4.symm, a5.symm, a6.symm, a7.symm⟩
  refine ⟨hv.trans (Cert.Reference3Ideal.Merge.first_eq H), (hw.trans (Cert.Reference3Ideal.Merge.results_eq1 m' c)).trans (Cert.Reference3Ideal.Merge.second_eq H),
    (hx.trans (Cert.Reference3Ideal.Merge.results_eq m' c)).trans (Cert.Reference3Ideal.Merge.third_eq H ?_), hrest⟩
  rw [a0, a1, a2, a3, a4, a5, a6, a7]
  exact hpre c

/-- The projection call terminates, keeps its arguments, and leaves every counter at zero. -/
theorem frame_projection : Cert.quiescent_Kernel4 := fun m ρ _ => Cert.Kernel4.Gen.frame m ρ

/-- The same of its ideal reading. -/
theorem frame_projection_ideal : Cert.quiescent_Kernel4Ideal := fun m ρ _ => Cert.Kernel4Ideal.Gen.frame m ρ

/-- The projection reference terminates and keeps its arguments; it has no counters. -/
theorem frame_projection_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

set_option maxRecDepth 16384 in
/-- The projection call's values and gates are the reference's, for all arguments. -/
theorem algebraic_projection : Cert.algebraic_Kernel4Ideal_Reference4Ideal := by
  intro m g m' g' _ hargs
  refine ⟨fun c => (Cert.Kernel4Ideal.Gen.dats m 0 c).arrAt 17 Cert.Kernel4Ideal.cfg0.N, fun c => (Cert.Kernel4Ideal.Gen.dats m 0 c).arrAt 18 Cert.Kernel4Ideal.cfg0.N,
    ?_, ?_⟩
  · exact (θ_run Cert.Kernel4Ideal.defs _ _).mono (fun r h c => (h c).2.2) (Cert.Kernel4Ideal.Value.run_blocks m g)
  refine (θ_run Cert.Reference4Ideal.defs _ _).mono (fun r h c => ?_) (Cert.Reference4Ideal.Value.run (F := Ideal) m' g')
  obtain ⟨hv, hw, hrest⟩ := h c
  obtain ⟨a0, a1, a2, _, _, _, a6, _, a8, _⟩ := hargs c
  have H : Cert.Kernel4Ideal.Project.Args m c _ _ _ _ _ := ⟨a0.symm, a1.symm, a2.symm, a6.symm, a8.symm⟩
  exact ⟨(hv.trans (Cert.Reference4Ideal.Project.results_eq m' c)).trans (Cert.Reference4Ideal.Project.first_eq H),
    hw.trans (Cert.Reference4Ideal.Project.second_eq H), hrest⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_scores.facts, Cert.Pre_finite_rows.facts,
    frame_kernel, frame_ideal, fun m ρ _ => frame_ideal m ρ trivial, frame_reference, fun m ρ _ => frame_reference m ρ trivial,
    frame_experts, frame_experts_ideal, frame_experts_reference,
    frame_merge, frame_merge_ideal, fun m ρ _ => frame_merge_ideal m ρ trivial, frame_merge_reference, fun m ρ _ => frame_merge_reference m ρ trivial,
    frame_projection, frame_projection_ideal, frame_projection_reference,
    preserves, algebraic, trivial, algebraic_experts, preserves_merge, algebraic_merge, trivial, algebraic_projection⟩

end Cert.Proof

end
